-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_router_inputs_finite [hPre_router_inputs_finite : Cert.Pre_router_inputs_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_router_inputs_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_router_inputs_finite [hPre_router_inputs_finite : Cert.Pre_router_inputs_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_router_inputs_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_router_inputs_finite [hKernel6Ideal : Cert.Kernel6Ideal.Facts] [hPre_router_inputs_finite : Cert.Pre_router_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_router_inputs_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_router_inputs_finite [hReference6Ideal : Cert.Reference6Ideal.Facts] [hPre_router_inputs_finite : Cert.Pre_router_inputs_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_router_inputs_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_router_inputs_finite [hKernel6Ideal : Cert.Kernel6Ideal.Facts] [hReference6Ideal : Cert.Reference6Ideal.Facts] [hPre_router_inputs_finite : Cert.Pre_router_inputs_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_router_inputs_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v102) = v0 c
          ∧ r.2.mem ((c.tc : Thread Cert.Reference6Ideal.nD Cert.Reference6Ideal.τ).loc Cert.Reference6Ideal.main_v103) = v1 c
          ∧ r.2.mem ((c.tc : Thread Cert.Reference6Ideal.nD Cert.Reference6Ideal.τ).loc Cert.Reference6Ideal.main_v104) = v2 c
          ∧ r.2.mem ((c.tc : Thread Cert.Reference6Ideal.nD Cert.Reference6Ideal.τ).loc Cert.Reference6Ideal.main_v105) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v47)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v47) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v162) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_queries_and_keys_finite : Cert.Pre_queries_and_keys_finite.Facts) (hPre_router_inputs_finite : Cert.Pre_router_inputs_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_router_inputs_finite (hKernel6Ideal := hKernel6Ideal) (hPre_router_inputs_finite := hPre_router_inputs_finite)
    ∧ quiescent_Reference6Ideal (hReference6Ideal := hReference6Ideal)
    ∧ quiescent_Reference6Ideal_pre_router_inputs_finite (hReference6Ideal := hReference6Ideal) (hPre_router_inputs_finite := hPre_router_inputs_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_router_inputs_finite (hKernel6Ideal := hKernel6Ideal) (hReference6Ideal := hReference6Ideal) (hPre_router_inputs_finite := hPre_router_inputs_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_queries_and_keys_finite.lean ====
abbrev S8x4352x1280 : Shape := ⟨3, ![8, 4352, 1280]⟩
abbrev S8x4352x13824 : Shape := ⟨3, ![8, 4352, 13824]⟩
abbrev S_ : Shape := ⟨0, ![]⟩

class Facts : Prop where
  bitsLt_bf16_f32 : FTy.bits .bf16 < FTy.bits .f32
  bcast_S_S8x4352x1280 : S_.BroadcastsInDim S8x4352x1280 (![] : Fin 0 → Fin S8x4352x1280.rank)

variable [Facts]

def fn {F : FTy → Type} [FloatOps F] (main_arg0 : FVec F S8x4352x1280 .bf16) (main_arg1 : FVec F S8x4352x13824 .bf16) : IVec S8x4352x1280 1 :=
  let main_v0 : FVec F S8x4352x1280 .f32 := (extf .f32 · bitsLt_bf16_f32) main_arg0
  let main_v1 : FVec F S8x4352x1280 .f32 := Host.absf main_v0
  let main_cst : FVec F S_ .f32 := constant S_ .f32 0x7F800000#32
  let main_v2 : FVec F S8x4352x1280 .f32 := broadcastInDim S8x4352x1280 ![] bcast_S_S8x4352x1280 main_cst
  let main_v3 : IVec S8x4352x1280 1 := cmpf .olt main_v1 main_v2
  main_v3
-- ==== Pre_router_inputs_finite.lean ====
abbrev S8x4352x2048 : Shape := ⟨3, ![8, 4352, 2048]⟩
abbrev S2048x2048 : Shape := ⟨2, ![2048, 2048]⟩
abbrev S8x4096x2048 : Shape := ⟨3, ![8, 4096, 2048]⟩
abbrev S8x256x2048 : Shape := ⟨3, ![8, 256, 2048]⟩
abbrev S16x12288 : Shape := ⟨2, ![16, 12288]⟩
abbrev S2048 : Shape := ⟨1, ![2048]⟩
abbrev S2048x16 : Shape := ⟨2, ![2048, 16]⟩
abbrev S9x2048 : Shape := ⟨2, ![9, 2048]⟩
abbrev S_ : Shape := ⟨0, ![]⟩
abbrev S1x2048 : Shape := ⟨2, ![1, 2048]⟩
abbrev S16x2048 : Shape := ⟨2, ![16, 2048]⟩
abbrev S25x2048 : Shape := ⟨2, ![25, 2048]⟩

class Facts : Prop where
  slices_S16x12288_S9x2048_0_6144 : S16x12288.Slices ![0, 6144] S9x2048
  bcast_S_S9x2048 : S_.BroadcastsInDim S9x2048 (![] : Fin 0 → Fin S9x2048.rank)
  slices_S16x12288_S9x2048_0_8192 : S16x12288.Slices ![0, 8192] S9x2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S9x2048_0_1 : S1x2048.BroadcastsInDim S9x2048 (![0, 1] : Fin 2 → Fin S9x2048.rank)
  transposes_S2048x16_S16x2048_1_0 : S2048x16.Transposes [1, 0] S16x2048
  bcast_S_S16x2048 : S_.BroadcastsInDim S16x2048 (![] : Fin 0 → Fin S16x2048.rank)
  concatenates_S9x2048_S16x2048_S25x2048_d0 : Shape.Concatenates [S9x2048, S16x2048] S25x2048 0

variable [Facts]

def fn {F : FTy → Type} [FloatOps F] (main_arg0 : FVec F S8x4352x2048 .bf16) (main_arg1 : FVec F S2048x2048 .f32) (main_arg2 : FVec F S8x4096x2048 .f32) (main_arg3 : FVec F S8x256x2048 .f32) (main_arg4 : FVec F S16x12288 .f32) (main_arg5 : FVec F S2048 .f32) (main_arg6 : FVec F S2048 .f32) (main_arg7 : FVec F S2048x16 .f32) : IVec S25x2048 1 :=
  let main_v0 : FVec F S9x2048 .f32 := (extractStridedSlice S9x2048 ![0, 6144] · slices_S16x12288_S9x2048_0_6144) main_arg4
  let main_v1 : FVec F S9x2048 .f32 := Host.absf main_v0
  let main_cst : FVec F S_ .f32 := constant S_ .f32 0x7F800000#32
  let main_v2 : FVec F S9x2048 .f32 := broadcastInDim S9x2048 ![] bcast_S_S9x2048 main_cst
  let main_v3 : IVec S9x2048 1 := cmpf .olt main_v1 main_v2
  let main_v4 : FVec F S9x2048 .f32 := (extractStridedSlice S9x2048 ![0, 8192] · slices_S16x12288_S9x2048_0_8192) main_arg4
  let main_v5 : FVec F S9x2048 .f32 := Host.absf main_v4
  let main_cst_0 : FVec F S_ .f32 := constant S_ .f32 0x7F800000#32
  let main_v6 : FVec F S9x2048 .f32 := broadcastInDim S9x2048 ![] bcast_S_S9x2048 main_cst_0
  let main_v7 : IVec S9x2048 1 := cmpf .olt main_v5 main_v6
  let main_v8 : IVec S9x2048 1 := andi main_v3 main_v7
  let main_v9 : FVec F S2048 .f32 := Host.absf main_arg6
  let main_cst_1 : FVec F S_ .f32 := constant S_ .f32 0x7F800000#32
  let main_v10 : FVec F S2048 .f32 := broadcastInDim S2048 ![] bcast_S_S2048 main_cst_1
  let main_v11 : IVec S2048 1 := cmpf .olt main_v9 main_v10
  let main_v12 : IVec S1x2048 1 := broadcastInDim S1x2048 ![1] bcast_S2048_S1x2048_1 main_v11
  let main_v13 : IVec S9x2048 1 := broadcastInDim S9x2048 ![0, 1] bcast_S1x2048_S9x2048_0_1 main_v12
  let main_v14 : IVec S9x2048 1 := andi main_v8 main_v13
  let main_v15 : FVec F S16x2048 .f32 := (transpose S16x2048 [1, 0] · transposes_S2048x16_S16x2048_1_0) main_arg7
  let main_v16 : FVec F S16x2048 .f32 := Host.absf main_v15
  let main_cst_2 : FVec F S_ .f32 := constant S_ .f32 0x7F800000#32
  let main_v17 : FVec F S16x2048 .f32 := broadcastInDim S16x2048 ![] bcast_S_S16x2048 main_cst_2
  let main_v18 : IVec S16x2048 1 := cmpf .olt main_v16 main_v17
  let main_v19 : IVec S25x2048 1 := (fun a b => concatenate S25x2048 0 [⟨S9x2048, a⟩, ⟨S16x2048, b⟩] concatenates_S9x2048_S16x2048_S25x2048_d0) main_v14 main_v18
  main_v19
-- ==== Kernel.lean ====
abbrev S8x4352x1280 : Shape := ⟨3, ![8, 4352, 1280]⟩
abbrev S8x4352x13824 : Shape := ⟨3, ![8, 4352, 13824]⟩
abbrev S8x4352x1024 : Shape := ⟨3, ![8, 4352, 1024]⟩
abbrev S1x256x512 : Shape := ⟨3, ![1, 256, 512]⟩
abbrev S1x4352x128 : Shape := ⟨3, ![1, 4352, 128]⟩
abbrev S1024x128 : Shape := ⟨2, ![1024, 128]⟩
abbrev S1024x256 : Shape := ⟨2, ![1024, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x2176x128 : Shape := ⟨3, ![1, 2176, 128]⟩
abbrev S2176x128 : Shape := ⟨2, ![2176, 128]⟩
abbrev S2176x256 : Shape := ⟨2, ![2176, 256]⟩
abbrev S256x2176 : Shape := ⟨2, ![256, 2176]⟩

abbrev nBuf : Space → Nat
  | .hbm => 3
  | .vmem => 10
  | .smem => 0
  | _ => 0

abbrev bufTy : (tb : Table) → Fin (tcTables nBuf tb) → BufTy
  | .hbm, ⟨0, _⟩ => ⟨S8x4352x1280, .bf16⟩
  | .hbm, ⟨1, _⟩ => ⟨S8x4352x13824, .bf16⟩
  | .hbm, ⟨2, _⟩ => ⟨S8x4352x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | .local _ .vmem, ⟨8, _⟩ => ⟨S1024x128, .f32⟩
  | .local _ .vmem, ⟨9, _⟩ => ⟨S1024x256, .f32⟩
  | _, _ => ⟨S8x4352x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 17], ![false, false, false]⟩

def k0_cond2 (i : grid0.Coords) : BitVec 1 :=
  let arg2 : BitVec 32 := BitVec.ofNat 32 (i 2).val
  let c16_i32_4 : BitVec 32 := 16#32
  let v11 : BitVec 1 := Scalar.cmpi .slt arg2 c16_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_19 : BitVec 32 := 0#32
  let c2_i32 : BitVec 32 := 2#32
  let v37 : BitVec 32 := Scalar.addi c0_i32_19 c2_i32
  let c1_i32 : BitVec 32 := 1#32
  ⟨c0_i32_19, v37, c1_i32⟩
def k0_mult1 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c2176_i32 : BitVec 32 := 2176#32
  let v38 : BitVec 32 := Scalar.muli arg9 c2176_i32
  v38
def k0_off1 (k0_t1 : Fin k0_t1_loop.trips) : Fin 3 → Nat :=
  let c0_21 : Index := 0#32
  let c0_i32_19 : BitVec 32 := 0#32
  let c1_i32 : BitVec 32 := 1#32
  let arg9 : BitVec 32 := Scf.iv c0_i32_19 c1_i32 k0_t1
  let c2176_i32 : BitVec 32 := 2176#32
  let v38 : BitVec 32 := Scalar.muli arg9 c2176_i32
  let v39 : BitVec 32 := v38
  let v40 : Index := Scalar.indexCast v39
  let c0_22 : Index := 0#32
  ![0, v40.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x1280 : Shape := ⟨3, ![8, 4352, 1280]⟩
abbrev S8x4352x13824 : Shape := ⟨3, ![8, 4352, 13824]⟩
abbrev S8x4352x1024 : Shape := ⟨3, ![8, 4352, 1024]⟩
abbrev S8x4352x256 : Shape := ⟨3, ![8, 4352, 256]⟩
abbrev S8x4096x1024 : Shape := ⟨3, ![8, 4096, 1024]⟩
abbrev S8x256x1024 : Shape := ⟨3, ![8, 256, 1024]⟩
abbrev S8x4096x256 : Shape := ⟨3, ![8, 4096, 256]⟩
abbrev S8x256x256 : Shape := ⟨3, ![8, 256, 256]⟩
abbrev S8x4096x2x4x128 : Shape := ⟨5, ![8, 4096, 2, 4, 128]⟩
abbrev S8x4352x2x128 : Shape := ⟨4, ![8, 4352, 2, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x256x2x4x128 : Shape := ⟨5, ![8, 256, 2, 4, 128]⟩
abbrev S8x256x2x128 : Shape := ⟨4, ![8, 256, 2, 128]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x128x4x256 : Shape := ⟨5, ![8, 2, 128, 4, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x4352x1280, .bf16⟩
  | .hbm, ⟨1, _⟩ => ⟨S8x4352x13824, .bf16⟩
  | .hbm, ⟨2, _⟩ => ⟨S8x4352x1024, .bf16⟩
  | .hbm, ⟨3, _⟩ => ⟨S8x4352x1024, .f32⟩
  | .hbm, ⟨4, _⟩ => ⟨S8x4352x256, .bf16⟩
  | .hbm, ⟨5, _⟩ => ⟨S8x4352x256, .f32⟩
  | .hbm, ⟨6, _⟩ => ⟨S8x4352x256, .bf16⟩
  | .hbm, ⟨7, _⟩ => ⟨S8x4352x256, .f32⟩
  | .hbm, ⟨8, _⟩ => ⟨S8x4096x1024, .f32⟩
  | .hbm, ⟨9, _⟩ => ⟨S8x256x1024, .f32⟩
  | .hbm, ⟨10, _⟩ => ⟨S8x4096x256, .f32⟩
  | .hbm, ⟨11, _⟩ => ⟨S8x256x256, .f32⟩
  | .hbm, ⟨12, _⟩ => ⟨S8x4096x256, .f32⟩
  | .hbm, ⟨13, _⟩ => ⟨S8x256x256, .f32⟩
  | .hbm, ⟨14, _⟩ => ⟨S8x4352x256, .f32⟩
  | .hbm, ⟨15, _⟩ => ⟨S8x4352x256, .f32⟩
  | .hbm, ⟨16, _⟩ => ⟨S8x4096x2x4x128, .f32⟩
  | .hbm, ⟨17, _⟩ => ⟨S8x4352x2x128, .f32⟩
  | .hbm, ⟨18, _⟩ => ⟨S8x4352x2x128, .f32⟩
  | .hbm, ⟨19, _⟩ => ⟨S8x2x4352x4096x4, .f32⟩
  | .hbm, ⟨20, _⟩ => ⟨S8x2x4x4096x4352, .f32⟩
  | .hbm, ⟨21, _⟩ => ⟨S_, .f32⟩
  | .hbm, ⟨22, _⟩ => ⟨S8x2x4x4096, .f32⟩
  | .hbm, ⟨23, _⟩ => ⟨S_, .f32⟩
  | .hbm, ⟨24, _⟩ => ⟨S8x2x4x4096, .f32⟩
  | .hbm, ⟨25, _⟩ => ⟨S8x2x4x4096, .f32⟩
  | .hbm, ⟨26, _⟩ => ⟨S8x2x4x4096x1, .f32⟩
  | .hbm, ⟨27, _⟩ => ⟨S8x2x4x4096x4352, .f32⟩
  | .hbm, ⟨28, _⟩ => ⟨S8x2x4x4096x4352, .f32⟩
  | .hbm, ⟨29, _⟩ => ⟨S8x2x4x4096x4352, .f32⟩
  | .hbm, ⟨30, _⟩ => ⟨S_, .f32⟩
  | .hbm, ⟨31, _⟩ => ⟨S8x2x4x4096, .f32⟩
  | .hbm, ⟨32, _⟩ => ⟨S8x2x4x4096x1, .f32⟩
  | .hbm, ⟨33, _⟩ => ⟨S8x2x4x4096x4352, .f32⟩
  | .hbm, ⟨34, _⟩ => ⟨S8x2x4x4096x4352, .f32⟩
  | .hbm, ⟨35, _⟩ => ⟨S8x2x128x4x4096, .f32⟩
  | .hbm, ⟨36, _⟩ => ⟨S8x4096x2x4x128, .f32⟩
  | .hbm, ⟨37, _⟩ => ⟨S8x4096x1024, .f32⟩
  | .hbm, ⟨38, _⟩ => ⟨S8x256x2x4x128, .f32⟩
  | .hbm, ⟨39, _⟩ => ⟨S8x256x2x128, .f32⟩
  | .hbm, ⟨40, _⟩ => ⟨S8x256x2x128, .f32⟩
  | .hbm, ⟨41, _⟩ => ⟨S8x2x256x256x4, .f32⟩
  | .hbm, ⟨42, _⟩ => ⟨S8x2x4x256x256, .f32⟩
  | .hbm, ⟨43, _⟩ => ⟨S_, .f32⟩
  | .hbm, ⟨44, _⟩ => ⟨S8x2x4x256, .f32⟩
  | .hbm, ⟨45, _⟩ => ⟨S_, .f32⟩
  | .hbm, ⟨46, _⟩ => ⟨S8x2x4x256, .f32⟩
  | .hbm, ⟨47, _⟩ => ⟨S8x2x4x256, .f32⟩
  | .hbm, ⟨48, _⟩ => ⟨S8x2x4x256x1, .f32⟩
  | .hbm, ⟨49, _⟩ => ⟨S8x2x4x256x256, .f32⟩
  | .hbm, ⟨50, _⟩ => ⟨S8x2x4x256x256, .f32⟩
  | .hbm, ⟨51, _⟩ => ⟨S8x2x4x256x256, .f32⟩
  | .hbm, ⟨52, _⟩ => ⟨S_, .f32⟩
  | .hbm, ⟨53, _⟩ => ⟨S8x2x4x256, .f32⟩
  | .hbm, ⟨54, _⟩ => ⟨S8x2x4x256x1, .f32⟩
  | .hbm, ⟨55, _⟩ => ⟨S8x2x4x256x256, .f32⟩
  | .hbm, ⟨56, _⟩ => ⟨S8x2x4x256x256, .f32⟩
  | .hbm, ⟨57, _⟩ => ⟨S8x2x128x4x256, .f32⟩
  | .hbm, ⟨58, _⟩ => ⟨S8x256x2x4x128, .f32⟩
  | .hbm, ⟨59, _⟩ => ⟨S8x256x1024, .f32⟩
  | .hbm, ⟨60, _⟩ => ⟨S8x4352x1024, .f32⟩
  | .hbm, ⟨61, _⟩ => ⟨S8x4352x1024, .bf16⟩
  | _, _ => ⟨S8x4352x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Kernel2.lean ====
abbrev S16x4352x2048 : Shape := ⟨3, ![16, 4352, 2048]⟩
abbrev S2x16x2048x2048 : Shape := ⟨4, ![2, 16, 2048, 2048]⟩
abbrev S32x2048x2048 : Shape := ⟨3, ![32, 2048, 2048]⟩
abbrev S1x1088x2048 : Shape := ⟨3, ![1, 1088, 2048]⟩
abbrev S1x2048x512 : Shape := ⟨3, ![1, 2048, 512]⟩
abbrev S1x1088x512 : Shape := ⟨3, ![1, 1088, 512]⟩
abbrev S2048x512 : Shape := ⟨2, ![2048, 512]⟩
abbrev S1088x2048 : Shape := ⟨2, ![1088, 2048]⟩
abbrev S1088x512 : Shape := ⟨2, ![1088, 512]⟩

abbrev nBuf : Space → Nat
  | .hbm => 6
  | .vmem => 10
  | .smem => 0
  | _ => 0

abbrev bufTy : (tb : Table) → Fin (tcTables nBuf tb) → BufTy
  | .hbm, ⟨0, _⟩ => ⟨S16x4352x2048, .bf16⟩
  | .hbm, ⟨1, _⟩ => ⟨S2x16x2048x2048, .f32⟩
  | .hbm, ⟨2, _⟩ => ⟨S2x16x2048x2048, .f32⟩
  | .hbm, ⟨3, _⟩ => ⟨S32x2048x2048, .f32⟩
  | .hbm, ⟨4, _⟩ => ⟨S32x2048x2048, .f32⟩
  | .hbm, ⟨5, _⟩ => ⟨S16x4352x2048, .bf16⟩
  | .local _ .vmem, ⟨0, _⟩ => ⟨S1x1088x2048, .bf16⟩
  | .local _ .vmem, ⟨1, _⟩ => ⟨S1x1088x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1088x512, .bf16⟩
  | .local _ .vmem, ⟨7, _⟩ => ⟨S1x1088x512, .bf16⟩
  | .local _ .vmem, ⟨8, _⟩ => ⟨S2048x512, .bf16⟩
  | .local _ .vmem, ⟨9, _⟩ => ⟨S2048x512, .bf16⟩
  | _, _ => ⟨S16x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S16x4352x2048 : Shape := ⟨3, ![16, 4352, 2048]⟩
abbrev S2x16x2048x2048 : Shape := ⟨4, ![2, 16, 2048, 2048]⟩
abbrev S1x16x2048x2048 : Shape := ⟨4, ![1, 16, 2048, 2048]⟩
abbrev S16x2048x2048 : Shape := ⟨3, ![16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x4352x2048, .bf16⟩
  | .hbm, ⟨1, _⟩ => ⟨S2x16x2048x2048, .f32⟩
  | .hbm, ⟨2, _⟩ => ⟨S2x16x2048x2048, .f32⟩
  | .hbm, ⟨3, _⟩ => ⟨S16x4352x2048, .f32⟩
  | .hbm, ⟨4, _⟩ => ⟨S1x16x2048x2048, .f32⟩
  | .hbm, ⟨5, _⟩ => ⟨S16x2048x2048, .f32⟩
  | .hbm, ⟨6, _⟩ => ⟨S16x4352x2048, .f32⟩
  | .hbm, ⟨7, _⟩ => ⟨S16x4352x2048, .f32⟩
  | .hbm, ⟨8, _⟩ => ⟨S16x4352x2048, .f32⟩
  | .hbm, ⟨9, _⟩ => ⟨S_, .f32⟩
  | .hbm, ⟨10, _⟩ => ⟨S16x4352x2048, .f32⟩
  | .hbm, ⟨11, _⟩ => ⟨S16x4352x2048, .f32⟩
  | .hbm, ⟨12, _⟩ => ⟨S_, .f32⟩
  | .hbm, ⟨13, _⟩ => ⟨S16x4352x2048, .f32⟩
  | .hbm, ⟨14, _⟩ => ⟨S16x4352x2048, .f32⟩
  | .hbm, ⟨15, _⟩ => ⟨S16x4352x2048, .f32⟩
  | .hbm, ⟨16, _⟩ => ⟨S1x16x2048x2048, .f32⟩
  | .hbm, ⟨17, _⟩ => ⟨S16x2048x2048, .f32⟩
  | .hbm, ⟨18, _⟩ => ⟨S16x4352x2048, .f32⟩
  | .hbm, ⟨19, _⟩ => ⟨S16x4352x2048, .f32⟩
  | .hbm, ⟨20, _⟩ => ⟨S16x4352x2048, .bf16⟩
  | _, _ => ⟨S16x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S16x4352x2048 : Shape := ⟨3, ![16, 4352, 2048]⟩
abbrev S16x4352x128 : Shape := ⟨3, ![16, 4352, 128]⟩
abbrev S2x16x2048x2048 : Shape := ⟨4, ![2, 16, 2048, 2048]⟩
abbrev S32x2048x2048 : Shape := ⟨3, ![32, 2048, 2048]⟩
abbrev S1x1088x2048 : Shape := ⟨3, ![1, 1088, 2048]⟩
abbrev S1x2048x1024 : Shape := ⟨3, ![1, 2048, 1024]⟩
abbrev S1x1088x128 : Shape := ⟨3, ![1, 1088, 128]⟩
abbrev S1x1088x1024 : Shape := ⟨3, ![1, 1088, 1024]⟩
abbrev S2048x1024 : Shape := ⟨2, ![2048, 1024]⟩
abbrev S1088x2048 : Shape := ⟨2, ![1088, 2048]⟩
abbrev S1088x1024 : Shape := ⟨2, ![1088, 1024]⟩
abbrev S1x1088x1 : Shape := ⟨3, ![1, 1088, 1]⟩
abbrev S1088x1 : Shape := ⟨2, ![1088, 1]⟩

abbrev nBuf : Space → Nat
  | .hbm => 5
  | .vmem => 9
  | .smem => 0
  | _ => 0

abbrev bufTy : (tb : Table) → Fin (tcTables nBuf tb) → BufTy
  | .hbm, ⟨0, _⟩ => ⟨S16x4352x2048, .bf16⟩
  | .hbm, ⟨1, _⟩ => ⟨S16x4352x128, .f32⟩
  | .hbm, ⟨2, _⟩ => ⟨S2x16x2048x2048, .f32⟩
  | .hbm, ⟨3, _⟩ => ⟨S32x2048x2048, .f32⟩
  | .hbm, ⟨4, _⟩ => ⟨S16x4352x2048, .bf16⟩
  | .local _ .vmem, ⟨0, _⟩ => ⟨S1x1088x2048, .bf16⟩
  | .local _ .vmem, ⟨1, _⟩ => ⟨S1x1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1088x128, .f32⟩
  | .local _ .vmem, ⟨5, _⟩ => ⟨S1x1088x128, .f32⟩
  | .local _ .vmem, ⟨6, _⟩ => ⟨S1x1088x1024, .bf16⟩
  | .local _ .vmem, ⟨7, _⟩ => ⟨S1x1088x1024, .bf16⟩
  | .local _ .vmem, ⟨8, _⟩ => ⟨S2048x1024, .bf16⟩
  | _, _ => ⟨S16x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S16x4352x2048 : Shape := ⟨3, ![16, 4352, 2048]⟩
abbrev S16x4352x128 : Shape := ⟨3, ![16, 4352, 128]⟩
abbrev S2x16x2048x2048 : Shape := ⟨4, ![2, 16, 2048, 2048]⟩
abbrev S1x16x2048x2048 : Shape := ⟨4, ![1, 16, 2048, 2048]⟩
abbrev S16x2048x2048 : Shape := ⟨3, ![16, 2048, 2048]⟩
abbrev S16x4352x1 : Shape := ⟨3, ![16, 4352, 1]⟩

abbrev nBuf : Space → Nat
  | .hbm => 11
  | .vmem => 0
  | .smem => 0
  | _ => 0

abbrev bufTy : (tb : Table) → Fin (tcTables nBuf tb) → BufTy
  | .hbm, ⟨0, _⟩ => ⟨S16x4352x2048, .bf16⟩
  | .hbm, ⟨1, _⟩ => ⟨S16x4352x128, .f32⟩
  | .hbm, ⟨2, _⟩ => ⟨S2x16x2048x2048, .f32⟩
  | .hbm, ⟨3, _⟩ => ⟨S16x4352x2048, .f32⟩
  | .hbm, ⟨4, _⟩ => ⟨S1x16x2048x2048, .f32⟩
  | .hbm, ⟨5, _⟩ => ⟨S16x2048x2048, .f32⟩
  | .hbm, ⟨6, _⟩ => ⟨S16x4352x2048, .f32⟩
  | .hbm, ⟨7, _⟩ => ⟨S16x4352x1, .f32⟩
  | .hbm, ⟨8, _⟩ => ⟨S16x4352x2048, .f32⟩
  | .hbm, ⟨9, _⟩ => ⟨S16x4352x2048, .f32⟩
  | .hbm, ⟨10, _⟩ => ⟨S16x4352x2048, .bf16⟩
  | _, _ => ⟨S16x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8x4096x2048 : Shape := ⟨3, ![8, 4096, 2048]⟩
abbrev S8x256x2048 : Shape := ⟨3, ![8, 256, 2048]⟩
abbrev S16x12288 : Shape := ⟨2, ![16, 12288]⟩
abbrev S2048 : Shape := ⟨1, ![2048]⟩
abbrev S2048x13840 : Shape := ⟨2, ![2048, 13840]⟩
abbrev S8x4352x2048 : Shape := ⟨3, ![8, 4352, 2048]⟩
abbrev S16x1x12288 : Shape := ⟨3, ![16, 1, 12288]⟩
abbrev S2048x3072 : Shape := ⟨2, ![2048, 3072]⟩
abbrev S2048x10752 : Shape := ⟨2, ![2048, 10752]⟩
abbrev S2048x13824 : Shape := ⟨2, ![2048, 13824]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8x4352x13824 : Shape := ⟨3, ![8, 4352, 13824]⟩
abbrev S8x4352x128 : Shape := ⟨3, ![8, 4352, 128]⟩
abbrev S1x1088x2048 : Shape := ⟨3, ![1, 1088, 2048]⟩
abbrev S1x1x2048 : Shape := ⟨3, ![1, 1, 2048]⟩
abbrev S2048x768 : Shape := ⟨2, ![2048, 768]⟩
abbrev S1x1088x768 : Shape := ⟨3, ![1, 1088, 768]⟩
abbrev S1x1088x128 : Shape := ⟨3, ![1, 1088, 128]⟩
abbrev S1088x2048 : Shape := ⟨2, ![1088, 2048]⟩
abbrev S1x272x2048 : Shape := ⟨3, ![1, 272, 2048]⟩
abbrev S272x2048 : Shape := ⟨2, ![272, 2048]⟩
abbrev S272 : Shape := ⟨1, ![272]⟩
abbrev S272x1 : Shape := ⟨2, ![272, 1]⟩
abbrev S272x128 : Shape := ⟨2, ![272, 128]⟩
abbrev S1x272x128 : Shape := ⟨3, ![1, 272, 128]⟩
abbrev S1088x768 : Shape := ⟨2, ![1088, 768]⟩
abbrev S1x768 : Shape := ⟨2, ![1, 768]⟩

abbrev nBuf : Space → Nat
  | .hbm => 19
  | .vmem => 17
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S16x12288, .f32⟩
  | .hbm, ⟨3, _⟩ => ⟨S2048, .f32⟩
  | .hbm, ⟨4, _⟩ => ⟨S2048x13840, .f32⟩
  | .hbm, ⟨5, _⟩ => ⟨S8x4352x2048, .f32⟩
  | .hbm, ⟨6, _⟩ => ⟨S16x1x12288, .f32⟩
  | .hbm, ⟨7, _⟩ => ⟨S2048x3072, .f32⟩
  | .hbm, ⟨8, _⟩ => ⟨S2048x10752, .f32⟩
  | .hbm, ⟨9, _⟩ => ⟨S2048x13824, .f32⟩
  | .hbm, ⟨10, _⟩ => ⟨S2048x13824, .bf16⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S1x2048, .f32⟩
  | .hbm, ⟨17, _⟩ => ⟨S8x4352x13824, .bf16⟩
  | .hbm, ⟨18, _⟩ => ⟨S8x4352x128, .f32⟩
  | .local _ .vmem, ⟨0, _⟩ => ⟨S1x1088x2048, .f32⟩
  | .local _ .vmem, ⟨1, _⟩ => ⟨S1x1088x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x768, .bf16⟩
  | .local _ .vmem, ⟨10, _⟩ => ⟨S2048x768, .bf16⟩
  | .local _ .vmem, ⟨11, _⟩ => ⟨S2048x128, .bf16⟩
  | .local _ .vmem, ⟨12, _⟩ => ⟨S1x1088x768, .bf16⟩
  | .local _ .vmem, ⟨13, _⟩ => ⟨S1x1088x768, .bf16⟩
  | .local _ .vmem, ⟨14, _⟩ => ⟨S1x1088x128, .f32⟩
  | .local _ .vmem, ⟨15, _⟩ => ⟨S1x1088x128, .f32⟩
  | .local _ .vmem, ⟨16, _⟩ => ⟨S1088x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 4, 18], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c1_i32 : BitVec 32 := 1#32
  let c0_i32_0 : BitVec 32 := 0#32
  ![c8_i32.toNat, c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1088x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1088x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference4Ideal.lean ====
abbrev S8x4096x2048 : Shape := ⟨3, ![8, 4096, 2048]⟩
abbrev S8x256x2048 : Shape := ⟨3, ![8, 256, 2048]⟩
abbrev S16x12288 : Shape := ⟨2, ![16, 12288]⟩
abbrev S2048 : Shape := ⟨1, ![2048]⟩
abbrev S2048x13840 : Shape := ⟨2, ![2048, 13840]⟩
abbrev S8x2048 : Shape := ⟨2, ![8, 2048]⟩
abbrev S8x1x2048 : Shape := ⟨3, ![8, 1, 2048]⟩
abbrev S1x2048 : Shape := ⟨2, ![1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x256 : Shape := ⟨2, ![8, 256]⟩
abbrev S8x256x1 : Shape := ⟨3, ![8, 256, 1]⟩
abbrev S8x4096x13840 : Shape := ⟨3, ![8, 4096, 13840]⟩
abbrev S8x256x13840 : Shape := ⟨3, ![8, 256, 13840]⟩
abbrev S8x4352x13840 : Shape := ⟨3, ![8, 4352, 13840]⟩
abbrev S8x4352x3072 : Shape := ⟨3, ![8, 4352, 3072]⟩
abbrev S8x4352x16 : Shape := ⟨3, ![8, 4352, 16]⟩
abbrev S8x4352x4608 : Shape := ⟨3, ![8, 4352, 4608]⟩
abbrev S8x4352x6144 : Shape := ⟨3, ![8, 4352, 6144]⟩
abbrev S8x4352x13824 : Shape := ⟨3, ![8, 4352, 13824]⟩
abbrev S8x4352x128 : Shape := ⟨3, ![8, 4352, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S16x12288, .f32⟩
  | .hbm, ⟨3, _⟩ => ⟨S2048, .f32⟩
  | .hbm, ⟨4, _⟩ => ⟨S2048x13840, .f32⟩
  | .hbm, ⟨5, _⟩ => ⟨S8x2048, .f32⟩
  | .hbm, ⟨6, _⟩ => ⟨S8x1x2048, .f32⟩
  | .hbm, ⟨7, _⟩ => ⟨S8x2048, .f32⟩
  | .hbm, ⟨8, _⟩ => ⟨S8x1x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x256x2048, .f32⟩
  | .hbm, ⟨37, _⟩ => ⟨S_, .f32⟩
  | .hbm, ⟨38, _⟩ => ⟨S8x256, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S_, .f32⟩
  | .hbm, ⟨44, _⟩ => ⟨S8x256x1, .f32⟩
  | .hbm, ⟨45, _⟩ => ⟨S8x256x1, .f32⟩
  | .hbm, ⟨46, _⟩ => ⟨S8x256x1, .f32⟩
  | .hbm, ⟨47, _⟩ => ⟨S8x256x2048, .f32⟩
  | .hbm, ⟨48, _⟩ => ⟨S8x256x2048, .f32⟩
  | .hbm, ⟨49, _⟩ => ⟨S1x1x2048, .f32⟩
  | .hbm, ⟨50, _⟩ => ⟨S8x256x2048, .f32⟩
  | .hbm, ⟨51, _⟩ => ⟨S8x256x2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x1x2048, .f32⟩
  | .hbm, ⟨56, _⟩ => ⟨S8x256x2048, .f32⟩
  | .hbm, ⟨57, _⟩ => ⟨S8x256x2048, .f32⟩
  | .hbm, ⟨58, _⟩ => ⟨S1x1x2048, .f32⟩
  | .hbm, ⟨59, _⟩ => ⟨S8x256x2048, .f32⟩
  | .hbm, ⟨60, _⟩ => ⟨S8x256x2048, .f32⟩
  | .hbm, ⟨61, _⟩ => ⟨S8x4096x13840, .f32⟩
  | .hbm, ⟨62, _⟩ => ⟨S8x256x13840, .f32⟩
  | .hbm, ⟨63, _⟩ => ⟨S8x4352x13840, .f32⟩
  | .hbm, ⟨64, _⟩ => ⟨S8x4352x3072, .f32⟩
  | .hbm, ⟨65, _⟩ => ⟨S8x4352x16, .f32⟩
  | .hbm, ⟨66, _⟩ => ⟨S8x4352x4608, .f32⟩
  | .hbm, ⟨67, _⟩ => ⟨S8x4352x6144, .f32⟩
  | .hbm, ⟨68, _⟩ => ⟨S8x4352x6144, .f32⟩
  | .hbm, ⟨69, _⟩ => ⟨S8x4352x6144, .f32⟩
  | .hbm, ⟨70, _⟩ => ⟨S_, .f32⟩
  | .hbm, ⟨71, _⟩ => ⟨S8x4352x6144, .f32⟩
  | .hbm, ⟨72, _⟩ => ⟨S8x4352x6144, .f32⟩
  | .hbm, ⟨73, _⟩ => ⟨S_, .f32⟩
  | .hbm, ⟨74, _⟩ => ⟨S8x4352x6144, .f32⟩
  | .hbm, ⟨75, _⟩ => ⟨S8x4352x6144, .f32⟩
  | .hbm, ⟨76, _⟩ => ⟨S8x4352x13824, .f32⟩
  | .hbm, ⟨77, _⟩ => ⟨S8x4352x13824, .bf16⟩
  | .hbm, ⟨78, _⟩ => ⟨S_, .i32⟩
  | .hbm, ⟨79, _⟩ => ⟨S_, .f32⟩
  | .hbm, ⟨80, _⟩ => ⟨S8x4352x128, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c : Ref sig .tc := ⟨.hbm, 78, rfl⟩
abbrev main_call0_v0 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel5.lean ====
abbrev S34816x1024 : Shape := ⟨2, ![34816, 1024]⟩
abbrev S34816x13824 : Shape := ⟨2, ![34816, 13824]⟩
abbrev S3x1024x2048 : Shape := ⟨3, ![3, 1024, 2048]⟩
abbrev S34816x2048 : Shape := ⟨2, ![34816, 2048]⟩
abbrev S1024x1024 : Shape := ⟨2, ![1024, 1024]⟩
abbrev S1024x512 : Shape := ⟨2, ![1024, 512]⟩
abbrev S3x1024x512 : Shape := ⟨3, ![3, 1024, 512]⟩
abbrev S1024x256 : Shape := ⟨2, ![1024, 256]⟩
abbrev S1024 : Shape := ⟨1, ![1024]⟩
abbrev S1024x1 : Shape := ⟨2, ![1024, 1]⟩
abbrev S1x1024x512 : Shape := ⟨3, ![1, 1024, 512]⟩

abbrev nBuf : Space → Nat
  | .hbm => 8
  | .vmem => 21
  | .smem => 0
  | _ => 0

abbrev bufTy : (tb : Table) → Fin (tcTables nBuf tb) → BufTy
  | .hbm, ⟨0, _⟩ => ⟨S34816x1024, .bf16⟩
  | .hbm, ⟨1, _⟩ => ⟨S34816x1024, .bf16⟩
  | .hbm, ⟨2, _⟩ => ⟨S34816x13824, .bf16⟩
  | .hbm, ⟨3, _⟩ => ⟨S34816x1024, .bf16⟩
  | .hbm, ⟨4, _⟩ => ⟨S34816x1024, .bf16⟩
  | .hbm, ⟨5, _⟩ => ⟨S3x1024x2048, .f32⟩
  | .hbm, ⟨6, _⟩ => ⟨S3x1024x2048, .bf16⟩
  | .hbm, ⟨7, _⟩ => ⟨S34816x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S3x1024x512, .bf16⟩
  | .local _ .vmem, ⟨17, _⟩ => ⟨S3x1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .bf16⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S34816x1024 : Shape := ⟨2, ![34816, 1024]⟩
abbrev S34816x13824 : Shape := ⟨2, ![34816, 13824]⟩
abbrev S3x1024x2048 : Shape := ⟨3, ![3, 1024, 2048]⟩
abbrev S34816x4x256 : Shape := ⟨3, ![34816, 4, 256]⟩
abbrev S_ : Shape := ⟨0, ![]⟩
abbrev S34816x4 : Shape := ⟨2, ![34816, 4]⟩
abbrev S34816x4x1 : Shape := ⟨3, ![34816, 4, 1]⟩
abbrev S34816x6144 : Shape := ⟨2, ![34816, 6144]⟩
abbrev S34816x3x2048 : Shape := ⟨3, ![34816, 3, 2048]⟩
abbrev S34816x1x2048 : Shape := ⟨3, ![34816, 1, 2048]⟩
abbrev S34816x2048 : Shape := ⟨2, ![34816, 2048]⟩
abbrev S1x1024x2048 : Shape := ⟨3, ![1, 1024, 2048]⟩
abbrev S1024x2048 : Shape := ⟨2, ![1024, 2048]⟩

abbrev nBuf : Space → Nat
  | .hbm => 60
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S34816x1024, .bf16⟩
  | .hbm, ⟨2, _⟩ => ⟨S34816x13824, .bf16⟩
  | .hbm, ⟨3, _⟩ => ⟨S34816x1024, .bf16⟩
  | .hbm, ⟨4, _⟩ => ⟨S34816x1024, .bf16⟩
  | .hbm, ⟨5, _⟩ => ⟨S3x1024x2048, .f32⟩
  | .hbm, ⟨6, _⟩ => ⟨S34816x1024, .f32⟩
  | .hbm, ⟨7, _⟩ => ⟨S34816x1024, .f32⟩
  | .hbm, ⟨8, _⟩ => ⟨S34816x1024, .f32⟩
  | .hbm, ⟨9, _⟩ => ⟨S34816x4x256, .f32⟩
  | .hbm, ⟨10, _⟩ => ⟨S34816x4x256, .f32⟩
  | .hbm, ⟨11, _⟩ => ⟨S_, .f32⟩
  | .hbm, ⟨12, _⟩ => ⟨S34816x4, .f32⟩
  | .hbm, ⟨13, _⟩ => ⟨S34816x4x1, .f32⟩
  | .hbm, ⟨14, _⟩ => ⟨S_, .f32⟩
  | .hbm, ⟨15, _⟩ => ⟨S34816x4x1, .f32⟩
  | .hbm, ⟨16, _⟩ => ⟨S34816x4x1, .f32⟩
  | .hbm, ⟨17, _⟩ => ⟨S_, .f32⟩
  | .hbm, ⟨18, _⟩ => ⟨S34816x4x1, .f32⟩
  | .hbm, ⟨19, _⟩ => ⟨S34816x4x1, .f32⟩
  | .hbm, ⟨20, _⟩ => ⟨S34816x4x1, .f32⟩
  | .hbm, ⟨21, _⟩ => ⟨S34816x4x256, .f32⟩
  | .hbm, ⟨22, _⟩ => ⟨S34816x4x256, .f32⟩
  | .hbm, ⟨23, _⟩ => ⟨S34816x13824, .f32⟩
  | .hbm, ⟨24, _⟩ => ⟨S34816x1024, .f32⟩
  | .hbm, ⟨25, _⟩ => ⟨S34816x1024, .f32⟩
  | .hbm, ⟨26, _⟩ => ⟨S34816x1024, .f32⟩
  | .hbm, ⟨27, _⟩ => ⟨S_, .f32⟩
  | .hbm, ⟨28, _⟩ => ⟨S34816x1024, .f32⟩
  | .hbm, ⟨29, _⟩ => ⟨S34816x1024, .f32⟩
  | .hbm, ⟨30, _⟩ => ⟨S_, .f32⟩
  | .hbm, ⟨31, _⟩ => ⟨S34816x1024, .f32⟩
  | .hbm, ⟨32, _⟩ => ⟨S34816x1024, .f32⟩
  | .hbm, ⟨33, _⟩ => ⟨S34816x1024, .f32⟩
  | .hbm, ⟨34, _⟩ => ⟨S34816x1024, .f32⟩
  | .hbm, ⟨35, _⟩ => ⟨S34816x6144, .f32⟩
  | .hbm, ⟨36, _⟩ => ⟨S34816x3x2048, .f32⟩
  | .hbm, ⟨37, _⟩ => ⟨S34816x1024, .f32⟩
  | .hbm, ⟨38, _⟩ => ⟨S34816x1024, .f32⟩
  | .hbm, ⟨39, _⟩ => ⟨S34816x1x2048, .f32⟩
  | .hbm, ⟨40, _⟩ => ⟨S34816x2048, .f32⟩
  | .hbm, ⟨41, _⟩ => ⟨S1x1024x2048, .f32⟩
  | .hbm, ⟨42, _⟩ => ⟨S1024x2048, .f32⟩
  | .hbm, ⟨43, _⟩ => ⟨S34816x2048, .f32⟩
  | .hbm, ⟨44, _⟩ => ⟨S34816x2048, .f32⟩
  | .hbm, ⟨45, _⟩ => ⟨S34816x1x2048, .f32⟩
  | .hbm, ⟨46, _⟩ => ⟨S34816x2048, .f32⟩
  | .hbm, ⟨47, _⟩ => ⟨S1x1024x2048, .f32⟩
  | .hbm, ⟨48, _⟩ => ⟨S1024x2048, .f32⟩
  | .hbm, ⟨49, _⟩ => ⟨S34816x2048, .f32⟩
  | .hbm, ⟨50, _⟩ => ⟨S34816x2048, .f32⟩
  | .hbm, ⟨51, _⟩ => ⟨S34816x2048, .f32⟩
  | .hbm, ⟨52, _⟩ => ⟨S34816x1x2048, .f32⟩
  | .hbm, ⟨53, _⟩ => ⟨S34816x2048, .f32⟩
  | .hbm, ⟨54, _⟩ => ⟨S1x1024x2048, .f32⟩
  | .hbm, ⟨55, _⟩ => ⟨S1024x2048, .f32⟩
  | .hbm, ⟨56, _⟩ => ⟨S34816x2048, .f32⟩
  | .hbm, ⟨57, _⟩ => ⟨S34816x2048, .f32⟩
  | .hbm, ⟨58, _⟩ => ⟨S34816x2048, .f32⟩
  | .hbm, ⟨59, _⟩ => ⟨S34816x2048, .bf16⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel6.lean ====
abbrev S8x4352x2048 : Shape := ⟨3, ![8, 4352, 2048]⟩
abbrev S2048x2048 : Shape := ⟨2, ![2048, 2048]⟩
abbrev S8x4096x2048 : Shape := ⟨3, ![8, 4096, 2048]⟩
abbrev S8x256x2048 : Shape := ⟨3, ![8, 256, 2048]⟩
abbrev S16x12288 : Shape := ⟨2, ![16, 12288]⟩
abbrev S2048 : Shape := ⟨1, ![2048]⟩
abbrev S2048x16 : Shape := ⟨2, ![2048, 16]⟩
abbrev S16x1x12288 : Shape := ⟨3, ![16, 1, 12288]⟩
abbrev S_ : Shape := ⟨0, ![]⟩
abbrev S2048x128 : Shape := ⟨2, ![2048, 128]⟩
abbrev S1x2048 : Shape := ⟨2, ![1, 2048]⟩
abbrev S8x4352x128 : Shape := ⟨3, ![8, 4352, 128]⟩
abbrev S8x16x4352 : Shape := ⟨3, ![8, 16, 4352]⟩
abbrev S1x256x2048 : Shape := ⟨3, ![1, 256, 2048]⟩
abbrev S1x1x2048 : Shape := ⟨3, ![1, 1, 2048]⟩
abbrev S1x256x128 : Shape := ⟨3, ![1, 256, 128]⟩
abbrev S1x16x256 : Shape := ⟨3, ![1, 16, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩

abbrev nBuf : Space → Nat
  | .hbm => 24
  | .vmem => 23
  | .smem => 0
  | _ => 0

abbrev bufTy : (tb : Table) → Fin (tcTables nBuf tb) → BufTy
  | .hbm, ⟨0, _⟩ => ⟨S8x4352x2048, .bf16⟩
  | .hbm, ⟨1, _⟩ => ⟨S2048x2048, .f32⟩
  | .hbm, ⟨2, _⟩ => ⟨S8x4096x2048, .f32⟩
  | .hbm, ⟨3, _⟩ => ⟨S8x256x2048, .f32⟩
  | .hbm, ⟨4, _⟩ => ⟨S16x12288, .f32⟩
  | .hbm, ⟨5, _⟩ => ⟨S2048, .f32⟩
  | .hbm, ⟨6, _⟩ => ⟨S2048, .f32⟩
  | .hbm, ⟨7, _⟩ => ⟨S2048x16, .f32⟩
  | .hbm, ⟨8, _⟩ => ⟨S8x4352x2048, .f32⟩
  | .hbm, ⟨9, _⟩ => ⟨S16x1x12288, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x2048, .bf16⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S1x2048, .f32⟩
  | .hbm, ⟨19, _⟩ => ⟨S1x2048, .f32⟩
  | .hbm, ⟨20, _⟩ => ⟨S8x4352x2048, .f32⟩
  | .hbm, ⟨21, _⟩ => ⟨S8x4352x2048, .bf16⟩
  | .hbm, ⟨22, _⟩ => ⟨S8x4352x128, .f32⟩
  | .hbm, ⟨23, _⟩ => ⟨S8x16x4352, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x128, .bf16⟩
  | .local _ .vmem, ⟨14, _⟩ => ⟨S2048x128, .bf16⟩
  | .local _ .vmem, ⟨15, _⟩ => ⟨S1x256x2048, .f32⟩
  | .local _ .vmem, ⟨16, _⟩ => ⟨S1x256x2048, .f32⟩
  | .local _ .vmem, ⟨17, _⟩ => ⟨S1x256x2048, .bf16⟩
  | .local _ .vmem, ⟨18, _⟩ => ⟨S1x256x2048, .bf16⟩
  | .local _ .vmem, ⟨19, _⟩ => ⟨S1x256x128, .f32⟩
  | .local _ .vmem, ⟨20, _⟩ => ⟨S1x256x128, .f32⟩
  | .local _ .vmem, ⟨21, _⟩ => ⟨S1x16x256, .f32⟩
  | .local _ .vmem, ⟨22, _⟩ => ⟨S1x16x256, .f32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c2_i32 : BitVec 32 := 2#32
  let c0_i32_0 : BitVec 32 := 0#32
  ![v1.toNat, c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c3_i32 : BitVec 32 := 3#32
  let c0_i32_0 : BitVec 32 := 0#32
  ![v1.toNat, c0_i32.toNat, c3_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg1 c16_i32
  let c8_i32 : BitVec 32 := 8#32
  let v1 : BitVec 32 := Scalar.select v0 c8_i32 arg0
  let c0_i32 : BitVec 32 := 0#32
  let c4_i32 : BitVec 32 := 4#32
  let c0_i32_0 : BitVec 32 := 0#32
  ![v1.toNat, c0_i32.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S8x4352x2048 : Shape := ⟨3, ![8, 4352, 2048]⟩
abbrev S2048x2048 : Shape := ⟨2, ![2048, 2048]⟩
abbrev S8x4096x2048 : Shape := ⟨3, ![8, 4096, 2048]⟩
abbrev S8x256x2048 : Shape := ⟨3, ![8, 256, 2048]⟩
abbrev S16x12288 : Shape := ⟨2, ![16, 12288]⟩
abbrev S2048 : Shape := ⟨1, ![2048]⟩
abbrev S2048x16 : Shape := ⟨2, ![2048, 16]⟩
abbrev S8x2048 : Shape := ⟨2, ![8, 2048]⟩
abbrev S8x1x2048 : Shape := ⟨3, ![8, 1, 2048]⟩
abbrev S1x2048 : Shape := ⟨2, ![1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x256 : Shape := ⟨2, ![8, 256]⟩
abbrev S8x256x1 : Shape := ⟨3, ![8, 256, 1]⟩
abbrev S8x4352x16 : Shape := ⟨3, ![8, 4352, 16]⟩
abbrev S8x4352 : Shape := ⟨2, ![8, 4352]⟩
abbrev S8x4352x1 : Shape := ⟨3, ![8, 4352, 1]⟩
abbrev S8x4352x128 : Shape := ⟨3, ![8, 4352, 128]⟩
abbrev S8x16x4352 : Shape := ⟨3, ![8, 16, 4352]⟩

abbrev nBuf : Space → Nat
  | .hbm => 133
  | .vmem => 0
  | .smem => 0
  | _ => 0

abbrev hbmTy0_0 (i : Nat) : BufTy := match i % 128 with
  | 0 => ⟨S8x4352x2048, .bf16⟩
  | 1 => ⟨S2048x2048, .f32⟩
  | 2 => ⟨S8x4096x2048, .f32⟩
  | 3 => ⟨S8x256x2048, .f32⟩
  | 4 => ⟨S16x12288, .f32⟩
  | 5 => ⟨S2048, .f32⟩
  | 6 => ⟨S2048, .f32⟩
  | 7 => ⟨S2048x16, .f32⟩
  | 8 => ⟨S8x2048, .f32⟩
  | 9 => ⟨S8x1x2048, .f32⟩
  | 10 => ⟨S8x2048, .f32⟩
  | 11 => ⟨S8x1x2048, .f32⟩
  | 12 => ⟨S8x2048, .f32⟩
  | 13 => ⟨S8x1x2048, .f32⟩
  | 14 => ⟨S1x2048, .f32⟩
  | 15 => ⟨S2048, .f32⟩
  | 16 => ⟨S1x2048, .f32⟩
  | 17 => ⟨S2048, .f32⟩
  | 18 => ⟨S1x2048, .f32⟩
  | 19 => ⟨S2048, .f32⟩
  | 20 => ⟨S8x4352x2048, .f32⟩
  | 21 => ⟨S8x4352x2048, .f32⟩
  | 22 => ⟨S8x4096x2048, .f32⟩
  | 23 => ⟨S8x4096x2048, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x2048, .f32⟩
  | 35 => ⟨S8x4096x2048, .f32⟩
  | 36 => ⟨S1x1x2048, .f32⟩
  | 37 => ⟨S8x4096x2048, .f32⟩
  | 38 => ⟨S8x4096x2048, .f32⟩
  | 39 => ⟨S8x4096x2048, .f32⟩
  | 40 => ⟨S8x4096x2048, .f32⟩
  | 41 => ⟨S8x4096x2048, .f32⟩
  | 42 => ⟨S8x256x2048, .f32⟩
  | 43 => ⟨S8x256x2048, .f32⟩
  | 44 => ⟨S_, .f32⟩
  | 45 => ⟨S8x256, .f32⟩
  | 46 => ⟨S8x256x1, .f32⟩
  | 47 => ⟨S_, .f32⟩
  | 48 => ⟨S8x256x1, .f32⟩
  | 49 => ⟨S8x256x1, .f32⟩
  | 50 => ⟨S_, .f32⟩
  | 51 => ⟨S8x256x1, .f32⟩
  | 52 => ⟨S8x256x1, .f32⟩
  | 53 => ⟨S8x256x1, .f32⟩
  | 54 => ⟨S8x256x2048, .f32⟩
  | 55 => ⟨S8x256x2048, .f32⟩
  | 56 => ⟨S1x1x2048, .f32⟩
  | 57 => ⟨S8x256x2048, .f32⟩
  | 58 => ⟨S8x256x2048, .f32⟩
  | 59 => ⟨S1x1x2048, .f32⟩
  | 60 => ⟨S8x256x2048, .f32⟩
  | 61 => ⟨S8x256x2048, .f32⟩
  | 62 => ⟨S8x256x2048, .f32⟩
  | 63 => ⟨S8x4096x2048, .f32⟩
  | 64 => ⟨S_, .f32⟩
  | 65 => ⟨S8x4096, .f32⟩
  | 66 => ⟨S8x4096x1, .f32⟩
  | 67 => ⟨S_, .f32⟩
  | 68 => ⟨S8x4096x1, .f32⟩
  | 69 => ⟨S8x4096x1, .f32⟩
  | 70 => ⟨S_, .f32⟩
  | 71 => ⟨S8x4096x1, .f32⟩
  | 72 => ⟨S8x4096x1, .f32⟩
  | 73 => ⟨S8x4096x1, .f32⟩
  | 74 => ⟨S8x4096x2048, .f32⟩
  | 75 => ⟨S8x4096x2048, .f32⟩
  | 76 => ⟨S1x1x2048, .f32⟩
  | 77 => ⟨S8x4096x2048, .f32⟩
  | 78 => ⟨S8x4096x2048, .f32⟩
  | 79 => ⟨S_, .f32⟩
  | 80 => ⟨S8x1x2048, .f32⟩
  | 81 => ⟨S8x1x2048, .f32⟩
  | 82 => ⟨S8x4096x2048, .f32⟩
  | 83 => ⟨S8x4096x2048, .f32⟩
  | 84 => ⟨S8x4096x2048, .f32⟩
  | 85 => ⟨S8x4096x2048, .f32⟩
  | 86 => ⟨S8x256x2048, .f32⟩
  | 87 => ⟨S_, .f32⟩
  | 88 => ⟨S8x256, .f32⟩
  | 89 => ⟨S8x256x1, .f32⟩
  | 90 => ⟨S_, .f32⟩
  | 91 => ⟨S8x256x1, .f32⟩
  | 92 => ⟨S8x256x1, .f32⟩
  | 93 => ⟨S_, .f32⟩
  | 94 => ⟨S8x256x1, .f32⟩
  | 95 => ⟨S8x256x1, .f32⟩
  | 96 => ⟨S8x256x1, .f32⟩
  | 97 => ⟨S8x256x2048, .f32⟩
  | 98 => ⟨S8x256x2048, .f32⟩
  | 99 => ⟨S1x1x2048, .f32⟩
  | 100 => ⟨S8x256x2048, .f32⟩
  | 101 => ⟨S8x256x2048, .f32⟩
  | 102 => ⟨S_, .f32⟩
  | 103 => ⟨S2048, .f32⟩
  | 104 => ⟨S2048, .f32⟩
  | 105 => ⟨S1x1x2048, .f32⟩
  | 106 => ⟨S8x256x2048, .f32⟩
  | 107 => ⟨S8x256x2048, .f32⟩
  | 108 => ⟨S1x1x2048, .f32⟩
  | 109 => ⟨S8x256x2048, .f32⟩
  | 110 => ⟨S8x256x2048, .f32⟩
  | 111 => ⟨S8x4352x2048, .f32⟩
  | 112 => ⟨S8x4352x16, .f32⟩
  | 113 => ⟨S_, .f32⟩
  | 114 => ⟨S8x4352, .f32⟩
  | 115 => ⟨S_, .f32⟩
  | 116 => ⟨S8x4352, .f32⟩
  | 117 => ⟨S8x4352, .f32⟩
  | 118 => ⟨S8x4352x1, .f32⟩
  | 119 => ⟨S8x4352x16, .f32⟩
  | 120 => ⟨S8x4352x16, .f32⟩
  | 121 => ⟨S8x4352x16, .f32⟩
  | 122 => ⟨S_, .f32⟩
  | 123 => ⟨S8x4352, .f32⟩
  | 124 => ⟨S8x4352x1, .f32⟩
  | 125 => ⟨S8x4352x16, .f32⟩
  | 126 => ⟨S8x4352x16, .f32⟩
  | 127 => ⟨S8x4352x2048, .f32⟩
  | _ => ⟨S8x4352x2048, .bf16⟩

abbrev hbmTy0_1 (i : Nat) : BufTy := match i % 128 with
  | 0 => ⟨S8x4352x2048, .bf16⟩
  | 1 => ⟨S_, .i32⟩
  | 2 => ⟨S_, .f32⟩
  | 3 => ⟨S8x4352x128, .f32⟩
  | 4 => ⟨S8x16x4352, .f32⟩
  | _ => ⟨S8x4352x2048, .bf16⟩

abbrev hbmTy (i : Nat) : BufTy := match i / 128 with
  | 0 => hbmTy0_0 i
  | 1 => hbmTy0_1 i
  | _ => ⟨S8x4352x2048, .bf16⟩

abbrev bufTy : (tb : Table) → Fin (tcTables nBuf tb) → BufTy
  | .hbm, ⟨i, _⟩ => hbmTy i
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_cst_14 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_15 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c : Ref sig .tc := ⟨.hbm, 129, rfl⟩
abbrev main_call0_v0 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== Kernel7.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S16x2048 : Shape := ⟨2, ![16, 2048]⟩
abbrev S1 : Shape := ⟨1, ![1]⟩
abbrev S2x1x12288 : Shape := ⟨3, ![2, 1, 12288]⟩
abbrev S2x16x12288 : Shape := ⟨3, ![2, 16, 12288]⟩
abbrev S1x2048x768 : Shape := ⟨3, ![1, 2048, 768]⟩
abbrev S1x1x768 : Shape := ⟨3, ![1, 1, 768]⟩
abbrev S1x16x768 : Shape := ⟨3, ![1, 16, 768]⟩
abbrev S2048x768 : Shape := ⟨2, ![2048, 768]⟩
abbrev S16x768 : Shape := ⟨2, ![16, 768]⟩
abbrev S1x768 : Shape := ⟨2, ![1, 768]⟩

abbrev nBuf : Space → Nat
  | .hbm => 14
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S16x2048, .f32⟩
  | .hbm, ⟨6, _⟩ => ⟨S_, .i32⟩
  | .hbm, ⟨7, _⟩ => ⟨S1, .i32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S16x2048, .f32⟩
  | .hbm, ⟨12, _⟩ => ⟨S2x1x12288, .f32⟩
  | .hbm, ⟨13, _⟩ => ⟨S2x16x12288, .f32⟩
  | .local _ .vmem, ⟨0, _⟩ => ⟨S16x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x2048 : Shape := ⟨2, ![8, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 45
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S1x2048x12288, .f32⟩
  | .hbm, ⟨18, _⟩ => ⟨S2048x12288, .f32⟩
  | .hbm, ⟨19, _⟩ => ⟨S16x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S16x12288, .f32⟩
  | .hbm, ⟨24, _⟩ => ⟨S16x12288, .f32⟩
  | .hbm, ⟨25, _⟩ => ⟨S16x2048, .f32⟩
  | .hbm, ⟨26, _⟩ => ⟨S16x2048, .f32⟩
  | .hbm, ⟨27, _⟩ => ⟨S_, .f32⟩
  | .hbm, ⟨28, _⟩ => ⟨S16x2048, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S1x2048x12288, .f32⟩
  | .hbm, ⟨35, _⟩ => ⟨S2048x12288, .f32⟩
  | .hbm, ⟨36, _⟩ => ⟨S16x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S16x12288, .f32⟩
  | .hbm, ⟨41, _⟩ => ⟨S16x12288, .f32⟩
  | .hbm, ⟨42, _⟩ => ⟨S1x16x12288, .f32⟩
  | .hbm, ⟨43, _⟩ => ⟨S1x16x12288, .f32⟩
  | .hbm, ⟨44, _⟩ => ⟨S2x16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel8.lean ====
abbrev S8x4352x13824 : Shape := ⟨3, ![8, 4352, 13824]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S256x128 : Shape := ⟨2, ![256, 128]⟩
abbrev S4352x128 : Shape := ⟨2, ![4352, 128]⟩
abbrev S1x128 : Shape := ⟨2, ![1, 128]⟩
abbrev S1x1x1x128 : Shape := ⟨4, ![1, 1, 1, 128]⟩
abbrev S8x1x1x128 : Shape := ⟨4, ![8, 1, 1, 128]⟩
abbrev S8x128 : Shape := ⟨2, ![8, 128]⟩
abbrev S2x1x1x128 : Shape := ⟨4, ![2, 1, 1, 128]⟩
abbrev S2x128 : Shape := ⟨2, ![2, 128]⟩
abbrev S10x128 : Shape := ⟨2, ![10, 128]⟩
abbrev S10x1x128 : Shape := ⟨3, ![10, 1, 128]⟩
abbrev S1x1280 : Shape := ⟨2, ![1, 1280]⟩
abbrev S8x4352x1280 : Shape := ⟨3, ![8, 4352, 1280]⟩
abbrev S1x544x1024 : Shape := ⟨3, ![1, 544, 1024]⟩
abbrev S1x544x256 : Shape := ⟨3, ![1, 544, 256]⟩
abbrev S544x128 : Shape := ⟨2, ![544, 128]⟩
abbrev S1x544x1280 : Shape := ⟨3, ![1, 544, 1280]⟩
abbrev S1x544x128 : Shape := ⟨3, ![1, 544, 128]⟩
abbrev S544 : Shape := ⟨1, ![544]⟩
abbrev S544x1 : Shape := ⟨2, ![544, 1]⟩

abbrev nBuf : Space → Nat
  | .hbm => 59
  | .vmem => 11
  | .smem => 0
  | _ => 0

abbrev bufTy : (tb : Table) → Fin (tcTables nBuf tb) → BufTy
  | .hbm, ⟨0, _⟩ => ⟨S8x4352x13824, .bf16⟩
  | .hbm, ⟨1, _⟩ => ⟨S128, .f32⟩
  | .hbm, ⟨2, _⟩ => ⟨S128, .f32⟩
  | .hbm, ⟨3, _⟩ => ⟨S4096, .f32⟩
  | .hbm, ⟨4, _⟩ => ⟨S4096, .f32⟩
  | .hbm, ⟨5, _⟩ => ⟨S128, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x1x32, .f32⟩
  | .hbm, ⟨25, _⟩ => ⟨S4096x1x32, .f32⟩
  | .hbm, ⟨26, _⟩ => ⟨S4096x2x32, .f32⟩
  | .hbm, ⟨27, _⟩ => ⟨S4096x2x32, .f32⟩
  | .hbm, ⟨28, _⟩ => ⟨S4096x2x1x32, .f32⟩
  | .hbm, ⟨29, _⟩ => ⟨S4096x2x2x32, .f32⟩
  | .hbm, ⟨30, _⟩ => ⟨S4096x128, .f32⟩
  | .hbm, ⟨31, _⟩ => ⟨S4096x2x32, .f32⟩
  | .hbm, ⟨32, _⟩ => ⟨S4096x2x1x32, .f32⟩
  | .hbm, ⟨33, _⟩ => ⟨S4096x2x2x32, .f32⟩
  | .hbm, ⟨34, _⟩ => ⟨S4096x128, .f32⟩
  | .hbm, ⟨35, _⟩ => ⟨S_, .f32⟩
  | .hbm, ⟨36, _⟩ => ⟨S256x128, .f32⟩
  | .hbm, ⟨37, _⟩ => ⟨S4352x128, .f32⟩
  | .hbm, ⟨38, _⟩ => ⟨S1x128, .f32⟩
  | .hbm, ⟨39, _⟩ => ⟨S4096x128, .f32⟩
  | .hbm, ⟨40, _⟩ => ⟨S4096x128, .f32⟩
  | .hbm, ⟨41, _⟩ => ⟨S_, .f32⟩
  | .hbm, ⟨42, _⟩ => ⟨S256x128, .f32⟩
  | .hbm, ⟨43, _⟩ => ⟨S4352x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x1x1x128, .f32⟩
  | .hbm, ⟨49, _⟩ => ⟨S8x1x1x128, .f32⟩
  | .hbm, ⟨50, _⟩ => ⟨S8x128, .f32⟩
  | .hbm, ⟨51, _⟩ => ⟨S1x128, .f32⟩
  | .hbm, ⟨52, _⟩ => ⟨S1x1x1x128, .f32⟩
  | .hbm, ⟨53, _⟩ => ⟨S2x1x1x128, .f32⟩
  | .hbm, ⟨54, _⟩ => ⟨S2x128, .f32⟩
  | .hbm, ⟨55, _⟩ => ⟨S10x128, .f32⟩
  | .hbm, ⟨56, _⟩ => ⟨S10x1x128, .f32⟩
  | .hbm, ⟨57, _⟩ => ⟨S1x1280, .f32⟩
  | .hbm, ⟨58, _⟩ => ⟨S8x4352x1280, .bf16⟩
  | .local _ .vmem, ⟨0, _⟩ => ⟨S1x544x1024, .bf16⟩
  | .local _ .vmem, ⟨1, _⟩ => ⟨S1x544x1024, .bf16⟩
  | .local _ .vmem, ⟨2, _⟩ => ⟨S1x544x256, .bf16⟩
  | .local _ .vmem, ⟨3, _⟩ => ⟨S1x544x256, .bf16⟩
  | .local _ .vmem, ⟨4, _⟩ => ⟨S1x1280, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S1x544x1280, .bf16⟩
  | .local _ .vmem, ⟨10, _⟩ => ⟨S1x544x1280, .bf16⟩
  | _, _ => ⟨S8x4352x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x544x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x4352x13824 : Shape := ⟨3, ![8, 4352, 13824]⟩
abbrev S128 : Shape := ⟨1, ![128]⟩
abbrev S4096 : Shape := ⟨1, ![4096]⟩
abbrev S8x4352x1024 : Shape := ⟨3, ![8, 4352, 1024]⟩
abbrev S8x4352x8x128 : Shape := ⟨4, ![8, 4352, 8, 128]⟩
abbrev S8x4352x256 : Shape := ⟨3, ![8, 4352, 256]⟩
abbrev S8x4352x2x128 : Shape := ⟨4, ![8, 4352, 2, 128]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S4096x1x2x32 : Shape := ⟨4, ![4096, 1, 2, 32]⟩
abbrev S8x4096x8x2x2x32 : Shape := ⟨6, ![8, 4096, 8, 2, 2, 32]⟩
abbrev S8x4096x8x2x1x32 : Shape := ⟨6, ![8, 4096, 8, 2, 1, 32]⟩
abbrev S8x4096x8x2x32 : Shape := ⟨5, ![8, 4096, 8, 2, 32]⟩
abbrev S1x4096x1x2x32 : Shape := ⟨5, ![1, 4096, 1, 2, 32]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x2x2x32 : Shape := ⟨6, ![8, 4096, 2, 2, 2, 32]⟩
abbrev S8x4096x2x2x1x32 : Shape := ⟨6, ![8, 4096, 2, 2, 1, 32]⟩
abbrev S8x4096x2x2x32 : Shape := ⟨5, ![8, 4096, 2, 2, 32]⟩
abbrev S8x256x8x128 : Shape := ⟨4, ![8, 256, 8, 128]⟩
abbrev S8x256x8 : Shape := ⟨3, ![8, 256, 8]⟩
abbrev S8x256x8x1 : Shape := ⟨4, ![8, 256, 8, 1]⟩
abbrev S8x256x2x128 : Shape := ⟨4, ![8, 256, 2, 128]⟩
abbrev S8x256x2 : Shape := ⟨3, ![8, 256, 2]⟩
abbrev S8x256x2x1 : Shape := ⟨4, ![8, 256, 2, 1]⟩
abbrev S8x4352x10x128 : Shape := ⟨4, ![8, 4352, 10, 128]⟩
abbrev S8x4352x1280 : Shape := ⟨3, ![8, 4352, 1280]⟩

abbrev nBuf : Space → Nat
  | .hbm => 186
  | .vmem => 0
  | .smem => 0
  | _ => 0

abbrev hbmTy0_0 (i : Nat) : BufTy := match i % 128 with
  | 0 => ⟨S8x4352x13824, .bf16⟩
  | 1 => ⟨S128, .f32⟩
  | 2 => ⟨S128, .f32⟩
  | 3 => ⟨S4096, .f32⟩
  | 4 => ⟨S4096, .f32⟩
  | 5 => ⟨S8x4352x1024, .bf16⟩
  | 6 => ⟨S8x4352x1024, .f32⟩
  | 7 => ⟨S8x4352x8x128, .f32⟩
  | 8 => ⟨S8x4352x256, .bf16⟩
  | 9 => ⟨S8x4352x256, .f32⟩
  | 10 => ⟨S8x4352x2x128, .f32⟩
  | 11 => ⟨S8x4096x8x128, .f32⟩
  | 12 => ⟨S8x4096x8x128, .f32⟩
  | 13 => ⟨S_, .f32⟩
  | 14 => ⟨S8x4096x8, .f32⟩
  | 15 => ⟨S8x4096x8x1, .f32⟩
  | 16 => ⟨S_, .f32⟩
  | 17 => ⟨S8x4096x8x1, .f32⟩
  | 18 => ⟨S8x4096x8x1, .f32⟩
  | 19 => ⟨S_, .f32⟩
  | 20 => ⟨S8x4096x8x1, .f32⟩
  | 21 => ⟨S8x4096x8x1, .f32⟩
  | 22 => ⟨S8x4096x8x1, .f32⟩
  | 23 => ⟨S8x4096x8x128, .f32⟩
  | 24 => ⟨S8x4096x8x128, .f32⟩
  | 25 => ⟨S1x1x1x128, .f32⟩
  | 26 => ⟨S8x4096x8x128, .f32⟩
  | 27 => ⟨S8x4096x8x128, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S4096x1, .f32⟩
  | 37 => ⟨S1x32, .f32⟩
  | 38 => ⟨S4096x32, .f32⟩
  | 39 => ⟨S4096x32, .f32⟩
  | 40 => ⟨S4096x32, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S4096x1x32, .f32⟩
  | 47 => ⟨S4096x1x32, .f32⟩
  | 48 => ⟨S4096x2x32, .f32⟩
  | 49 => ⟨S4096x2x32, .f32⟩
  | 50 => ⟨S4096x1x2x32, .f32⟩
  | 51 => ⟨S4096x2x32, .f32⟩
  | 52 => ⟨S4096x1x2x32, .f32⟩
  | 53 => ⟨S8x4096x8x2x2x32, .f32⟩
  | 54 => ⟨S8x4096x8x2x1x32, .f32⟩
  | 55 => ⟨S8x4096x8x2x32, .f32⟩
  | 56 => ⟨S8x4096x8x2x1x32, .f32⟩
  | 57 => ⟨S8x4096x8x2x32, .f32⟩
  | 58 => ⟨S1x4096x1x2x32, .f32⟩
  | 59 => ⟨S8x4096x8x2x32, .f32⟩
  | 60 => ⟨S8x4096x8x2x32, .f32⟩
  | 61 => ⟨S1x4096x1x2x32, .f32⟩
  | 62 => ⟨S8x4096x8x2x32, .f32⟩
  | 63 => ⟨S8x4096x8x2x32, .f32⟩
  | 64 => ⟨S8x4096x8x2x32, .f32⟩
  | 65 => ⟨S1x4096x1x2x32, .f32⟩
  | 66 => ⟨S8x4096x8x2x32, .f32⟩
  | 67 => ⟨S8x4096x8x2x32, .f32⟩
  | 68 => ⟨S1x4096x1x2x32, .f32⟩
  | 69 => ⟨S8x4096x8x2x32, .f32⟩
  | 70 => ⟨S8x4096x8x2x32, .f32⟩
  | 71 => ⟨S8x4096x8x2x32, .f32⟩
  | 72 => ⟨S8x4096x8x2x1x32, .f32⟩
  | 73 => ⟨S8x4096x8x2x1x32, .f32⟩
  | 74 => ⟨S8x4096x8x2x2x32, .f32⟩
  | 75 => ⟨S8x4096x8x128, .f32⟩
  | 76 => ⟨S_, .f32⟩
  | 77 => ⟨S8x4096x8x128, .f32⟩
  | 78 => ⟨S8x4096x8x128, .f32⟩
  | 79 => ⟨S8x4096x2x128, .f32⟩
  | 80 => ⟨S8x4096x2x128, .f32⟩
  | 81 => ⟨S_, .f32⟩
  | 82 => ⟨S8x4096x2, .f32⟩
  | 83 => ⟨S8x4096x2x1, .f32⟩
  | 84 => ⟨S_, .f32⟩
  | 85 => ⟨S8x4096x2x1, .f32⟩
  | 86 => ⟨S8x4096x2x1, .f32⟩
  | 87 => ⟨S_, .f32⟩
  | 88 => ⟨S8x4096x2x1, .f32⟩
  | 89 => ⟨S8x4096x2x1, .f32⟩
  | 90 => ⟨S8x4096x2x1, .f32⟩
  | 91 => ⟨S8x4096x2x128, .f32⟩
  | 92 => ⟨S8x4096x2x128, .f32⟩
  | 93 => ⟨S1x1x1x128, .f32⟩
  | 94 => ⟨S8x4096x2x128, .f32⟩
  | 95 => ⟨S8x4096x2x128, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S4096x1, .f32⟩
  | 105 => ⟨S1x32, .f32⟩
  | 106 => ⟨S4096x32, .f32⟩
  | 107 => ⟨S4096x32, .f32⟩
  | 108 => ⟨S4096x32, .f32⟩
  | 109 => ⟨S4096x1, .f32⟩
  | 110 => ⟨S1x32, .f32⟩
  | 111 => ⟨S4096x32, .f32⟩
  | 112 => ⟨S4096x32, .f32⟩
  | 113 => ⟨S4096x32, .f32⟩
  | 114 => ⟨S4096x1x32, .f32⟩
  | 115 => ⟨S4096x1x32, .f32⟩
  | 116 => ⟨S4096x2x32, .f32⟩
  | 117 => ⟨S4096x2x32, .f32⟩
  | 118 => ⟨S4096x1x2x32, .f32⟩
  | 119 => ⟨S4096x2x32, .f32⟩
  | 120 => ⟨S4096x1x2x32, .f32⟩
  | 121 => ⟨S8x4096x2x2x2x32, .f32⟩
  | 122 => ⟨S8x4096x2x2x1x32, .f32⟩
  | 123 => ⟨S8x4096x2x2x32, .f32⟩
  | 124 => ⟨S8x4096x2x2x1x32, .f32⟩
  | 125 => ⟨S8x4096x2x2x32, .f32⟩
  | 126 => ⟨S1x4096x1x2x32, .f32⟩
  | 127 => ⟨S8x4096x2x2x32, .f32⟩
  | _ => ⟨S8x4352x13824, .bf16⟩

abbrev hbmTy0_1 (i : Nat) : BufTy := match i % 128 with
  | 0 => ⟨S8x4096x2x2x32, .f32⟩
  | 1 => ⟨S1x4096x1x2x32, .f32⟩
  | 2 => ⟨S8x4096x2x2x32, .f32⟩
  | 3 => ⟨S8x4096x2x2x32, .f32⟩
  | 4 => ⟨S8x4096x2x2x32, .f32⟩
  | 5 => ⟨S1x4096x1x2x32, .f32⟩
  | 6 => ⟨S8x4096x2x2x32, .f32⟩
  | 7 => ⟨S8x4096x2x2x32, .f32⟩
  | 8 => ⟨S1x4096x1x2x32, .f32⟩
  | 9 => ⟨S8x4096x2x2x32, .f32⟩
  | 10 => ⟨S8x4096x2x2x32, .f32⟩
  | 11 => ⟨S8x4096x2x2x32, .f32⟩
  | 12 => ⟨S8x4096x2x2x1x32, .f32⟩
  | 13 => ⟨S8x4096x2x2x1x32, .f32⟩
  | 14 => ⟨S8x4096x2x2x2x32, .f32⟩
  | 15 => ⟨S8x4096x2x128, .f32⟩
  | 16 => ⟨S8x256x8x128, .f32⟩
  | 17 => ⟨S8x256x8x128, .f32⟩
  | 18 => ⟨S_, .f32⟩
  | 19 => ⟨S8x256x8, .f32⟩
  | 20 => ⟨S8x256x8x1, .f32⟩
  | 21 => ⟨S_, .f32⟩
  | 22 => ⟨S8x256x8x1, .f32⟩
  | 23 => ⟨S8x256x8x1, .f32⟩
  | 24 => ⟨S_, .f32⟩
  | 25 => ⟨S8x256x8x1, .f32⟩
  | 26 => ⟨S8x256x8x1, .f32⟩
  | 27 => ⟨S8x256x8x1, .f32⟩
  | 28 => ⟨S8x256x8x128, .f32⟩
  | 29 => ⟨S8x256x8x128, .f32⟩
  | 30 => ⟨S1x1x1x128, .f32⟩
  | 31 => ⟨S8x256x8x128, .f32⟩
  | 32 => ⟨S8x256x8x128, .f32⟩
  | 33 => ⟨S_, .f32⟩
  | 34 => ⟨S8x256x8x128, .f32⟩
  | 35 => ⟨S8x256x8x128, .f32⟩
  | 36 => ⟨S8x256x2x128, .f32⟩
  | 37 => ⟨S8x256x2x128, .f32⟩
  | 38 => ⟨S_, .f32⟩
  | 39 => ⟨S8x256x2, .f32⟩
  | 40 => ⟨S8x256x2x1, .f32⟩
  | 41 => ⟨S_, .f32⟩
  | 42 => ⟨S8x256x2x1, .f32⟩
  | 43 => ⟨S8x256x2x1, .f32⟩
  | 44 => ⟨S_, .f32⟩
  | 45 => ⟨S8x256x2x1, .f32⟩
  | 46 => ⟨S8x256x2x1, .f32⟩
  | 47 => ⟨S8x256x2x1, .f32⟩
  | 48 => ⟨S8x256x2x128, .f32⟩
  | 49 => ⟨S8x256x2x128, .f32⟩
  | 50 => ⟨S1x1x1x128, .f32⟩
  | 51 => ⟨S8x256x2x128, .f32⟩
  | 52 => ⟨S8x256x2x128, .f32⟩
  | 53 => ⟨S8x4352x8x128, .f32⟩
  | 54 => ⟨S8x4352x2x128, .f32⟩
  | 55 => ⟨S8x4352x10x128, .f32⟩
  | 56 => ⟨S8x4352x1280, .f32⟩
  | 57 => ⟨S8x4352x1280, .bf16⟩
  | _ => ⟨S8x4352x13824, .bf16⟩

abbrev hbmTy (i : Nat) : BufTy := match i / 128 with
  | 0 => hbmTy0_0 i
  | 1 => hbmTy0_1 i
  | _ => ⟨S8x4352x13824, .bf16⟩

abbrev bufTy : (tb : Table) → Fin (tcTables nBuf tb) → BufTy
  | .hbm, ⟨i, _⟩ => hbmTy i
  | _, _ => ⟨S8x4352x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_cst_9 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_10 : Ref sig .tc := ⟨.hbm, 98, rfl⟩
abbrev main_v84 : Ref sig .tc := ⟨.hbm, 99, rfl⟩
abbrev main_v85 : Ref sig .tc := ⟨.hbm, 100, rfl⟩
abbrev main_cst_11 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_cst_12 : Ref sig .tc := ⟨.hbm, 146, rfl⟩
abbrev main_v130 : Ref sig .tc := ⟨.hbm, 147, rfl⟩
abbrev main_v131 : Ref sig .tc := ⟨.hbm, 148, rfl⟩
abbrev main_cst_13 : Ref sig .tc := ⟨.hbm, 149, rfl⟩
abbrev main_v132 : Ref sig .tc := ⟨.hbm, 150, rfl⟩
abbrev main_v133 : Ref sig .tc := ⟨.hbm, 151, rfl⟩
abbrev main_cst_14 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_15 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_cst_16 : Ref sig .tc := ⟨.hbm, 166, rfl⟩
abbrev main_v146 : Ref sig .tc := ⟨.hbm, 167, rfl⟩
abbrev main_v147 : Ref sig .tc := ⟨.hbm, 168, rfl⟩
abbrev main_cst_17 : Ref sig .tc := ⟨.hbm, 169, rfl⟩
abbrev main_v148 : Ref sig .tc := ⟨.hbm, 170, rfl⟩
abbrev main_v149 : Ref sig .tc := ⟨.hbm, 171, rfl⟩
abbrev main_cst_18 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩

abbrev nD : Nat := 1
abbrev τ : Topo := Topo.v7x

variable {F : FTy → Type} [FloatOps F]
-- ==== Proof.Steps.lean ====
/- One grid point of the attention kernel as a repeated step. The body handles four query heads, each by the same
   arithmetic on its own rows of the running maxima and of the running sums; the steps below name that arithmetic once, and
   the theorems say that what the run stores for every head is the step at that head's queries. -/
module

public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Flash

open Cert.KernelIdeal Cert.KernelIdeal.Gen Idealize.ShloMosaic Idealize.ShloMosaic.TcCoe Idealize.SL.Sem

variable {F : FTy → Type} [FloatOps F]

/-- The running maxima after a chunk of 2176 keys: the maxima before it against the chunk's scores. -/
def latM (q : Vec F S1x256x128 .bf16) (k : Vec F S1x2176x128 .bf16) (m : Vec F S256x128 .f32) : Vec F S256x128 .f32 :=
  k0_pay53 (k0_pay51 m (k0_pay50 k q))

/-- The running sums after a chunk of 2176 keys: the sums before it, rescaled, and the chunk's weighted values beside its weights. -/
def latA (q : Vec F S1x256x128 .bf16) (k v : Vec F S1x2176x128 .bf16) (m : Vec F S256x128 .f32) (a : Vec F S256x256 .f32) :
    Vec F S256x256 .f32 :=
  k0_pay52 (k0_pay31 v) (k0_pay33 k q) (k0_pay34 k q) (k0_pay35 k q) (k0_pay36 k q) (k0_pay37 k q) (k0_pay38 k q) (k0_pay39 k q)
    (k0_pay40 k q) (k0_pay41 k q) (k0_pay42 k q) (k0_pay43 k q) (k0_pay44 k q) (k0_pay45 k q) (k0_pay46 k q) (k0_pay47 k q)
    (k0_pay48 k q) (k0_pay49 k q) m (k0_pay50 k q) a

/-- The running sums after the one chunk of 256 context keys. -/
def ctxA (q k v : Vec F S1x256x128 .bf16) (m : Vec F S256x128 .f32) (a : Vec F S256x256 .f32) : Vec F S256x256 .f32 :=
  k0_pay9 k v q m a

/-- Head `r`'s queries: lanes `128 r` to `128 r + 127` of the query block. -/
abbrev heads0 (x : Vec F S1x256x512 .bf16) : Vec F S1x256x128 .bf16 := View.ld x (Rect.unit ![0, 0, 0] ![1, 256, 128] inb_S1x256x512_S1x256x128_0_0_0)
abbrev heads1 (x : Vec F S1x256x512 .bf16) : Vec F S1x256x128 .bf16 := View.ld x (Rect.unit ![0, 0, 128] ![1, 256, 128] inb_S1x256x512_S1x256x128_0_0_128)
abbrev heads2 (x : Vec F S1x256x512 .bf16) : Vec F S1x256x128 .bf16 := View.ld x (Rect.unit ![0, 0, 256] ![1, 256, 128] inb_S1x256x512_S1x256x128_0_0_256)
abbrev heads3 (x : Vec F S1x256x512 .bf16) : Vec F S1x256x128 .bf16 := View.ld x (Rect.unit ![0, 0, 384] ![1, 256, 128] inb_S1x256x512_S1x256x128_0_0_384)

/-- Head `r`'s rows of the running maxima. -/
abbrev maxima0 (g : Vec F S1024x128 .f32) : Vec F S256x128 .f32 := View.ld g (Rect.unit ![0, 0] ![256, 128] inb_S1024x128_S256x128_0_0)
abbrev maxima1 (g : Vec F S1024x128 .f32) : Vec F S256x128 .f32 := View.ld g (Rect.unit ![256, 0] ![256, 128] inb_S1024x128_S256x128_256_0)
abbrev maxima2 (g : Vec F S1024x128 .f32) : Vec F S256x128 .f32 := View.ld g (Rect.unit ![512, 0] ![256, 128] inb_S1024x128_S256x128_512_0)
abbrev maxima3 (g : Vec F S1024x128 .f32) : Vec F S256x128 .f32 := View.ld g (Rect.unit ![768, 0] ![256, 128] inb_S1024x128_S256x128_768_0)

/-- Head `r`'s rows of the running sums. -/
abbrev sums0 (g : Vec F S1024x256 .f32) : Vec F S256x256 .f32 := View.ld g (Rect.unit ![0, 0] ![256, 256] inb_S1024x256_S256x256_0_0)
abbrev sums1 (g : Vec F S1024x256 .f32) : Vec F S256x256 .f32 := View.ld g (Rect.unit ![256, 0] ![256, 256] inb_S1024x256_S256x256_256_0)
abbrev sums2 (g : Vec F S1024x256 .f32) : Vec F S256x256 .f32 := View.ld g (Rect.unit ![512, 0] ![256, 256] inb_S1024x256_S256x256_512_0)
abbrev sums3 (g : Vec F S1024x256 .f32) : Vec F S256x256 .f32 := View.ld g (Rect.unit ![768, 0] ![256, 256] inb_S1024x256_S256x256_768_0)

/-- Trip `k`'s chunk of the keys (or of the values): rows `2176 k` to `2176 k + 2175`. -/
def chunk (i : grid0.Coords) (h2 : k0_cond2 i = 1#1) (k : Fin k0_t1_loop.trips) (x : Vec F S1x4352x128 .bf16) : Vec F S1x2176x128 .bf16 :=
  View.ld x (Rect.unit (k0_off1 k) ![1, 2176, 128] (k0_off1_inb i k h2))

/-- The four heads' queries of a query block. -/
def heads (x : Vec F S1x256x512 .bf16) : Fin 4 → Vec F S1x256x128 .bf16 := ![heads0 x, heads1 x, heads2 x, heads3 x]

/-- The four heads' rows of the running maxima. -/
def maxima (g : Vec F S1024x128 .f32) : Fin 4 → Vec F S256x128 .f32 := ![maxima0 g, maxima1 g, maxima2 g, maxima3 g]

/-- The four heads' rows of the running sums. -/
def sums (g : Vec F S1024x256 .f32) : Fin 4 → Vec F S256x256 .f32 := ![sums0 g, sums1 g, sums2 g, sums3 g]

/-- Stores of the four heads' rows of the maxima, the last head's newest. -/
abbrev storesM (f : Fin 4 → Vec F S256x128 .f32) : List (View.Piece (Elt F) S1024x128 .f32) :=
  [⟨Rect.unit ![768, 0] ![256, 128] inb_S1024x128_S256x128_768_0, f 3⟩, ⟨Rect.unit ![512, 0] ![256, 128] inb_S1024x128_S256x128_512_0, f 2⟩,
   ⟨Rect.unit ![256, 0] ![256, 128] inb_S1024x128_S256x128_256_0, f 1⟩, ⟨Rect.unit ![0, 0] ![256, 128] inb_S1024x128_S256x128_0_0, f 0⟩]

/-- Stores of the four heads' rows of the sums, the last head's newest. -/
abbrev storesA (f : Fin 4 → Vec F S256x256 .f32) : List (View.Piece (Elt F) S1024x256 .f32) :=
  [⟨Rect.unit ![768, 0] ![256, 256] inb_S1024x256_S256x256_768_0, f 3⟩, ⟨Rect.unit ![512, 0] ![256, 256] inb_S1024x256_S256x256_512_0, f 2⟩,
   ⟨Rect.unit ![256, 0] ![256, 256] inb_S1024x256_S256x256_256_0, f 1⟩, ⟨Rect.unit ![0, 0] ![256, 256] inb_S1024x256_S256x256_0_0, f 0⟩]

/-- The rows of the maxima, read after the four stores over any earlier ones, are the stored rows. -/
theorem maxima_stores {sig : RefSig} {κ : Kind} {sp : Space} (v : View sig κ sp S1024x128 .f32) (f : Fin 4 → Vec F S256x128 .f32) (L : List (View.Piece (Elt F) S1024x128 .f32)) :
    maxima (v.read (Elt F) (v.writes (Elt F) v.junk (storesM f ++ L))) = f := by
  have e : ∀ r : Rect S1024x128, View.ld (v.read (Elt F) (v.writes (Elt F) v.junk (storesM f ++ L))) r = v.readCov (storesM f ++ L) r.toLoadRect := fun r => rfl
  funext r
  unfold maxima maxima0 maxima1 maxima2 maxima3
  simp only [e]
  simp only [storesM, List.cons_append, List.nil_append]
  match r with
  | 0 => simp (disch := decide) only [↓ View.readCov_skip, ↓ View.readCov_cons_toLoadRect]; rfl
  | 1 => simp (disch := decide) only [↓ View.readCov_skip, ↓ View.readCov_cons_toLoadRect]; rfl
  | 2 => simp (disch := decide) only [↓ View.readCov_skip, ↓ View.readCov_cons_toLoadRect]; rfl
  | 3 => simp (disch := decide) only [↓ View.readCov_skip, ↓ View.readCov_cons_toLoadRect]; rfl

/-- The rows of the sums, read after the four stores over any earlier ones, are the stored rows. -/
theorem sums_stores {sig : RefSig} {κ : Kind} {sp : Space} (v : View sig κ sp S1024x256 .f32) (f : Fin 4 → Vec F S256x256 .f32) (L : List (View.Piece (Elt F) S1024x256 .f32)) :
    sums (v.read (Elt F) (v.writes (Elt F) v.junk (storesA f ++ L))) = f := by
  have e : ∀ r : Rect S1024x256, View.ld (v.read (Elt F) (v.writes (Elt F) v.junk (storesA f ++ L))) r = v.readCov (storesA f ++ L) r.toLoadRect := fun r => rfl
  funext r
  unfold sums sums0 sums1 sums2 sums3
  simp only [e]
  simp only [storesA, List.cons_append, List.nil_append]
  match r with
  | 0 => simp (disch := decide) only [↓ View.readCov_skip, ↓ View.readCov_cons_toLoadRect]; rfl
  | 1 => simp (disch := decide) only [↓ View.readCov_skip, ↓ View.readCov_cons_toLoadRect]; rfl
  | 2 => simp (disch := decide) only [↓ View.readCov_skip, ↓ View.readCov_cons_toLoadRect]; rfl
  | 3 => simp (disch := decide) only [↓ View.readCov_skip, ↓ View.readCov_cons_toLoadRect]; rfl

/-- A fill of the whole scratch of maxima, read back. -/
theorem read_fillM {sig : RefSig} {κ : Kind} {sp : Space} (v : View sig κ sp S1024x128 .f32) (z : Vec F S1024x128 .f32) :
    v.read (Elt F) (v.writes (Elt F) v.junk [⟨Rect.unit ![0, 0] ![1024, 128] inb_S1024x128_S1024x128_0_0, z⟩]) = z := by
  rw [View.read_writes_junk_eq_canon]
  exact View.canon_cons_unit_lit (S := S1024x128) inb_S1024x128_S1024x128_0_0 z [] (by decide)

/-- A fill of the whole scratch of sums, read back. -/
theorem read_fillA {sig : RefSig} {κ : Kind} {sp : Space} (v : View sig κ sp S1024x256 .f32) (z : Vec F S1024x256 .f32) :
    v.read (Elt F) (v.writes (Elt F) v.junk [⟨Rect.unit ![0, 0] ![1024, 256] inb_S1024x256_S1024x256_0_0, z⟩]) = z := by
  rw [View.read_writes_junk_eq_canon]
  exact View.canon_cons_unit_lit (S := S1024x256) inb_S1024x256_S1024x256_0_0 z [] (by decide)

/-- The scratch of sums holding the four heads' rows. -/
def fullA (f : Fin 4 → Vec F S256x256 .f32) : Vec F S1024x256 .f32 := fun y =>
  f ⟨(y 0).val / 256, by have := (y 0).isLt; change (y 0).val < 1024 at this; omega⟩ (ix2 ⟨(y 0).val % 256, Nat.mod_lt _ (by decide)⟩ (y 1))

/-- Head `r`'s row `p` of the scratch of sums is its row `256 r + p`. -/
theorem fullA_block (f : Fin 4 → Vec F S256x256 .f32) (r : Fin 4) (p l : Fin 256) (y : S1024x256.Idx) (h0 : (y 0).val = 256 * r.val + p.val) (h1 : (y 1).val = l.val) :
    f r (ix2 p l) = fullA f y := by
  have e0 : (⟨(y 0).val / 256, by have := (y 0).isLt; change (y 0).val < 1024 at this; omega⟩ : Fin 4) = r := Fin.ext (by simp only [h0]; omega)
  have e1 : (⟨(y 0).val % 256, Nat.mod_lt _ (by decide)⟩ : Fin 256) = p := Fin.ext (by simp only [h0]; omega)
  have e2 : (y 1 : Fin 256) = l := Fin.ext h1
  unfold fullA
  rw [e0, e1, e2]

/-- The four stores over any earlier ones leave the scratch of sums holding the four heads' rows. -/
theorem canon_storesA (f : Fin 4 → Vec F S256x256 .f32) (L : List (View.Piece (Elt F) S1024x256 .f32)) :
    View.canon (storesA f ++ L) = fullA f := by
  funext y
  refine View.canon_append_of_piecesOf (fullA f) L (storesA f) ⟨?_, ?_, ?_, ?_, trivial⟩ y ?_
  · intro x; obtain ⟨p, l, rfl⟩ : ∃ (p : Fin 256) (l : Fin 256), x = ix2 p l := ⟨x 0, x 1, by funext a; fin_cases a <;> rfl⟩
    exact fullA_block f 3 p l _ (by simp [Rect.emb, Rect.unit]) (by simp [Rect.emb, Rect.unit])
  · intro x; obtain ⟨p, l, rfl⟩ : ∃ (p : Fin 256) (l : Fin 256), x = ix2 p l := ⟨x 0, x 1, by funext a; fin_cases a <;> rfl⟩
    exact fullA_block f 2 p l _ (by simp [Rect.emb, Rect.unit]) (by simp [Rect.emb, Rect.unit])
  · intro x; obtain ⟨p, l, rfl⟩ : ∃ (p : Fin 256) (l : Fin 256), x = ix2 p l := ⟨x 0, x 1, by funext a; fin_cases a <;> rfl⟩
    exact fullA_block f 1 p l _ (by simp [Rect.emb, Rect.unit]) (by simp [Rect.emb, Rect.unit])
  · intro x; obtain ⟨p, l, rfl⟩ : ∃ (p : Fin 256) (l : Fin 256), x = ix2 p l := ⟨x 0, x 1, by funext a; fin_cases a <;> rfl⟩
    exact fullA_block f 0 p l _ (by simp [Rect.emb, Rect.unit]) (by simp [Rect.emb, Rect.unit])
  · revert y; exact View.cover_of_tiledL (storesA f) ![256, 256] (by rfl)

set_option maxHeartbeats 4000000 in
/-- What one trip stores, head by head, is the step at that head's queries, maxima and sums. -/
theorem trip_eq (c : Dev nD) (i : grid0.Coords) (arg3 : Memref sig .tc .vmem S1x256x512 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x256x512 .bf16) (harg6 : arg6.IsWhole) (arg7 : Memref sig .tc .vmem S1024x128 .f32) (harg7 : arg7.IsWhole) (arg8 : Memref sig .tc .vmem S1024x256 .f32) (harg8 : arg8.IsWhole) (h2 : k0_cond2 i = 1#1)
    (x0 : Vec F S1x256x512 .bf16) (x1 x2 : Vec F S1x4352x128 .bf16) (k : Fin k0_t1_loop.trips) (g7 : BufTy.Contents (Elt F) arg7.view.ty) (g8 : BufTy.Contents (Elt F) arg8.view.ty) :
    tripL_k0_t1 (F := F) Variants.none c none i arg3 harg3 arg4 harg4 arg5 harg5 arg6 harg6 arg7 harg7 arg8 harg8 h2 (harg3.unread x0) (harg4.unread x1) (harg5.unread x2) k g7 g8
      = (storesM fun r => latM (heads x0 r) (chunk i h2 k x1) (maxima (View.read (Elt F) arg7.view g7) r),
         storesA fun r => latA (heads x0 r) (chunk i h2 k x1) (chunk i h2 k x2) (maxima (View.read (Elt F) arg7.view g7) r) (sums (View.read (Elt F) arg8.view g8) r)) := by
  have e3 : View.read (Elt F) arg3.view (harg3.unread x0) = x0 := harg3.read_unread x0
  have e4 : View.read (Elt F) arg4.view (harg4.unread x1) = x1 := harg4.read_unread x1
  have e5 : View.read (Elt F) arg5.view (harg5.unread x2) = x2 := harg5.read_unread x2
  conv_rhs => rw [← e3, ← e4, ← e5]
  unfold tripL_k0_t1 trip_k0_t1
  rfl

end Cert.KernelIdeal.Flash

end
-- ==== Proof.Blocks.lean ====
/- What a grid point leaves in its output block: the running sums after the point's last step, divided and dealt to the
   four heads' lanes. Points of the latent queries take two steps of 2176 keys, points of the context queries one step of 256. -/
module

public import proofs.«01_k».proof.Proof.Steps

@[expose] public section

set_option maxRecDepth 16384

noncomputable section

namespace Cert.KernelIdeal.Flash

open Cert.KernelIdeal Cert.KernelIdeal.Gen Idealize.ShloMosaic Idealize.ShloMosaic.TcCoe Idealize.SL.Sem

variable {F : FTy → Type} [FloatOps F]

/-- The output block of the running sums `a`: sums of weighted values over sums of weights, head by head. -/
def outBlock (a : Vec F S1024x256 .f32) : Vec F S1x256x512 .bf16 :=
  let n := View.ld a (Rect.unit ![0, 0] ![1024, 128] inb_S1024x256_S1024x128_0_0)
  let d := View.ld a (Rect.unit ![0, 128] ![1024, 128] inb_S1024x256_S1024x128_0_128)
  View.canon (Val := Elt F) [⟨Rect.unit ![0, 0, 384] ![1, 256, 128] inb_S1x256x512_S1x256x128_0_0_384, k0_pay2 (k0_pay140 n d)⟩,
    ⟨Rect.unit ![0, 0, 256] ![1, 256, 128] inb_S1x256x512_S1x256x128_0_0_256, k0_pay1 (k0_pay143 n d)⟩,
    ⟨Rect.unit ![0, 0, 128] ![1, 256, 128] inb_S1x256x512_S1x256x128_0_0_128, k0_pay142 n d⟩,
    ⟨Rect.unit ![0, 0, 0] ![1, 256, 128] inb_S1x256x512_S1x256x128_0_0_0, k0_pay141 n d⟩]

/-- The first of the two chunks, and the second. -/
abbrev trip0 : Fin k0_t1_loop.trips := ⟨0, by decide⟩
abbrev trip1 : Fin k0_t1_loop.trips := ⟨1, by decide⟩

/-- The maxima and the sums of head `r` after the two chunks of 2176 keys. -/
def latM1 (i : grid0.Coords) (h2 : k0_cond2 i = 1#1) (x0 : Vec F S1x256x512 .bf16) (x1 : Vec F S1x4352x128 .bf16) (r : Fin 4) : Vec F S256x128 .f32 :=
  latM (heads x0 r) (chunk i h2 trip0 x1) (maxima k0_pay134 r)
def latA1 (i : grid0.Coords) (h2 : k0_cond2 i = 1#1) (x0 : Vec F S1x256x512 .bf16) (x1 x2 : Vec F S1x4352x128 .bf16) (r : Fin 4) : Vec F S256x256 .f32 :=
  latA (heads x0 r) (chunk i h2 trip0 x1) (chunk i h2 trip0 x2) (maxima k0_pay134 r) (sums k0_pay135 r)
def latA2 (i : grid0.Coords) (h2 : k0_cond2 i = 1#1) (x0 : Vec F S1x256x512 .bf16) (x1 x2 : Vec F S1x4352x128 .bf16) (r : Fin 4) : Vec F S256x256 .f32 :=
  latA (heads x0 r) (chunk i h2 trip1 x1) (chunk i h2 trip1 x2) (latM1 i h2 x0 x1 r) (latA1 i h2 x0 x1 x2 r)

set_option maxHeartbeats 4000000 in
/-- A latent point's output block. -/
theorem out_lat (c : Dev nD) (i : grid0.Coords) (arg3 : Memref sig .tc .vmem S1x256x512 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x256x512 .bf16) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1x256x512 .bf16) (x1 : Vec F S1x4352x128 .bf16) (x2 : Vec F S1x4352x128 .bf16) :
    out0_A_3 c i arg3 harg3 arg4 harg4 arg5 harg5 arg6 harg6 arg7 harg7 arg8 harg8 hc0 hc1 x0 x1 x2
      = outBlock (fullA (latA2 i hc1 x0 x1 x2)) := by
  have htr : ∀ n, n = 2 → (pb_k0_t1 (F := F) Variants.none c none i arg3 harg3 arg4 harg4 arg5 harg5 arg6 harg6 arg7 harg7 arg8 harg8 hc1 (harg3.unread x0) (harg4.unread x1) (harg5.unread x2)
        (arg7.view.writes (Elt F) arg7.view.junk [⟨Rect.unit ![0, 0] ![1024, 128] inb_S1024x128_S1024x128_0_0, k0_pay134⟩])
        (arg8.view.writes (Elt F) arg8.view.junk [⟨Rect.unit ![0, 0] ![1024, 256] inb_S1024x256_S1024x256_0_0, k0_pay135⟩]) n).2
      = storesA (latA2 i hc1 x0 x1 x2) ++ (storesA (latA1 i hc1 x0 x1 x2) ++ []) := by
    rintro n rfl
    rw [show (2 : ℕ) = trip1.val + 1 from rfl, pb_k0_t1_succ, show trip1.val = trip0.val + 1 from rfl, pb_k0_t1_succ]
    rw [trip_eq, trip_eq]
    simp only [pb_k0_t1, View.writes_nil, ← View.writes_append, List.append_nil, read_fillM, read_fillA, maxima_stores, sums_stores]
    rfl
  frame_open
  simp (disch := decide) only [↓ View.readCov_skip, ↓ View.readCov_cons_toLoadRect, ↓ View.readCov_fill]
  frame_out
  rw [htr _ (by decide)]
  simp only [List.append_assoc, View.readCov_eq_canon', canon_storesA]

/-- The last 256 rows of the keys (or of the values): the context's. -/
def ctxRows (x : Vec F S1x4352x128 .bf16) : Vec F S1x256x128 .bf16 := View.ld x (Rect.unit ![0, 4096, 0] ![1, 256, 128] inb_S1x4352x128_S1x256x128_0_4096_0)

/-- The sums of head `r` after the one chunk of 256 context keys. -/
def ctxA1 (x0 : Vec F S1x256x512 .bf16) (x1 x2 : Vec F S1x4352x128 .bf16) (r : Fin 4) : Vec F S256x256 .f32 :=
  ctxA (heads x0 r) (ctxRows x1) (ctxRows x2) (maxima k0_pay134 r) (sums k0_pay135 r)

set_option maxHeartbeats 4000000 in
/-- A context point's output block. -/
theorem out_ctx (c : Dev nD) (i : grid0.Coords) (arg3 : Memref sig .tc .vmem S1x256x512 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x256x512 .bf16) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1x256x512 .bf16) (x1 : Vec F S1x4352x128 .bf16) (x2 : Vec F S1x4352x128 .bf16) :
    out0_B_3 c i arg3 harg3 arg4 harg4 arg5 harg5 arg6 harg6 arg7 harg7 arg8 harg8 hc0 hc1 x0 x1 x2
      = outBlock (fullA (ctxA1 x0 x1 x2)) := by
  frame_open
  simp (disch := decide) only [↓ View.readCov_skip, ↓ View.readCov_cons_toLoadRect, ↓ View.readCov_fill]
  frame_out
  rw [← canon_storesA (ctxA1 x0 x1 x2) [⟨Rect.unit ![0, 0] ![1024, 256] inb_S1024x256_S1024x256_0_0, k0_pay135⟩]]
  simp only [View.readCov_eq_canon']
  rfl

end Cert.KernelIdeal.Flash

end
-- ==== Proof.Math.lean ====
/- Softmax over the extended reals: weights that are reals, values that are any extended reals. -/
module

public import Idealize.ShloMosaic.PureOps.Ideal
public import Idealize.ShloMosaic.Lib.Pointwise

@[expose] public section

noncomputable section

namespace Cert.Softmax

open Idealize.ShloMosaic

/-- An extended real that is a real. -/
def IsReal (x : EReal) : Prop := ∃ r : ℝ, x = (r : EReal)

theorem isReal_coe (r : ℝ) : IsReal (r : EReal) := ⟨r, rfl⟩

theorem isReal_max {x y : EReal} (hx : IsReal x) (hy : IsReal y) : IsReal (max x y) := by
  rcases max_choice x y with h | h <;> rw [h] <;> assumption

theorem isReal_max_of_ne_top {x y : EReal} (hx : x ≠ ⊤) (hy : IsReal y) : IsReal (max x y) := by
  induction x using EReal.rec with
  | bot => simpa using hy
  | top => exact absurd rfl hx
  | coe x => exact isReal_max (isReal_coe x) hy

/-- The maximum of reals from a start that is real or minus infinity is a real, when there are any. -/
theorem isReal_fold {ι : Type} [Fintype ι] [Nonempty ι] (b : EReal) (hb : b ≠ ⊤) (f : ι → EReal) (hf : ∀ i, IsReal (f i)) :
    IsReal (Finset.fold max b f Finset.univ) := by
  classical
  have key : ∀ s : Finset ι, s.Nonempty → IsReal (Finset.fold max b f s) := by
    intro s hs
    induction hs using Finset.Nonempty.cons_induction with
    | singleton a =>
      rw [Finset.fold_singleton]
      obtain ⟨r, hr⟩ := hf a
      rw [hr]
      induction b using EReal.rec with
      | bot => exact ⟨r, by simp⟩
      | top => exact absurd rfl hb
      | coe x => exact isReal_max (isReal_coe r) (isReal_coe x)
    | cons a s ha hs ih =>
      rw [Finset.fold_cons]
      exact isReal_max (hf a) ih
  exact key _ Finset.univ_nonempty

/-- A real factor that is not negative goes into a sum of extended reals. -/
theorem mul_sum {ι : Type} (t : Finset ι) (c : ℝ) (hc : 0 ≤ c) (f : ι → EReal) : (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of reals. -/
theorem exp_sub (x y : ℝ) : Ideal.exp ((x : EReal) - (y : EReal)) = ((Real.exp (x - y) : ℝ) : EReal) := by
  rw [← EReal.coe_sub]; rfl

/-- The weight of place `j` among real scores. -/
def weight {ι : Type} [Fintype ι] (s : ι → ℝ) (j : ι) : ℝ := Real.exp (s j) / ∑ i, Real.exp (s i)

/-- The softmax average of extended real values. -/
def average {ι : Type} [Fintype ι] (s : ι → ℝ) (v : ι → EReal) : EReal := ∑ j, ((weight s j : ℝ) : EReal) * v j

variable {ι : Type} [Fintype ι] [Nonempty ι]

theorem sum_exp_pos (s : ι → ℝ) (M : ℝ) : 0 < ∑ i, Real.exp (s i - M) :=
  Finset.sum_pos (fun _ _ => Real.exp_pos _) Finset.univ_nonempty

/-- The weights do not change when all scores are shifted. -/
theorem weight_shift (s : ι → ℝ) (M : ℝ) (j : ι) : Real.exp (s j - M) / ∑ i, Real.exp (s i - M) = weight s j := by
  unfold weight
  simp only [Real.exp_sub]
  rw [← Finset.sum_div]
  have : Real.exp M ≠ 0 := (Real.exp_pos M).ne'
  field_simp

/-- Weighted values over weights, both shifted alike: the average. -/
theorem div_sums (s : ι → ℝ) (M : ℝ) (v : ι → EReal) :
    Ideal.div (∑ j, ((Real.exp (s j - M) : ℝ) : EReal) * v j) (∑ j, ((Real.exp (s j - M) : ℝ) : EReal) * 1) = average s v := by
  have hp := sum_exp_pos s M
  simp only [mul_one]
  rw [← coe_sum, Ideal.div_coe hp.ne', mul_comm, mul_sum _ _ (by positivity)]
  unfold average
  refine Finset.sum_congr rfl fun j _ => ?_
  rw [← mul_assoc, ← EReal.coe_mul, ← weight_shift s M j]
  congr 2
  ring

/-- Shifted weights, each divided by their sum, against the values: the average. -/
theorem sum_div (s : ι → ℝ) (M : ℝ) (v : ι → EReal) :
    (∑ j, Ideal.div ((Real.exp (s j - M) : ℝ) : EReal) (∑ i, ((Real.exp (s i - M) : ℝ) : EReal)) * v j) = average s v := by
  have hp := sum_exp_pos s M
  unfold average
  refine Finset.sum_congr rfl fun j _ => ?_
  rw [← coe_sum, Ideal.div_coe hp.ne', ← EReal.coe_mul, ← weight_shift s M j]
  congr 2
  ring

/-- One chunk after another: sums at an earlier shift, rescaled, and the next chunk's, are the sums over both at the new shift. -/
theorem two_chunks {n k : ℕ} (M1 M2 : ℝ) (s : Fin (n + k) → ℝ) (v : Fin (n + k) → EReal) :
    ((Real.exp (M1 - M2) : ℝ) : EReal) * (∑ j : Fin n, ((Real.exp (s (j.castAdd k) - M1) : ℝ) : EReal) * v (j.castAdd k))
        + ∑ j : Fin k, ((Real.exp (s (j.natAdd n) - M2) : ℝ) : EReal) * v (j.natAdd n)
      = ∑ j, ((Real.exp (s j - M2) : ℝ) : EReal) * v j := by
  rw [Fin.sum_univ_add, mul_sum _ _ (Real.exp_pos _).le]
  congr 1
  refine Finset.sum_congr rfl fun j _ => ?_
  rw [← mul_assoc, ← EReal.coe_mul, ← Real.exp_add]
  congr 3
  ring

/-- The average over the places renamed. -/
theorem average_equiv {κ : Type} [Fintype κ] (e : κ ≃ ι) (s : ι → ℝ) (v : ι → EReal) :
    average (fun i => s (e i)) (fun i => v (e i)) = average s v := by
  unfold average weight
  rw [← Equiv.sum_comp e (fun i => Real.exp (s i)), ← Equiv.sum_comp e (fun j => ((Real.exp (s j) / _ : ℝ) : EReal) * v j)]

end Cert.Softmax

end
-- ==== Proof.Values.lean ====
/- The steps' values over the reals: the scores of a chunk, the maxima and the sums after it, each at one index. -/
module

public import proofs.«01_k».proof.Proof.Blocks
public import proofs.«01_k».proof.Proof.Math

@[expose] public section

set_option maxRecDepth 16384

noncomputable section

namespace Cert.KernelIdeal.Flash

open Cert.KernelIdeal Cert.KernelIdeal.Gen Idealize.ShloMosaic Idealize.ShloMosaic.TcCoe Idealize.SL.Sem Cert.Softmax

/-- The start of a row's maximum is minus infinity. -/
theorem ofBits_neg_inf : Ideal.ofBits .f32 0xFF800000#32 = ⊥ := by simp [Ideal.ofBits, Ideal.ieee]

/-- The fill of the running maxima is not plus infinity. -/
theorem ofBits_fill : Ideal.ofBits .f32 0xF149F2CA#32 ≠ ⊤ := by simp [Ideal.ofBits, Ideal.ieee, -EReal.coe_mul, -EReal.coe_neg]

/-- A chunk's score of query `p` against key `j`. -/
theorem score_lat (q : Vec Ideal S1x256x128 .bf16) (k : Vec Ideal S1x2176x128 .bf16) (p : Fin 256) (j : Fin 2176) :
    k0_pay32 (F := Ideal) k q (ix2 p j) = ∑ d : Fin 128, q (ix3 0 p d) * k (ix3 0 j d) := by
  unfold k0_pay32 k0_pay30
  pointwise

/-- The values beside ones. -/
theorem vaug_lat (v : Vec Ideal S1x2176x128 .bf16) (j : Fin 2176) (c : Fin 256) :
    k0_pay31 (F := Ideal) v (ix2 j c) = if h : c.val < 128 then v (ix3 0 j ⟨c.val, h⟩) else 1 := by
  unfold k0_pay31
  pointwise

/-- The score matrix's seventeen slabs of 128 keys. -/
def slab (q : Vec Ideal S1x256x128 .bf16) (k : Vec Ideal S1x2176x128 .bf16) : Fin 17 → Vec Ideal S256x128 .f32 :=
  ![k0_pay33 k q, k0_pay34 k q, k0_pay35 k q, k0_pay36 k q, k0_pay37 k q, k0_pay38 k q, k0_pay39 k q, k0_pay40 k q, k0_pay41 k q, k0_pay42 k q, k0_pay43 k q, k0_pay44 k q, k0_pay45 k q, k0_pay46 k q, k0_pay47 k q, k0_pay48 k q, k0_pay49 k q]

/-- Lane `l` of slab `n` is key `128 n + l`. -/
theorem slab_apply (q : Vec Ideal S1x256x128 .bf16) (k : Vec Ideal S1x2176x128 .bf16) (n : Fin 17) (p : Fin 256) (l : Fin 128) :
    slab q k n (ix2 p l) = k0_pay32 (F := Ideal) k q (ix2 p ⟨128 * n.val + l.val, by omega⟩) := by
  unfold slab
  fin_cases n
  all_goals
    unfold_payloads
    pointwise!

theorem latM_eq (q : Vec Ideal S1x256x128 .bf16) (k : Vec Ideal S1x2176x128 .bf16) (m : Vec Ideal S256x128 .f32) :
    latM (F := Ideal) q k m = k0_pay51 m (k0_pay50 k q) := by
  funext y
  idx_vars y
  unfold latM k0_pay53
  pointwise

theorem latM_real (q : Vec Ideal S1x256x128 .bf16) (k : Vec Ideal S1x2176x128 .bf16) (m : Vec Ideal S256x128 .f32) (p : Fin 256)
    (hm : ∃ x : EReal, x ≠ ⊤ ∧ ∀ l, m (ix2 p l) = x) (hs : ∀ j, IsReal (k0_pay32 (F := Ideal) k q (ix2 p j))) :
    ∃ M : ℝ, ∀ l, latM (F := Ideal) q k m (ix2 p l) = (M : EReal) := by
  obtain ⟨x, hx, hm⟩ := hm
  have hsl : ∀ n l, IsReal (slab q k n (ix2 p l)) := fun n l => by
    rw [slab_apply q k n p l]; exact hs _
  have hr : IsReal (Finset.fold max (Ideal.ofBits .f32 0xFF800000#32) (fun l : Fin 128 => k0_pay50 (F := Ideal) k q (ix2 p l)) Finset.univ) := by
    refine isReal_fold _ (by rw [ofBits_neg_inf]; exact bot_ne_top) _ fun l => ?_
    unfold k0_pay50
    pointwise
    repeat' apply isReal_max
    exacts [hsl 0 l, hsl 1 l, hsl 2 l, hsl 3 l, hsl 4 l, hsl 5 l, hsl 6 l, hsl 7 l, hsl 8 l, hsl 9 l, hsl 10 l, hsl 11 l, hsl 12 l, hsl 13 l, hsl 14 l, hsl 15 l, hsl 16 l]
  have hf : ∀ l, latM (F := Ideal) q k m (ix2 p l) = max (m (ix2 p l)) (Finset.fold max (Ideal.ofBits .f32 0xFF800000#32) (fun l : Fin 128 => k0_pay50 (F := Ideal) k q (ix2 p l)) Finset.univ) := by
    intro l
    unfold latM k0_pay53 k0_pay51
    pointwise
  obtain ⟨M, hM⟩ := isReal_max_of_ne_top hx hr
  exact ⟨M, fun l => by rw [hf, hm, hM]⟩

theorem latA_eq (q : Vec Ideal S1x256x128 .bf16) (k v : Vec Ideal S1x2176x128 .bf16) (m : Vec Ideal S256x128 .f32) (a : Vec Ideal S256x256 .f32) :
    latA (F := Ideal) q k v m a = k0_pay138 (k0_pay31 v) (k0_pay132 (k0_pay33 k q) (k0_pay34 k q) (k0_pay35 k q) (k0_pay36 k q) (k0_pay37 k q) (k0_pay38 k q) (k0_pay39 k q) (k0_pay40 k q) (k0_pay41 k q) (k0_pay42 k q) (k0_pay43 k q) (k0_pay44 k q) (k0_pay45 k q) (k0_pay46 k q) (k0_pay47 k q) (k0_pay48 k q) (k0_pay49 k q) m) (k0_pay133 (k0_pay33 k q) (k0_pay34 k q) (k0_pay35 k q) (k0_pay36 k q) (k0_pay37 k q) (k0_pay38 k q) (k0_pay39 k q) (k0_pay40 k q) (k0_pay41 k q) (k0_pay42 k q) (k0_pay43 k q) (k0_pay44 k q) (k0_pay45 k q) (k0_pay46 k q) (k0_pay47 k q) (k0_pay48 k q) (k0_pay49 k q) m) a := rfl

/-- A chunk's weights. -/
theorem weights_lat (q : Vec Ideal S1x256x128 .bf16) (k : Vec Ideal S1x2176x128 .bf16) (m : Vec Ideal S256x128 .f32) (p : Fin 256) (j : Fin 2176) :
    k0_pay133 (F := Ideal) (k0_pay33 k q) (k0_pay34 k q) (k0_pay35 k q) (k0_pay36 k q) (k0_pay37 k q) (k0_pay38 k q) (k0_pay39 k q) (k0_pay40 k q) (k0_pay41 k q) (k0_pay42 k q) (k0_pay43 k q) (k0_pay44 k q) (k0_pay45 k q) (k0_pay46 k q) (k0_pay47 k q) (k0_pay48 k q) (k0_pay49 k q) m (ix2 p j)
      = Ideal.exp (k0_pay32 (F := Ideal) k q (ix2 p j) - latM (F := Ideal) q k m (ix2 p ⟨j.val % 128, Nat.mod_lt _ (by decide)⟩)) := by
  refine (concatenate_ofFn_apply (N := 17) (t := S256x2176) (s₁ := S256x128) 1 (fun n => exp (subf (slab q k n) (k0_pay51 m (k0_pay50 k q)))) concatenates_S256x128_S256x128_S256x128_S256x128_S256x128_S256x128_S256x128_S256x128_S256x128_S256x128_S256x128_S256x128_S256x128_S256x128_S256x128_S256x128_S256x128_S256x2176_d1 rfl 128 rfl (ix2 p j) ⟨j.val / 128, by omega⟩ rfl
    (ix2 p ⟨j.val % 128, Nat.mod_lt _ (by decide)⟩) rfl (by intro b hb; fin_cases b; · rfl
                                                            · exact absurd rfl hb)).trans ?_
  rw [latM_eq]
  show Ideal.exp (slab q k _ _ - _) = _
  rw [slab_apply q k]
  congr 4
  exact Fin.ext (Nat.div_add_mod _ _)

/-- A chunk's rescaling of the earlier sums. -/
theorem alpha_lat (q : Vec Ideal S1x256x128 .bf16) (k : Vec Ideal S1x2176x128 .bf16) (m : Vec Ideal S256x128 .f32) (p : Fin 256) (l : Fin 128) :
    k0_pay132 (F := Ideal) (k0_pay33 k q) (k0_pay34 k q) (k0_pay35 k q) (k0_pay36 k q) (k0_pay37 k q) (k0_pay38 k q) (k0_pay39 k q) (k0_pay40 k q) (k0_pay41 k q) (k0_pay42 k q) (k0_pay43 k q) (k0_pay44 k q) (k0_pay45 k q) (k0_pay46 k q) (k0_pay47 k q) (k0_pay48 k q) (k0_pay49 k q) m (ix2 p l) = Ideal.exp (m (ix2 p l) - latM (F := Ideal) q k m (ix2 p l)) := by
  rw [latM_eq]
  rfl

/-- The sums after a chunk, from its values, its rescaling and its weights. -/
theorem sums_lat (V : FVec Ideal S2176x256 .bf16) (al : FVec Ideal S256x128 .f32) (w : FVec Ideal S256x2176 .f32) (a : Vec Ideal S256x256 .f32) (p c : Fin 256) :
    k0_pay138 (F := Ideal) V al w a (ix2 p c) = al (ix2 p ⟨c.val % 128, Nat.mod_lt _ (by decide)⟩) * a (ix2 p c) + ∑ j : Fin 2176, w (ix2 p j) * V (ix2 j c) := by
  unfold k0_pay138
  pointwise
  congr 2
  split
  · exact congrArg (fun x => al (ix2 p x)) (Fin.ext (Nat.mod_eq_of_lt ‹_›).symm)
  · exact congrArg (fun x => al (ix2 p x)) (Fin.ext (by simp only; omega))

/-- The sums after a chunk of 2176 keys, at one index. -/
theorem latA_apply (q : Vec Ideal S1x256x128 .bf16) (k v : Vec Ideal S1x2176x128 .bf16) (m : Vec Ideal S256x128 .f32) (a : Vec Ideal S256x256 .f32) (p c : Fin 256) :
    latA (F := Ideal) q k v m a (ix2 p c)
      = Ideal.exp (m (ix2 p ⟨c.val % 128, Nat.mod_lt _ (by decide)⟩) - latM (F := Ideal) q k m (ix2 p ⟨c.val % 128, Nat.mod_lt _ (by decide)⟩)) * a (ix2 p c)
        + ∑ j : Fin 2176, Ideal.exp (k0_pay32 (F := Ideal) k q (ix2 p j) - latM (F := Ideal) q k m (ix2 p ⟨j.val % 128, Nat.mod_lt _ (by decide)⟩))
            * k0_pay31 (F := Ideal) v (ix2 j c) := by
  rw [latA_eq, sums_lat, alpha_lat]
  exact congrArg _ (Finset.sum_congr rfl fun j _ => by rw [weights_lat])

/-! ## The chunk of 256 context keys -/

/-- The context chunk's score of query `p` against key `j`. -/
theorem score_ctx (q k : Vec Ideal S1x256x128 .bf16) (p j : Fin 256) :
    k0_pay5 (F := Ideal) k q (ix2 p j) = ∑ d : Fin 128, q (ix3 0 p d) * k (ix3 0 j d) := by
  unfold k0_pay5 k0_pay3
  pointwise

/-- The context's values beside ones. -/
theorem vaug_ctx (v : Vec Ideal S1x256x128 .bf16) (j c : Fin 256) :
    k0_pay4 (F := Ideal) v (ix2 j c) = if h : c.val < 128 then v (ix3 0 j ⟨c.val, h⟩) else 1 := by
  unfold k0_pay4
  pointwise

/-- The maxima after the context chunk are reals, the same on every lane. -/
theorem ctxM_real (q k : Vec Ideal S1x256x128 .bf16) (m : Vec Ideal S256x128 .f32) (p : Fin 256)
    (hm : ∃ x : EReal, x ≠ ⊤ ∧ ∀ l, m (ix2 p l) = x) (hs : ∀ j, IsReal (k0_pay5 (F := Ideal) k q (ix2 p j))) :
    ∃ M : ℝ, ∀ l, k0_pay8 (F := Ideal) k q m (ix2 p l) = (M : EReal) := by
  obtain ⟨x, hx, hm⟩ := hm
  have hr : IsReal (Finset.fold max (Ideal.ofBits .f32 0xFF800000#32) (fun l : Fin 128 => maximumf (k0_pay6 (F := Ideal) k q) (k0_pay7 k q) (ix2 p l)) Finset.univ) := by
    refine isReal_fold _ (by rw [ofBits_neg_inf]; exact bot_ne_top) _ fun l => ?_
    unfold k0_pay6 k0_pay7
    pointwise
    exact isReal_max (hs _) (hs _)
  have hf : ∀ l, k0_pay8 (F := Ideal) k q m (ix2 p l) = max (m (ix2 p l)) (Finset.fold max (Ideal.ofBits .f32 0xFF800000#32) (fun l : Fin 128 => maximumf (k0_pay6 (F := Ideal) k q) (k0_pay7 k q) (ix2 p l)) Finset.univ) := by
    intro l
    unfold k0_pay8
    pointwise
  obtain ⟨M, hM⟩ := isReal_max_of_ne_top hx hr
  exact ⟨M, fun l => by rw [hf, hm, hM]⟩

theorem ctxA_eq (q k v : Vec Ideal S1x256x128 .bf16) (m : Vec Ideal S256x128 .f32) (a : Vec Ideal S256x256 .f32) :
    ctxA (F := Ideal) q k v m a = k0_pay136 (k0_pay4 v) (k0_pay28 (k0_pay3 k) q m) (k0_pay29 (k0_pay3 k) q m) a := rfl

/-- The context chunk's weights. -/
theorem weights_ctx (q k : Vec Ideal S1x256x128 .bf16) (m : Vec Ideal S256x128 .f32) (p j : Fin 256) :
    k0_pay28 (F := Ideal) (k0_pay3 k) q m (ix2 p j)
      = Ideal.exp (k0_pay5 (F := Ideal) k q (ix2 p j) - k0_pay8 (F := Ideal) k q m (ix2 p ⟨j.val % 128, Nat.mod_lt _ (by decide)⟩)) := by
  have e : k0_pay28 (F := Ideal) (k0_pay3 k) q m
      = truncf .bf16 (concatenate S256x256 1 [⟨S256x128, exp (subf (extractStridedSlice S256x128 ![0, 0] (k0_pay5 k q) slices_S256x256_o0_0_S256x128) (k0_pay8 k q m))⟩,
          ⟨S256x128, exp (subf (extractStridedSlice S256x128 ![0, 128] (k0_pay5 k q) slices_S256x256_o0_128_S256x128) (k0_pay8 k q m))⟩] concatenates_S256x128_S256x128_S256x256_d1) bitsLt_bf16_f32 := rfl
  rw [e]
  generalize k0_pay8 (F := Ideal) k q m = M
  generalize k0_pay5 (F := Ideal) k q = S
  pointwise
  split
  · rw [show (⟨j.val % 128, Nat.mod_lt _ (by decide)⟩ : Fin 128) = ⟨j.val, ‹_›⟩ from Fin.ext (Nat.mod_eq_of_lt ‹_›)]
  · rw [show (⟨j.val % 128, Nat.mod_lt _ (by decide)⟩ : Fin 128) = ⟨j.val - 128, by omega⟩ from Fin.ext (by simp only; omega)]
    exact congrArg (fun x => Ideal.exp (S (ix2 p x) - M (ix2 p _))) (Fin.ext (by simp only; omega))

/-- The context chunk's rescaling of the sums before it. -/
theorem alpha_ctx (q k : Vec Ideal S1x256x128 .bf16) (m : Vec Ideal S256x128 .f32) (p c : Fin 256) :
    k0_pay29 (F := Ideal) (k0_pay3 k) q m (ix2 p c)
      = Ideal.exp (m (ix2 p ⟨c.val % 128, Nat.mod_lt _ (by decide)⟩) - k0_pay8 (F := Ideal) k q m (ix2 p ⟨c.val % 128, Nat.mod_lt _ (by decide)⟩)) := by
  have e : k0_pay29 (F := Ideal) (k0_pay3 k) q m = concatenate S256x256 1 [⟨S256x128, exp (subf m (k0_pay8 k q m))⟩, ⟨S256x128, exp (subf m (k0_pay8 k q m))⟩] concatenates_S256x128_S256x128_S256x256_d1 := rfl
  rw [e]
  generalize k0_pay8 (F := Ideal) k q m = M
  pointwise
  split
  · rw [show (⟨c.val % 128, Nat.mod_lt _ (by decide)⟩ : Fin 128) = ⟨c.val, ‹_›⟩ from Fin.ext (Nat.mod_eq_of_lt ‹_›)]
  · rw [show (⟨c.val % 128, Nat.mod_lt _ (by decide)⟩ : Fin 128) = ⟨c.val - 128, by omega⟩ from Fin.ext (by simp only; omega)]

/-- The sums after the chunk, from its values, its weights and its rescaling. -/
theorem sums_ctx (V w : FVec Ideal S256x256 .bf16) (al : FVec Ideal S256x256 .f32) (a : Vec Ideal S256x256 .f32) (p c : Fin 256) :
    k0_pay136 (F := Ideal) V w al a (ix2 p c) = al (ix2 p c) * a (ix2 p c) + ∑ j : Fin 256, w (ix2 p j) * V (ix2 j c) := by
  unfold k0_pay136
  pointwise

/-- The sums after the chunk of 256 context keys, at one index. -/
theorem ctxA_apply (q k v : Vec Ideal S1x256x128 .bf16) (m : Vec Ideal S256x128 .f32) (a : Vec Ideal S256x256 .f32) (p c : Fin 256) :
    ctxA (F := Ideal) q k v m a (ix2 p c)
      = Ideal.exp (m (ix2 p ⟨c.val % 128, Nat.mod_lt _ (by decide)⟩) - k0_pay8 (F := Ideal) k q m (ix2 p ⟨c.val % 128, Nat.mod_lt _ (by decide)⟩)) * a (ix2 p c)
        + ∑ j : Fin 256, Ideal.exp (k0_pay5 (F := Ideal) k q (ix2 p j) - k0_pay8 (F := Ideal) k q m (ix2 p ⟨j.val % 128, Nat.mod_lt _ (by decide)⟩))
            * k0_pay4 (F := Ideal) v (ix2 j c) := by
  rw [ctxA_eq, sums_ctx, alpha_ctx]
  exact congrArg _ (Finset.sum_congr rfl fun j _ => by rw [weights_ctx])

end Cert.KernelIdeal.Flash

end
-- ==== Proof.BlockValues.lean ====
/- A grid point's output block over the reals: every element is the softmax average of the values, over all 4352 keys
   at a latent point and over the last 256 keys at a context point. -/
module

public import proofs.«01_k».proof.Proof.Values

@[expose] public section

set_option maxRecDepth 16384

noncomputable section

namespace Cert.KernelIdeal.Flash

open Cert.KernelIdeal Cert.KernelIdeal.Gen Idealize.ShloMosaic Idealize.ShloMosaic.TcCoe Idealize.SL.Sem Cert.Softmax

theorem heads_apply (x : Vec Ideal S1x256x512 .bf16) (r : Fin 4) (p : Fin 256) (d : Fin 128) :
    heads x r (ix3 0 p d) = x (ix3 0 p ⟨128 * r.val + d.val, by omega⟩) := by
  unfold heads heads0 heads1 heads2 heads3
  fin_cases r <;> pointwise!

theorem maxima_fill (r : Fin 4) (p : Fin 256) (l : Fin 128) : maxima (F := Ideal) (k0_pay134 (F := Ideal)) r (ix2 p l) = Ideal.ofBits .f32 0xF149F2CA#32 := by
  unfold maxima maxima0 maxima1 maxima2 maxima3 k0_pay134
  fin_cases r <;> pointwise!

theorem sums_fill (r : Fin 4) (p c : Fin 256) : sums (F := Ideal) (k0_pay135 (F := Ideal)) r (ix2 p c) = 0 := by
  unfold sums sums0 sums1 sums2 sums3 k0_pay135
  fin_cases r <;> pointwise!

theorem chunk0_apply (i : grid0.Coords) (h2 : k0_cond2 i = 1#1) (x : Vec Ideal S1x4352x128 .bf16) (j : Fin 2176) (d : Fin 128) :
    chunk i h2 trip0 x (ix3 0 j d) = x (ix3 0 (j.castAdd 2176) d) := by
  unfold chunk
  pointwise!

theorem chunk1_apply (i : grid0.Coords) (h2 : k0_cond2 i = 1#1) (x : Vec Ideal S1x4352x128 .bf16) (j : Fin 2176) (d : Fin 128) :
    chunk i h2 trip1 x (ix3 0 j d) = x (ix3 0 (j.natAdd 2176) d) := by
  unfold chunk
  pointwise!

theorem ctxRows_apply (x : Vec Ideal S1x4352x128 .bf16) (j : Fin 256) (d : Fin 128) :
    ctxRows x (ix3 0 j d) = x (ix3 0 ⟨4096 + j.val, by omega⟩ d) := by
  unfold ctxRows
  pointwise!

theorem outBlock_apply (a : Vec Ideal S1024x256 .f32) (r : Fin 4) (p : Fin 256) (l : Fin 128) :
    outBlock a (ix3 0 p ⟨128 * r.val + l.val, by omega⟩)
      = Ideal.div (a (ix2 ⟨256 * r.val + p.val, by omega⟩ ⟨l.val, by omega⟩)) (a (ix2 ⟨256 * r.val + p.val, by omega⟩ ⟨128 + l.val, by omega⟩)) := by
  unfold outBlock
  canon_tiles x h
  all_goals
    change p.val = _ at h1
    change 128 * r.val + l.val = _ at h2
  · obtain rfl : r = 3 := Fin.ext (by show r.val = 3; omega)
    obtain rfl : x = ix3 0 p l := by
      funext a
      fin_cases a
      · exact Fin.ext (by show (x 0).val = 0; omega)
      · exact Fin.ext h1.symm
      · exact Fin.ext (by show (x 2).val = l.val; omega)
    unfold_payloads
    pointwise!
  · obtain rfl : r = 2 := Fin.ext (by show r.val = 2; omega)
    obtain rfl : x = ix3 0 p l := by
      funext a
      fin_cases a
      · exact Fin.ext (by show (x 0).val = 0; omega)
      · exact Fin.ext h1.symm
      · exact Fin.ext (by show (x 2).val = l.val; omega)
    unfold_payloads
    pointwise!
  · obtain rfl : r = 1 := Fin.ext (by show r.val = 1; omega)
    obtain rfl : x = ix3 0 p l := by
      funext a
      fin_cases a
      · exact Fin.ext (by show (x 0).val = 0; omega)
      · exact Fin.ext h1.symm
      · exact Fin.ext (by show (x 2).val = l.val; omega)
    unfold_payloads
    pointwise!
  · obtain rfl : r = 0 := Fin.ext (by show r.val = 0; omega)
    obtain rfl : x = ix3 0 p l := by
      funext a
      fin_cases a
      · exact Fin.ext (by show (x 0).val = 0; omega)
      · exact Fin.ext h1.symm
      · exact Fin.ext (by show (x 2).val = l.val; omega)
    unfold_payloads
    pointwise!

/-- Query `p` of head `r` against key `j`: the real score. -/
def blkScore (X : Fin 256 → Fin 512 → ℝ) {n : ℕ} (Y : Fin n → Fin 128 → ℝ) (r : Fin 4) (p : Fin 256) (j : Fin n) : ℝ :=
  ∑ d : Fin 128, X p ⟨128 * r.val + d.val, by omega⟩ * Y j d

/-- The values of lane `l`, or the ones beside them. -/
def vaug {n : ℕ} (v : Fin n → Fin 128 → EReal) (c : Fin 256) (j : Fin n) : EReal := if h : c.val < 128 then v j ⟨c.val, h⟩ else 1

theorem coe_score {n : ℕ} (X : Fin 128 → ℝ) (Y : Fin n → Fin 128 → ℝ) (j : Fin n) :
    (∑ d : Fin 128, ((X d : ℝ) : EReal) * ((Y j d : ℝ) : EReal)) = ((∑ d : Fin 128, X d * Y j d : ℝ) : EReal) := by
  rw [coe_sum]
  exact Finset.sum_congr rfl fun d _ => (EReal.coe_mul _ _).symm

/-- The running sums after both chunks: over all 4352 keys, at one real shift per query. -/
theorem latA2_val (i : grid0.Coords) (h2 : k0_cond2 i = 1#1) (x0 : Vec Ideal S1x256x512 .bf16) (x1 x2 : Vec Ideal S1x4352x128 .bf16)
    (X : Fin 256 → Fin 512 → ℝ) (Y : Fin 4352 → Fin 128 → ℝ) (hX : ∀ p d, x0 (ix3 0 p d) = ((X p d : ℝ) : EReal)) (hY : ∀ j d, x1 (ix3 0 j d) = ((Y j d : ℝ) : EReal))
    (r : Fin 4) (p : Fin 256) :
    ∃ M : ℝ, ∀ c : Fin 256, latA2 i h2 x0 x1 x2 r (ix2 p c) = ∑ j : Fin 4352, ((Real.exp (blkScore X Y r p j - M) : ℝ) : EReal) * vaug (fun j l => x2 (ix3 0 j l)) c j := by
  have hs0 : ∀ j : Fin 2176, k0_pay32 (F := Ideal) (chunk i h2 trip0 x1) (heads x0 r) (ix2 p j) = ((blkScore X Y r p (j.castAdd 2176) : ℝ) : EReal) := fun j => by
    rw [score_lat]; simp only [heads_apply, chunk0_apply, hX, hY]; exact coe_score _ _ _
  have hs1 : ∀ j : Fin 2176, k0_pay32 (F := Ideal) (chunk i h2 trip1 x1) (heads x0 r) (ix2 p j) = ((blkScore X Y r p (j.natAdd 2176) : ℝ) : EReal) := fun j => by
    rw [score_lat]; simp only [heads_apply, chunk1_apply, hX, hY]; exact coe_score _ _ _
  obtain ⟨M1, hM1⟩ := latM_real (heads x0 r) (chunk i h2 trip0 x1) (maxima (F := Ideal) (k0_pay134 (F := Ideal)) r) p
    ⟨_, ofBits_fill, fun l => maxima_fill r p l⟩ (fun j => ⟨_, hs0 j⟩)
  obtain ⟨M2, hM2⟩ := latM_real (heads x0 r) (chunk i h2 trip1 x1) (latM1 i h2 x0 x1 r) p
    ⟨_, EReal.coe_ne_top M1, hM1⟩ (fun j => ⟨_, hs1 j⟩)
  refine ⟨M2, fun c => ?_⟩
  have hv0 : ∀ j : Fin 2176, k0_pay31 (F := Ideal) (chunk i h2 trip0 x2) (ix2 j c) = vaug (fun j l => x2 (ix3 0 j l)) c (j.castAdd 2176) := fun j => by
    rw [vaug_lat]; simp only [chunk0_apply]; rfl
  have hv1 : ∀ j : Fin 2176, k0_pay31 (F := Ideal) (chunk i h2 trip1 x2) (ix2 j c) = vaug (fun j l => x2 (ix3 0 j l)) c (j.natAdd 2176) := fun j => by
    rw [vaug_lat]; simp only [chunk1_apply]; rfl
  have hA1 : latA1 i h2 x0 x1 x2 r (ix2 p c) = ∑ j : Fin 2176, ((Real.exp (blkScore X Y r p (j.castAdd 2176) - M1) : ℝ) : EReal) * vaug (fun j l => x2 (ix3 0 j l)) c (j.castAdd 2176) := by
    unfold latA1
    rw [latA_apply, sums_fill, mul_zero, zero_add]
    simp only [hs0, hM1, hv0, exp_sub]
  unfold latA2
  rw [latA_apply, hA1]
  simp only [hs1, hM2, hv1, exp_sub]
  rw [show latM1 i h2 x0 x1 r (ix2 p ⟨c.val % 128, Nat.mod_lt _ (by decide)⟩) = (M1 : EReal) from hM1 _, exp_sub]
  exact two_chunks (n := 2176) (k := 2176) M1 M2 (blkScore X Y r p) (vaug (fun j l => x2 (ix3 0 j l)) c)

/-- A latent point's output: the softmax average over all 4352 keys. -/
theorem lat_average (i : grid0.Coords) (h2 : k0_cond2 i = 1#1) (x0 : Vec Ideal S1x256x512 .bf16) (x1 x2 : Vec Ideal S1x4352x128 .bf16)
    (X : Fin 256 → Fin 512 → ℝ) (Y : Fin 4352 → Fin 128 → ℝ) (hX : ∀ p d, x0 (ix3 0 p d) = ((X p d : ℝ) : EReal)) (hY : ∀ j d, x1 (ix3 0 j d) = ((Y j d : ℝ) : EReal))
    (r : Fin 4) (p : Fin 256) (l : Fin 128) :
    outBlock (fullA (latA2 i h2 x0 x1 x2)) (ix3 0 p ⟨128 * r.val + l.val, by omega⟩)
      = average (blkScore X Y r p) (fun j => x2 (ix3 0 j l)) := by
  obtain ⟨M, hM⟩ := latA2_val i h2 x0 x1 x2 X Y hX hY r p
  rw [outBlock_apply, ← fullA_block _ r p ⟨l.val, by omega⟩ _ rfl rfl, ← fullA_block _ r p ⟨128 + l.val, by omega⟩ _ rfl rfl, hM, hM]
  refine Eq.trans ?_ (div_sums _ M _)
  refine congrArg₂ Ideal.div ?_ ?_
  · refine Finset.sum_congr rfl fun j _ => ?_
    unfold vaug
    rw [dif_pos l.isLt]
  · refine Finset.sum_congr rfl fun j _ => ?_
    unfold vaug
    rw [dif_neg (by simp only; omega)]

/-- A context point's output: the softmax average over the 256 context keys. -/
theorem ctx_average (x0 : Vec Ideal S1x256x512 .bf16) (x1 x2 : Vec Ideal S1x4352x128 .bf16)
    (X : Fin 256 → Fin 512 → ℝ) (Y : Fin 4352 → Fin 128 → ℝ) (hX : ∀ p d, x0 (ix3 0 p d) = ((X p d : ℝ) : EReal)) (hY : ∀ j d, x1 (ix3 0 j d) = ((Y j d : ℝ) : EReal))
    (r : Fin 4) (p : Fin 256) (l : Fin 128) :
    outBlock (fullA (ctxA1 x0 x1 x2)) (ix3 0 p ⟨128 * r.val + l.val, by omega⟩)
      = average (blkScore X (fun (j : Fin 256) => Y ⟨4096 + j.val, by omega⟩) r p) (fun j : Fin 256 => x2 (ix3 0 ⟨4096 + j.val, by omega⟩ l)) := by
  have hs : ∀ j : Fin 256, k0_pay5 (F := Ideal) (ctxRows x1) (heads x0 r) (ix2 p j) = ((blkScore X (fun (j : Fin 256) => Y ⟨4096 + j.val, by omega⟩) r p j : ℝ) : EReal) := fun j => by
    rw [score_ctx]; simp only [heads_apply, ctxRows_apply, hX, hY]
    exact coe_score _ (fun (j : Fin 256) => Y ⟨4096 + j.val, by omega⟩) _
  obtain ⟨M, hM⟩ := ctxM_real (heads x0 r) (ctxRows x1) (maxima (F := Ideal) (k0_pay134 (F := Ideal)) r) p
    ⟨_, ofBits_fill, fun l => maxima_fill r p l⟩ (fun j => ⟨_, hs j⟩)
  have hA : ∀ c, ctxA1 x0 x1 x2 r (ix2 p c) = ∑ j : Fin 256, ((Real.exp (blkScore X (fun (j : Fin 256) => Y ⟨4096 + j.val, by omega⟩) r p j - M) : ℝ) : EReal)
      * vaug (fun (j : Fin 256) l => x2 (ix3 0 ⟨4096 + j.val, by omega⟩ l)) c j := fun c => by
    have hv : ∀ j : Fin 256, k0_pay4 (F := Ideal) (ctxRows x2) (ix2 j c) = vaug (fun (j : Fin 256) l => x2 (ix3 0 ⟨4096 + j.val, by omega⟩ l)) c j := fun j => by
      rw [vaug_ctx]; simp only [ctxRows_apply]; rfl
    unfold ctxA1
    rw [ctxA_apply, sums_fill, mul_zero, zero_add]
    simp only [hs, hM, hv, exp_sub]
  rw [outBlock_apply, ← fullA_block _ r p ⟨l.val, by omega⟩ _ rfl rfl, ← fullA_block _ r p ⟨128 + l.val, by omega⟩ _ rfl rfl, hA, hA]
  refine Eq.trans ?_ (div_sums _ M _)
  refine congrArg₂ Ideal.div ?_ ?_
  · refine Finset.sum_congr rfl fun j _ => ?_
    unfold vaug
    rw [dif_pos l.isLt]
  · refine Finset.sum_congr rfl fun j _ => ?_
    unfold vaug
    rw [dif_neg (by simp only; omega)]

end Cert.KernelIdeal.Flash

end
-- ==== Proof.Array.lean ====
/- The attention array the kernel leaves, over the reals: every element as the softmax average of its query's scores
   against the keys of its batch and group. -/
module

public import proofs.«01_k».proof.Proof.BlockValues
public import proofs.«01_k».proof.Proof.Gen.KernelIdeal.Value
public import Idealize.ShloMosaic.Lib.Pipeline.ValueKit
public import Idealize.ShloMosaic.Lib.Pipeline.Covers

@[expose] public section

set_option maxRecDepth 16384

noncomputable section

namespace Cert.Softmax

open Idealize.ShloMosaic

/-- The real score of query `i` of head `r` of group `g` against key `j`, in batch `b`. -/
def score (X : Fin 8 → Fin 4352 → Fin 1280 → ℝ) (b : Fin 8) (i : Fin 4352) (g : Fin 2) (r : Fin 4) (j : Fin 4352) : ℝ :=
  ∑ d : Fin 128, X b i ⟨512 * g.val + 128 * r.val + d.val, by omega⟩ * X b j ⟨1024 + 128 * g.val + d.val, by omega⟩

/-- Lane `l` of the value of key `j` in group `g` of batch `b`. -/
def value (Z : Fin 8 → Fin 4352 → Fin 13824 → EReal) (b : Fin 8) (g : Fin 2) (l : Fin 128) (j : Fin 4352) : EReal :=
  Z b j ⟨4352 + 128 * g.val + l.val, by omega⟩

/-- The attention's result: a latent query averages over all keys, a context query over the context's 256. -/
def attend (X : Fin 8 → Fin 4352 → Fin 1280 → ℝ) (Z : Fin 8 → Fin 4352 → Fin 13824 → EReal) (b : Fin 8) (i : Fin 4352) (g : Fin 2) (r : Fin 4) (l : Fin 128) : EReal :=
  if i.val < 4096 then average (score X b i g r) (value Z b g l)
  else average (fun j : Fin 256 => score X b i g r ⟨4096 + j.val, by omega⟩) (fun j : Fin 256 => value Z b g l ⟨4096 + j.val, by omega⟩)

end Cert.Softmax

namespace Cert.KernelIdeal.Flash

open Cert.KernelIdeal Cert.KernelIdeal.Gen Idealize.ShloMosaic Idealize.ShloMosaic.TcCoe Idealize.SL.Sem Cert.Softmax

variable (m : (ℓ : Loc nD τ sig) → Buf (Elt Ideal) ℓ)

theorem idx0 : ∀ t : Fin cfg0.N, (cfg0.win 0).index t = ![t.val / 34, t.val % 17, t.val / 17 % 2] := by decide +kernel
theorem idx1 : ∀ t : Fin cfg0.N, (cfg0.win 1).index t = ![t.val / 34, 0, 8 + t.val / 17 % 2] := by decide +kernel
theorem idx2 : ∀ t : Fin cfg0.N, (cfg0.win 2).index t = ![t.val / 34, 0, 34 + t.val / 17 % 2] := by decide +kernel
theorem idx3 : ∀ t : Fin cfg0.N, (cfg0.win 3).index t = ![t.val / 34, t.val % 17, t.val / 17 % 2] := by decide +kernel

/-- A point's batch, group and row tile. -/
def bOf (t : Fin cfg0.N) : Fin 8 := ⟨t.val / 34, by have := lt_of_lt_of_eq t.isLt N_0; omega⟩
def gOf (t : Fin cfg0.N) : Fin 2 := ⟨t.val / 17 % 2, by omega⟩

theorem queries (c : Dev nD) (t : Fin cfg0.N) (p : Fin 256) (d : Fin 512) :
    X0_0 m c t (ix3 0 p d) = m ((c : Thread nD τ).loc main_arg0) (ix3 (bOf t) ⟨256 * (t.val % 17) + p.val, by omega⟩ ⟨512 * (gOf t).val + d.val, by have := (gOf t).isLt; omega⟩) := by
  unfold X0_0 Pipeline.Window.fill
  rw [dif_pos (moved0_0 t _)]
  have := (gOf t).isLt
  blk_ext [iblk, V, idx0 t, bOf, gOf]

theorem keys (c : Dev nD) (t : Fin cfg0.N) (j : Fin 4352) (d : Fin 128) :
    iblk m c 1 t (ix3 0 j d) = m ((c : Thread nD τ).loc main_arg0) (ix3 (bOf t) j ⟨1024 + 128 * (gOf t).val + d.val, by have := (gOf t).isLt; omega⟩) := by
  blk_ext [iblk, V, idx1 t, bOf, gOf]

theorem vals (c : Dev nD) (t : Fin cfg0.N) (j : Fin 4352) (l : Fin 128) :
    iblk m c 2 t (ix3 0 j l) = m ((c : Thread nD τ).loc main_arg1) (ix3 (bOf t) j ⟨4352 + 128 * (gOf t).val + l.val, by have := (gOf t).isLt; omega⟩) := by
  blk_ext [iblk, V, idx2 t, bOf, gOf]

/-- The result array the kernel should leave. -/
def result (X : Fin 8 → Fin 4352 → Fin 1280 → ℝ) (Z : Fin 8 → Fin 4352 → Fin 13824 → EReal) : S8x4352x1024.Idx → EReal := fun j =>
  attend X Z (j 0) (j 1) ⟨(j 2).val / 512, by have : (j 2).val < 1024 := (j 2).isLt; omega⟩ ⟨(j 2).val / 128 % 4, by omega⟩ ⟨(j 2).val % 128, by omega⟩

theorem covers3 : (cfg0.win 3).Covers :=
  (cfg0.win 3).covers_of_indexMap_surj rfl (by decide) fun β => by
    have h0 : (β 0).val < 8 := (β 0).isLt
    have h1 : (β 1).val < 17 := (β 1).isLt
    have h2 : (β 2).val < 2 := (β 2).isLt
    refine ⟨fun | 0 => β 0 | 1 => β 2 | 2 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (BitVec.ofNat 32 (β 2).val).toNat = (β 2).val
      simp only [BitVec.toNat_ofNat]; omega

/-- A column of a group's block is a head and a lane. -/
theorem col_split (q : Fin 512) : ∃ (r : Fin 4) (l : Fin 128), q = ⟨128 * r.val + l.val, by omega⟩ :=
  ⟨⟨q.val / 128, by omega⟩, ⟨q.val % 128, by omega⟩, Fin.ext (by show q.val = 128 * (q.val / 128) + q.val % 128; omega)⟩

/-- Where a point's output block lies in the array. -/
theorem place3 (t : Fin cfg0.N) (p : Fin 256) (q : Fin 512) :
    (((cfg0.win 3).blk t).view.emb (ix3 0 p q) : S8x4352x1024.Idx)
      = ix3 (bOf t) ⟨256 * (t.val % 17) + p.val, by omega⟩ ⟨512 * (gOf t).val + q.val, by have := (gOf t).isLt; omega⟩ := by
  blk_ext [idx3 t, bOf, gOf]

theorem result_apply (X : Fin 8 → Fin 4352 → Fin 1280 → ℝ) (Z : Fin 8 → Fin 4352 → Fin 13824 → EReal) (b : Fin 8) (i : Fin 4352) (g : Fin 2) (r : Fin 4) (l : Fin 128) :
    result X Z (ix3 b i ⟨512 * g.val + (128 * r.val + l.val), by omega⟩) = attend X Z b i g r l := by
  unfold result
  congr 1
  · exact Fin.ext (by show (512 * g.val + (128 * r.val + l.val)) / 512 = g.val; omega)
  · exact Fin.ext (by show (512 * g.val + (128 * r.val + l.val)) / 128 % 4 = r.val; omega)
  · exact Fin.ext (by show (512 * g.val + (128 * r.val + l.val)) % 128 = l.val; omega)

/-- The array the kernel leaves is the attention's result. -/
theorem array (c : Dev nD) (X : Fin 8 → Fin 4352 → Fin 1280 → ℝ)
    (hX : ∀ b i d, m ((c : Thread nD τ).loc main_arg0) (ix3 b i d) = ((X b i d : ℝ) : EReal)) :
    (dats m 0 c).arrAt 3 cfg0.N = result X (fun b i d => m ((c : Thread nD τ).loc main_arg1) (ix3 b i d)) := by
  refine (dats m 0 c).arrAt_eq_of_covers 3 _ covers3 fun t hf y => ?_
  have hg := (gOf t).isLt
  obtain ⟨p, q, rfl⟩ : ∃ (p : Fin 256) (q : Fin 512), y = ix3 0 p q := ⟨y 1, y 2, by
    funext a
    fin_cases a
    · exact Fin.ext (by have : (y 0).val < 1 := (y 0).isLt; show (y 0).val = 0; omega)
    · rfl
    · rfl⟩
  obtain ⟨r, l, rfl⟩ := col_split q
  have hx : ∀ p d, X0_0 m c t (ix3 0 p d) = ((X (bOf t) ⟨256 * (t.val % 17) + p.val, by omega⟩ ⟨512 * (gOf t).val + d.val, by omega⟩ : ℝ) : EReal) := fun p d =>
    (queries m c t p d).trans (hX _ _ _)
  have hy : ∀ j d, iblk m c 1 t (ix3 0 j d) = ((X (bOf t) j ⟨1024 + 128 * (gOf t).val + d.val, by omega⟩ : ℝ) : EReal) := fun j d =>
    (keys m c t j d).trans (hX _ _ _)
  have hs : ∀ j, blkScore (fun p d => X (bOf t) ⟨256 * (t.val % 17) + p.val, by omega⟩ ⟨512 * (gOf t).val + d.val, by omega⟩)
      (fun j d => X (bOf t) j ⟨1024 + 128 * (gOf t).val + d.val, by omega⟩) r p j
        = score X (bOf t) ⟨256 * (t.val % 17) + p.val, by omega⟩ (gOf t) r j := fun j => by
    unfold blkScore score
    refine Finset.sum_congr rfl fun d _ => ?_
    refine congrArg₂ (· * ·) (congrArg (X (bOf t) _) (Fin.ext ?_)) rfl
    exact (by show 512 * (gOf t).val + (128 * r.val + d.val) = 512 * (gOf t).val + 128 * r.val + d.val; omega)
  rw [place3, result_apply]
  change (dats m 0 c).flushed 3 t (ix3 0 p ⟨128 * r.val + l.val, by omega⟩) = _
  by_cases h : t.val % 17 ≤ 15
  · rw [Cert.KernelIdeal.Value.flushed3_A m c t (by omega) h, out_lat]
    refine (lat_average _ _ _ _ _ _ _ hx hy r p l).trans ?_
    unfold attend
    rw [if_pos (by show 256 * (t.val % 17) + p.val < 4096; omega)]
    refine congrArg₂ average (funext hs) (funext fun j => ?_)
    exact vals m c t j l
  · have h16 : t.val % 17 = 16 := by omega
    rw [Cert.KernelIdeal.Value.flushed3_B m c t h16 h, out_ctx]
    refine (ctx_average _ _ _ _ _ hx hy r p l).trans ?_
    unfold attend
    rw [if_neg (by show ¬ 256 * (t.val % 17) + p.val < 4096; omega)]
    refine congrArg₂ average (funext fun j => hs ⟨4096 + j.val, by omega⟩) (funext fun j => ?_)
    exact vals m c t ⟨4096 + j.val, by omega⟩ l

end Cert.KernelIdeal.Flash
end
-- ==== Proof.RefValues.lean ====
/- The reference's result at an index, over the reals: the softmax attention as written, in parts. -/
module

public import proofs.«01_k».proof.Proof.Gen.ReferenceIdeal.Run
public import proofs.«01_k».proof.Proof.Array
public import Idealize.ShloMosaic.Lib.Pointwise

@[expose] public section

set_option maxRecDepth 16384

noncomputable section

namespace Cert.ReferenceIdeal.Attention

open Cert.ReferenceIdeal Cert.ReferenceIdeal.Gen Idealize.ShloMosaic Idealize.ShloMosaic.TcCoe Idealize.SL.Sem Cert.Softmax

/-- The latent queries' scores. -/
def scoreL (q : FVec Ideal S8x4096x1024 .f32) (k : FVec Ideal S8x4352x256 .f32) : FVec Ideal S8x2x4x4096x4352 .f32 :=
  transpose S8x2x4x4096x4352 [0, 1, 4, 3, 2] (Host.dotGeneral dot_S8x4352x2x128_S8x4096x2x4x128_S8x2x4352x4096x4_3_4_1_13_02_02 none (shapeCast S8x4352x2x128 k shapeCasts_S8x4352x256_S8x4352x2x128) (shapeCast S8x4096x2x4x128 q shapeCasts_S8x4096x1024_S8x4096x2x4x128)) transposes_S8x2x4352x4096x4_S8x2x4x4096x4352_0_1_4_3_2

/-- The context queries' scores. -/
def scoreC (q : FVec Ideal S8x256x1024 .f32) (k : FVec Ideal S8x256x256 .f32) : FVec Ideal S8x2x4x256x256 .f32 :=
  transpose S8x2x4x256x256 [0, 1, 4, 3, 2] (Host.dotGeneral dot_S8x256x2x128_S8x256x2x4x128_S8x2x256x256x4_3_4_1_13_02_02 none (shapeCast S8x256x2x128 k shapeCasts_S8x256x256_S8x256x2x128) (shapeCast S8x256x2x4x128 q shapeCasts_S8x256x1024_S8x256x2x4x128)) transposes_S8x2x256x256x4_S8x2x4x256x256_0_1_4_3_2

/-- The weights a softmax subtracts its largest score from. -/
def shiftL (s : FVec Ideal S8x2x4x4096x4352 .f32) : FVec Ideal S8x2x4x4096 .f32 :=
  maximumf (broadcastInDim S8x2x4x4096 ![] bcast_S_S8x2x4x4096 (constant S_ .f32 0xFF800000#32)) (Host.reduce FloatOps.maximumf s (constant S_ .f32 0xFF800000#32) reducesTo_S8x2x4x4096x4352_S8x2x4x4096_d4 h_S_)

def expL (s : FVec Ideal S8x2x4x4096x4352 .f32) (u : FVec Ideal S8x2x4x4096 .f32) : FVec Ideal S8x2x4x4096x4352 .f32 :=
  Host.exp (subf s (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 u)))

def probL (e : FVec Ideal S8x2x4x4096x4352 .f32) : FVec Ideal S8x2x4x4096x4352 .f32 :=
  Host.divf e (broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 (Host.reduceAdd e (constant S_ .f32 0x00000000#32) reducesTo_S8x2x4x4096x4352_S8x2x4x4096_d4 h_S_)))

def outL (p : FVec Ideal S8x2x4x4096x4352 .f32) (v : FVec Ideal S8x4352x256 .f32) : FVec Ideal S8x4096x1024 .f32 :=
  shapeCast S8x4096x1024 (transpose S8x4096x2x4x128 [0, 4, 1, 3, 2] (Host.dotGeneral dot_S8x4352x2x128_S8x2x4x4096x4352_S8x2x128x4x4096_1_4_3_23_02_01 none (shapeCast S8x4352x2x128 v shapeCasts_S8x4352x256_S8x4352x2x128) p) transposes_S8x2x128x4x4096_S8x4096x2x4x128_0_4_1_3_2) shapeCasts_S8x4096x2x4x128_S8x4096x1024

def shiftC (s : FVec Ideal S8x2x4x256x256 .f32) : FVec Ideal S8x2x4x256 .f32 :=
  maximumf (broadcastInDim S8x2x4x256 ![] bcast_S_S8x2x4x256 (constant S_ .f32 0xFF800000#32)) (Host.reduce FloatOps.maximumf s (constant S_ .f32 0xFF800000#32) reducesTo_S8x2x4x256x256_S8x2x4x256_d4 h_S_)

def expC (s : FVec Ideal S8x2x4x256x256 .f32) (u : FVec Ideal S8x2x4x256 .f32) : FVec Ideal S8x2x4x256x256 .f32 :=
  Host.exp (subf s (broadcastInDim S8x2x4x256x256 ![0, 1, 2, 3, 4] bcast_S8x2x4x256x1_S8x2x4x256x256_0_1_2_3_4 (broadcastInDim S8x2x4x256x1 ![0, 1, 2, 3] bcast_S8x2x4x256_S8x2x4x256x1_0_1_2_3 u)))

def probC (e : FVec Ideal S8x2x4x256x256 .f32) : FVec Ideal S8x2x4x256x256 .f32 :=
  Host.divf e (broadcastInDim S8x2x4x256x256 ![0, 1, 2, 3, 4] bcast_S8x2x4x256x1_S8x2x4x256x256_0_1_2_3_4 (broadcastInDim S8x2x4x256x1 ![0, 1, 2, 3] bcast_S8x2x4x256_S8x2x4x256x1_0_1_2_3 (Host.reduceAdd e (constant S_ .f32 0x00000000#32) reducesTo_S8x2x4x256x256_S8x2x4x256_d4 h_S_)))

def outC (p : FVec Ideal S8x2x4x256x256 .f32) (v : FVec Ideal S8x256x256 .f32) : FVec Ideal S8x256x1024 .f32 :=
  shapeCast S8x256x1024 (transpose S8x256x2x4x128 [0, 4, 1, 3, 2] (Host.dotGeneral dot_S8x256x2x128_S8x2x4x256x256_S8x2x128x4x256_1_4_3_23_02_01 none (shapeCast S8x256x2x128 v shapeCasts_S8x256x256_S8x256x2x128) p) transposes_S8x2x128x4x256_S8x256x2x4x128_0_4_1_3_2) shapeCasts_S8x256x2x4x128_S8x256x1024

variable (m : (ℓ : Loc nD τ sig) → Buf (Elt Ideal) ℓ) (c : Dev nD)

/-- The queries, keys and values of the two arguments. -/
def qs : FVec Ideal S8x4352x1024 .f32 := extf .f32 (extractStridedSlice S8x4352x1024 ![0, 0, 0] (m ((c.tc : Thread nD τ).loc main_arg0)) slices_S8x4352x1280_S8x4352x1024_0_0_0) bitsLt_bf16_f32
def ks : FVec Ideal S8x4352x256 .f32 := extf .f32 (extractStridedSlice S8x4352x256 ![0, 0, 1024] (m ((c.tc : Thread nD τ).loc main_arg0)) slices_S8x4352x1280_S8x4352x256_0_0_1024) bitsLt_bf16_f32
def vs : FVec Ideal S8x4352x256 .f32 := extf .f32 (extractStridedSlice S8x4352x256 ![0, 0, 4352] (m ((c.tc : Thread nD τ).loc main_arg1)) slices_S8x4352x13824_S8x4352x256_0_0_4352) bitsLt_bf16_f32

/-- The latent and the context rows of an array, and the context rows set before the latent ones. -/
def latQ (q : FVec Ideal S8x4352x1024 .f32) : FVec Ideal S8x4096x1024 .f32 := extractStridedSlice S8x4096x1024 ![0, 0, 0] q slices_S8x4352x1024_S8x4096x1024_0_0_0
def ctxQ (q : FVec Ideal S8x4352x1024 .f32) : FVec Ideal S8x256x1024 .f32 := extractStridedSlice S8x256x1024 ![0, 4096, 0] q slices_S8x4352x1024_S8x256x1024_0_4096_0
def ctxR (k : FVec Ideal S8x4352x256 .f32) : FVec Ideal S8x256x256 .f32 := extractStridedSlice S8x256x256 ![0, 4096, 0] k slices_S8x4352x256_S8x256x256_0_4096_0
def turned (k : FVec Ideal S8x4352x256 .f32) : FVec Ideal S8x4352x256 .f32 :=
  concatenate S8x4352x256 1 [⟨S8x256x256, ctxR k⟩, ⟨S8x4096x256, extractStridedSlice S8x4096x256 ![0, 0, 0] k slices_S8x4352x256_S8x4096x256_0_0_0⟩] concatenates_S8x256x256_S8x4096x256_S8x4352x256_d1

def attL (q : FVec Ideal S8x4096x1024 .f32) (k v : FVec Ideal S8x4352x256 .f32) : FVec Ideal S8x4096x1024 .f32 := outL (probL (expL (scoreL q k) (shiftL (scoreL q k)))) v
def attC (q : FVec Ideal S8x256x1024 .f32) (k v : FVec Ideal S8x256x256 .f32) : FVec Ideal S8x256x1024 .f32 := outC (probC (expC (scoreC q k) (shiftC (scoreC q k)))) v
def joined (a : FVec Ideal S8x4096x1024 .f32) (b : FVec Ideal S8x256x1024 .f32) : FVec Ideal S8x4352x1024 .bf16 :=
  truncf .bf16 (concatenate S8x4352x1024 1 [⟨S8x4096x1024, a⟩, ⟨S8x256x1024, b⟩] concatenates_S8x4096x1024_S8x256x1024_S8x4352x1024_d1) bitsLt_bf16_f32

/-- The reference's result from its parts. -/
theorem res_parts : Value.res_main_v53 m c
    = joined (attL (latQ (qs m c)) (turned (ks m c)) (turned (vs m c))) (attC (ctxQ (qs m c)) (ctxR (ks m c)) (ctxR (vs m c))) := by
  unfold Value.res_main_v53
  rfl

theorem qs_apply (b : Fin 8) (i : Fin 4352) (q : Fin 1024) : qs m c (ix3 b i q) = m ((c.tc : Thread nD τ).loc main_arg0) (ix3 b i ⟨q.val, by omega⟩) := by
  unfold qs; pointwise!
theorem ks_apply (b : Fin 8) (i : Fin 4352) (q : Fin 256) : ks m c (ix3 b i q) = m ((c.tc : Thread nD τ).loc main_arg0) (ix3 b i ⟨1024 + q.val, by omega⟩) := by
  unfold ks; pointwise!
theorem vs_apply (b : Fin 8) (i : Fin 4352) (q : Fin 256) : vs m c (ix3 b i q) = m ((c.tc : Thread nD τ).loc main_arg1) (ix3 b i ⟨4352 + q.val, by omega⟩) := by
  unfold vs; pointwise!
theorem latQ_apply (x) (b : Fin 8) (i : Fin 4096) (q : Fin 1024) : latQ x (ix3 b i q) = x (ix3 b ⟨i.val, by omega⟩ q) := by
  unfold latQ; pointwise!
theorem ctxQ_apply (x) (b : Fin 8) (i : Fin 256) (q : Fin 1024) : ctxQ x (ix3 b i q) = x (ix3 b ⟨4096 + i.val, by omega⟩ q) := by
  unfold ctxQ; pointwise!
theorem ctxR_apply (x) (b : Fin 8) (i : Fin 256) (q : Fin 256) : ctxR x (ix3 b i q) = x (ix3 b ⟨4096 + i.val, by omega⟩ q) := by
  unfold ctxR; pointwise!
theorem scoreL_apply (q k) (b : Fin 8) (g : Fin 2) (r : Fin 4) (i : Fin 4096) (j : Fin 4352) :
    scoreL q k (ix5 b g r i j) = ∑ d : Fin 128, k (ix3 b j ⟨128 * g.val + d.val, by omega⟩) * q (ix3 b i ⟨512 * g.val + 128 * r.val + d.val, by omega⟩) := by
  unfold scoreL; pointwise!
theorem scoreC_apply (q k) (b : Fin 8) (g : Fin 2) (r : Fin 4) (i : Fin 256) (j : Fin 256) :
    scoreC q k (ix5 b g r i j) = ∑ d : Fin 128, k (ix3 b j ⟨128 * g.val + d.val, by omega⟩) * q (ix3 b i ⟨512 * g.val + 128 * r.val + d.val, by omega⟩) := by
  unfold scoreC; pointwise!
/-- The largest of finitely many real scores, found by a reduction along one axis, is real. -/
theorem reduce_real {s t u : Shape} {a : Fin s.rank} (x : FVec Ideal s .f32) (init : FVec Ideal u .f32) (h' : s.ReducesTo [a] t) (h : s.Reduces [a] t) (hu : 0 < u.numel) (j : t.Idx)
    (hp : 0 < s.size a) (hi : ∀ y, init y ≠ (⊤ : EReal)) (hx : ∀ y, IsReal (x y)) :
    IsReal (Host.reduce (FloatOps.maximumf (F := Ideal) (φ := .f32)) x init h' hu j) := by
  have e := Host.reduce_eq_fold_single (max : EReal → EReal → EReal) x init h' h hu j
  haveI : Nonempty (Fin (s.size a)) := ⟨⟨0, hp⟩⟩
  exact e ▸ isReal_fold _ (hi _) _ fun k => hx _

/-- The largest of finitely many real scores is real. -/
theorem shiftL_real (s : FVec Ideal S8x2x4x4096x4352 .f32) (hs : ∀ x, IsReal (s x)) (y : S8x2x4x4096.Idx) : IsReal (shiftL s y) := by
  have h := reduce_real s (constant S_ .f32 0xFF800000#32) reducesTo_S8x2x4x4096x4352_S8x2x4x4096_d4 (by decide) h_S_ y (by decide)
    (fun _ => by show Ideal.ofBits .f32 0xFF800000#32 ≠ ⊤; simp [Ideal.ofBits, Ideal.ieee]) hs
  unfold shiftL
  rw [ValueIdx.maximumf_apply]
  refine isReal_max_of_ne_top ?_ h
  show Ideal.ofBits .f32 0xFF800000#32 ≠ ⊤
  simp [Ideal.ofBits, Ideal.ieee]

/-- The same of the context's scores. -/
theorem shiftC_real (s : FVec Ideal S8x2x4x256x256 .f32) (hs : ∀ x, IsReal (s x)) (y : S8x2x4x256.Idx) : IsReal (shiftC s y) := by
  have h := reduce_real s (constant S_ .f32 0xFF800000#32) reducesTo_S8x2x4x256x256_S8x2x4x256_d4 (by decide) h_S_ y (by decide)
    (fun _ => by show Ideal.ofBits .f32 0xFF800000#32 ≠ ⊤; simp [Ideal.ofBits, Ideal.ieee]) hs
  unfold shiftC
  rw [ValueIdx.maximumf_apply]
  refine isReal_max_of_ne_top ?_ h
  show Ideal.ofBits .f32 0xFF800000#32 ≠ ⊤
  simp [Ideal.ofBits, Ideal.ieee]

theorem expL_apply (s u) (b : Fin 8) (g : Fin 2) (r : Fin 4) (i : Fin 4096) (j : Fin 4352) : expL s u (ix5 b g r i j) = Ideal.exp (s (ix5 b g r i j) - u (ix4 b g r i)) := by
  unfold expL; pointwise!
theorem expC_apply (s u) (b : Fin 8) (g : Fin 2) (r : Fin 4) (i : Fin 256) (j : Fin 256) : expC s u (ix5 b g r i j) = Ideal.exp (s (ix5 b g r i j) - u (ix4 b g r i)) := by
  unfold expC; pointwise!
theorem probL_apply (e) (b : Fin 8) (g : Fin 2) (r : Fin 4) (i : Fin 4096) (j : Fin 4352) : probL e (ix5 b g r i j) = Ideal.div (e (ix5 b g r i j)) (∑ j, e (ix5 b g r i j)) := by
  unfold probL; pointwise
theorem probC_apply (e) (b : Fin 8) (g : Fin 2) (r : Fin 4) (i : Fin 256) (j : Fin 256) : probC e (ix5 b g r i j) = Ideal.div (e (ix5 b g r i j)) (∑ j, e (ix5 b g r i j)) := by
  unfold probC; pointwise
theorem outL_apply (p v) (b : Fin 8) (i : Fin 4096) (g : Fin 2) (r : Fin 4) (l : Fin 128) :
    outL p v (ix3 b i ⟨512 * g.val + (128 * r.val + l.val), by omega⟩) = ∑ j : Fin 4352, v (ix3 b j ⟨128 * g.val + l.val, by omega⟩) * p (ix5 b g r i j) := by
  unfold outL; pointwise!
theorem outC_apply (p v) (b : Fin 8) (i : Fin 256) (g : Fin 2) (r : Fin 4) (l : Fin 128) :
    outC p v (ix3 b i ⟨512 * g.val + (128 * r.val + l.val), by omega⟩) = ∑ j : Fin 256, v (ix3 b j ⟨128 * g.val + l.val, by omega⟩) * p (ix5 b g r i j) := by
  unfold outC; pointwise!

/-- The keys' order in the reference: the context's 256 rows come first. -/
def rot : Fin 4352 ≃ Fin 4352 where
  toFun j := if h : j.val < 256 then ⟨4096 + j.val, by omega⟩ else ⟨j.val - 256, by omega⟩
  invFun j := if h : j.val < 4096 then ⟨j.val + 256, by omega⟩ else ⟨j.val - 4096, by omega⟩
  left_inv j := by
    by_cases h : j.val < 256
    · dsimp only
      rw [dif_pos h, dif_neg (by show ¬ 4096 + j.val < 4096; omega)]
      exact Fin.ext (by show 4096 + j.val - 4096 = j.val; omega)
    · dsimp only
      rw [dif_neg h, dif_pos (by show j.val - 256 < 4096; omega)]
      exact Fin.ext (by show j.val - 256 + 256 = j.val; omega)
  right_inv j := by
    by_cases h : j.val < 4096
    · dsimp only
      rw [dif_pos h, dif_neg (by show ¬ j.val + 256 < 256; omega)]
      exact Fin.ext (by show j.val + 256 - 256 = j.val; omega)
    · dsimp only
      rw [dif_neg h, dif_pos (by show j.val - 4096 < 256; omega)]
      exact Fin.ext (by show 4096 + (j.val - 4096) = j.val; omega)

theorem turned_apply (x) (b : Fin 8) (j : Fin 4352) (q : Fin 256) : turned x (ix3 b j q) = x (ix3 b (rot j) q) := by
  unfold turned rot
  pointwise
  by_cases h : j.val < 256
  · rw [dif_pos h, ctxR_apply]; simp only [Equiv.coe_fn_mk, dif_pos h]
  · rw [dif_neg h]; simp only [Equiv.coe_fn_mk, dif_neg h]
theorem joined_lat (x y) (b : Fin 8) (j : Fin 4352) (h : j.val < 4096) (q : Fin 1024) : joined x y (ix3 b j q) = x (ix3 b ⟨j.val, h⟩ q) := by
  unfold joined; pointwise; rw [dif_pos h]
theorem joined_ctx (x y) (b : Fin 8) (j : Fin 4352) (h : ¬ j.val < 4096) (q : Fin 1024) : joined x y (ix3 b j q) = y (ix3 b ⟨j.val - 4096, by omega⟩ q) := by
  unfold joined; pointwise; rw [dif_neg h]

/-- A sum of products of reals is real. -/
theorem isReal_dot {n : ℕ} (f g : Fin n → EReal) (hf : ∀ d, IsReal (f d)) (hg : ∀ d, IsReal (g d)) : IsReal (∑ d, f d * g d) := by
  choose F hF using hf
  choose G hG using hg
  exact ⟨∑ d, F d * G d, by rw [coe_sum]; exact Finset.sum_congr rfl fun d _ => by rw [hF, hG, EReal.coe_mul]⟩

theorem idx5 {s : Shape} {n0 n1 n2 n3 n4 : ℕ} (y : (⟨5, ![n0, n1, n2, n3, n4]⟩ : Shape).Idx) : ∃ (a : Fin n0) (b : Fin n1) (c : Fin n2) (d : Fin n3) (e : Fin n4), y = ix5 a b c d e :=
  ⟨y 0, y 1, y 2, y 3, y 4, by funext a; fin_cases a <;> rfl⟩

/-- The attention over 4352 keys of queries and keys that are real: the softmax average of the values. -/
theorem attL_apply (q : FVec Ideal S8x4096x1024 .f32) (k v : FVec Ideal S8x4352x256 .f32) (hq : ∀ b i d, IsReal (q (ix3 b i d))) (hk : ∀ b j d, IsReal (k (ix3 b j d)))
    (b : Fin 8) (i : Fin 4096) (g : Fin 2) (r : Fin 4) (l : Fin 128) (sc : Fin 4352 → ℝ)
    (hsc : ∀ j, scoreL q k (ix5 b g r i j) = ((sc j : ℝ) : EReal)) :
    attL q k v (ix3 b i ⟨512 * g.val + (128 * r.val + l.val), by omega⟩) = average sc fun j => v (ix3 b j ⟨128 * g.val + l.val, by omega⟩) := by
  obtain ⟨M, hM⟩ := shiftL_real (scoreL q k) (fun y => by
    obtain ⟨b', g', r', i', j', rfl⟩ := idx5 (s := S_) y
    rw [scoreL_apply]
    exact isReal_dot _ _ (fun d => hk _ _ _) (fun d => hq _ _ _)) (ix4 b g r i)
  unfold attL
  rw [outL_apply]
  simp only [probL_apply, expL_apply, hM, hsc, exp_sub]
  haveI : Nonempty (Fin 4352) := ⟨⟨0, by omega⟩⟩
  refine Eq.trans (Finset.sum_congr rfl fun j _ => mul_comm _ _) (sum_div sc M _)

/-- The attention over the context's 256 keys. -/
theorem attC_apply (q : FVec Ideal S8x256x1024 .f32) (k v : FVec Ideal S8x256x256 .f32) (hq : ∀ b i d, IsReal (q (ix3 b i d))) (hk : ∀ b j d, IsReal (k (ix3 b j d)))
    (b : Fin 8) (i : Fin 256) (g : Fin 2) (r : Fin 4) (l : Fin 128) (sc : Fin 256 → ℝ)
    (hsc : ∀ j, scoreC q k (ix5 b g r i j) = ((sc j : ℝ) : EReal)) :
    attC q k v (ix3 b i ⟨512 * g.val + (128 * r.val + l.val), by omega⟩) = average sc fun j => v (ix3 b j ⟨128 * g.val + l.val, by omega⟩) := by
  obtain ⟨M, hM⟩ := shiftC_real (scoreC q k) (fun y => by
    obtain ⟨b', g', r', i', j', rfl⟩ := idx5 (s := S_) y
    rw [scoreC_apply]
    exact isReal_dot _ _ (fun d => hk _ _ _) (fun d => hq _ _ _)) (ix4 b g r i)
  unfold attC
  rw [outC_apply]
  simp only [probC_apply, expC_apply, hM, hsc, exp_sub]
  haveI : Nonempty (Fin 256) := ⟨⟨0, by omega⟩⟩
  refine Eq.trans (Finset.sum_congr rfl fun j _ => mul_comm _ _) (sum_div sc M _)

/-- The reference's result at an index. -/
theorem res_apply (X : Fin 8 → Fin 4352 → Fin 1280 → ℝ)
    (hX : ∀ b i d, m ((c.tc : Thread nD τ).loc main_arg0) (ix3 b i d) = ((X b i d : ℝ) : EReal))
    (b : Fin 8) (i : Fin 4352) (g : Fin 2) (r : Fin 4) (l : Fin 128) :
    Value.res_main_v53 m c (ix3 b i ⟨512 * g.val + (128 * r.val + l.val), by omega⟩)
      = attend X (fun b i d => m ((c.tc : Thread nD τ).loc main_arg1) (ix3 b i d)) b i g r l := by
  have hqs : ∀ b i q, qs m c (ix3 b i q) = ((X b i ⟨q.val, by omega⟩ : ℝ) : EReal) := fun b i q => (qs_apply m c b i q).trans (hX _ _ _)
  have hks : ∀ b i q, ks m c (ix3 b i q) = ((X b i ⟨1024 + q.val, by omega⟩ : ℝ) : EReal) := fun b i q => (ks_apply m c b i q).trans (hX _ _ _)
  rw [res_parts]
  unfold attend
  by_cases h : i.val < 4096
  · rw [if_pos h, joined_lat _ _ _ _ h, attL_apply _ _ _ (fun b i d => ⟨_, (latQ_apply _ _ _ _).trans (hqs _ _ _)⟩)
      (fun b j d => ⟨_, (turned_apply _ _ _ _).trans (hks _ _ _)⟩) b ⟨i.val, h⟩ g r l (fun j => score X b i g r (rot j)) (fun j => ?_)]
    · refine Eq.trans ?_ (average_equiv rot (score X b i g r) (Cert.Softmax.value (fun b i d => m ((c.tc : Thread nD τ).loc main_arg1) (ix3 b i d)) b g l))
      refine congrArg _ (funext fun j => ?_)
      rw [turned_apply, vs_apply]
      exact congrArg _ (congrArg (ix3 b (rot j)) (Fin.ext (Nat.add_assoc _ _ _).symm))
    · rw [scoreL_apply]
      simp only [turned_apply, latQ_apply, hqs, hks]
      unfold score
      rw [coe_sum]
      refine Finset.sum_congr rfl fun d _ => ?_
      rw [EReal.coe_mul, mul_comm]
      refine congrArg₂ (· * ·) rfl (congrArg (fun z => ((X b (rot j) z : ℝ) : EReal)) (Fin.ext (Nat.add_assoc _ _ _).symm))
  · rw [if_neg h, joined_ctx _ _ _ _ h, attC_apply _ _ _ (fun b i d => ⟨_, (ctxQ_apply _ _ _ _).trans (hqs _ _ _)⟩)
      (fun b j d => ⟨_, (ctxR_apply _ _ _ _).trans (hks _ _ _)⟩) b ⟨i.val - 4096, by omega⟩ g r l (fun j => score X b i g r ⟨4096 + j.val, by omega⟩) (fun j => ?_)]
    · refine congrArg _ (funext fun j => ?_)
      rw [ctxR_apply, vs_apply]
      exact congrArg _ (congrArg (ix3 b _) (Fin.ext (Nat.add_assoc _ _ _).symm))
    · rw [scoreC_apply]
      simp only [ctxR_apply, ctxQ_apply, hqs, hks]
      unfold score
      rw [coe_sum]
      refine Finset.sum_congr rfl fun d _ => ?_
      rw [EReal.coe_mul, mul_comm]
      refine congrArg₂ (· * ·) (congrArg (fun z => ((X b z _ : ℝ) : EReal)) (Fin.ext (show 4096 + (i.val - 4096) = i.val by omega))) (congrArg (fun z => ((X b _ z : ℝ) : EReal)) (Fin.ext (Nat.add_assoc _ _ _).symm))

end Cert.ReferenceIdeal.Attention
end
-- ==== Proof.Finite.lean ====
/- What the precondition says over the reals: every query and every key is a real number. And the value claim. -/
module

public import proofs.«01_k».proof.Proof.RefValues
public import proofs.«01_k».proof.Defs

@[expose] public section

set_option maxRecDepth 16384

noncomputable section

namespace Cert.Flash

open Idealize.ShloMosaic Idealize.ShloMosaic.TcCoe Idealize.SL.Sem Cert.Softmax

theorem facts : Cert.Pre_queries_and_keys_finite.Facts where
  bitsLt_bf16_f32 := by decide
  bcast_S_S8x4352x1280 := by decide

theorem top_bits : Ideal.ofBits .f32 0x7F800000#32 = ⊤ := by simp [Ideal.ofBits, Ideal.ieee]

/-- A number of absolute value below plus infinity is real. -/
theorem isReal_of_abs_lt {x : EReal} (h : max x (-x) < ⊤) : IsReal x := by
  induction x using EReal.rec with
  | bot => simp at h
  | top => simp at h
  | coe x => exact ⟨x, rfl⟩

/-- Under the precondition every query and key is real. -/
theorem real_of_pre (x : FVec Ideal Cert.Pre_queries_and_keys_finite.S8x4352x1280 .bf16) (y : FVec Ideal Cert.Pre_queries_and_keys_finite.S8x4352x13824 .bf16)
    (h : haveI := facts; Cert.Pre_queries_and_keys_finite.fn (F := Ideal) x y = fun _ => 1#1) (b : Fin 8) (i : Fin 4352) (d : Fin 1280) : IsReal (x (ix3 b i d)) := by
  have h1 : Ideal.cmp .olt (max (x (ix3 b i d) : EReal) (-(x (ix3 b i d)))) (Ideal.ofBits .f32 0x7F800000#32) = 1 := congrFun h (ix3 b i d)
  rw [Ideal.cmp_olt_eq_one, top_bits] at h1
  exact isReal_of_abs_lt h1

/-- The kernel and the reference leave the same array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : haveI := facts; Pre_KernelIdeal_queries_and_keys_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v53 m' c = (Cert.KernelIdeal.Gen.dats m 0 c).arrAt 3 Cert.KernelIdeal.cfg0.N := by
  have hr := real_of_pre _ _ (hpre c)
  choose X hX using hr
  rw [Cert.KernelIdeal.Flash.array m c X hX]
  funext y
  obtain ⟨b, i, q, rfl⟩ : ∃ (b : Fin 8) (i : Fin 4352) (q : Fin 1024), y = ix3 b i q := ⟨y 0, y 1, y 2, by funext a; fin_cases a <;> rfl⟩
  obtain ⟨g, r, l, rfl⟩ : ∃ (g : Fin 2) (r : Fin 4) (l : Fin 128), q = ⟨512 * g.val + (128 * r.val + l.val), by omega⟩ :=
    ⟨⟨q.val / 512, by omega⟩, ⟨q.val / 128 % 4, by omega⟩, ⟨q.val % 128, by omega⟩, Fin.ext (by show q.val = 512 * (q.val / 512) + (128 * (q.val / 128 % 4) + q.val % 128); omega)⟩
  refine (Cert.ReferenceIdeal.Attention.res_apply m' c X (fun b i d => by rw [h0]; exact hX b i d) b i g r l).trans ?_
  rw [h1]
  exact (Cert.KernelIdeal.Flash.result_apply X _ b i g r l).symm

end Cert.Flash
end
-- ==== Proof.Sigmoid.lean ====
/- The logistic function written with the hyperbolic tangent, over the extended reals. -/
module

public import Idealize.ShloMosaic.Lib.Pointwise

@[expose] public section

noncomputable section

namespace Cert.Sigmoid

open Idealize.ShloMosaic

theorem half : Ideal.ofBits .f32 0x3F000000#32 = ((1 / 2 : ℝ) : EReal) := by
  simp [Ideal.ofBits, Ideal.ieee, -EReal.coe_mul, -EReal.coe_neg]
  norm_num

theorem real (x : ℝ) : 1 / 2 * Real.tanh (1 / 2 * x) + 1 / 2 = (1 + Real.exp (-x))⁻¹ := by
  have h : Real.exp (-x) = Real.exp (-(1 / 2 * x)) * Real.exp (-(1 / 2 * x)) := by rw [← Real.exp_add]; congr 1; ring
  have e : Real.exp (1 / 2 * x) * Real.exp (-(1 / 2 * x)) = 1 := by rw [← Real.exp_add]; simp
  rw [Real.tanh_eq_sinh_div_cosh, Real.sinh_eq, Real.cosh_eq, h]
  have p := Real.exp_pos (1 / 2 * x)
  have q := Real.exp_pos (-(1 / 2 * x))
  generalize Real.exp (1 / 2 * x) = a at *
  generalize Real.exp (-(1 / 2 * x)) = b at *
  have h1 : a + b ≠ 0 := by positivity
  have h2 : 1 + b * b ≠ 0 := by positivity
  have h3 : 1 + b * b = b * (a + b) := by rw [mul_add, mul_comm b a, e]
  rw [h3]
  field_simp
  linear_combination 2 * e

/-- Half of one plus the tangent of half the argument is the logistic function, at the infinities too. -/
theorem eq_logistic (x : EReal) : Ideal.ofBits .f32 0x3F000000#32 * Ideal.tanh (Ideal.ofBits .f32 0x3F000000#32 * x) + Ideal.ofBits .f32 0x3F000000#32 = Ideal.logistic x := by
  rw [half]
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, real]

end Cert.Sigmoid
end
-- ==== Proof.Hidden.lean ====
/- The hidden layer of the experts: what a grid point leaves in its output block and in the two held weight blocks, and the
   array of all blocks. -/
module

public import proofs.«01_k».proof.Proof.Gen.Kernel2Ideal.Value
public import proofs.«01_k».proof.Proof.Gen.Reference2Ideal.Run
public import proofs.«01_k».proof.Proof.Sigmoid
public import Idealize.ShloMosaic.Lib.Pipeline.ValueKit
public import Idealize.ShloMosaic.Lib.Pipeline.Covers

@[expose] public section

set_option maxRecDepth 16384

noncomputable section

namespace Cert.Kernel2Ideal.Hidden

open Cert.Kernel2Ideal Cert.Kernel2Ideal.Gen Idealize.ShloMosaic Idealize.ShloMosaic.TcCoe Idealize.SL.Sem

variable (m : (ℓ : Loc nD τ sig) → Buf (Elt Ideal) ℓ)

/-- A point that takes in its weights multiplies by them. -/
theorem out_A (c : Dev nD) (i : grid0.Coords) (arg3 : Memref sig .tc .vmem S1x1088x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x1088x512 .bf16) (harg6 : arg6.IsWhole) (arg7 : Memref sig .tc .vmem S2048x512 .bf16) (harg7 : arg7.IsWhole) (arg8 : Memref sig .tc .vmem S2048x512 .bf16) (harg8 : arg8.IsWhole) (hc0 : cond0_0 i)
    (x0 : Vec Ideal S1x1088x2048 .bf16) (x1 : Vec Ideal S1x2048x512 .f32) (x2 : Vec Ideal S1x2048x512 .f32) :
    out0_A_3 c i arg3 harg3 arg4 harg4 arg5 harg5 arg6 harg6 arg7 harg7 arg8 harg8 hc0 x0 x1 x2 = k0_pay3 x0 (k0_pay1 x1) (k0_pay2 x2) := by
  frame_open
  frame_out

/-- A point that takes in none multiplies by those held. -/
theorem out_B (c : Dev nD) (i : grid0.Coords) (arg3 : Memref sig .tc .vmem S1x1088x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x1088x512 .bf16) (harg6 : arg6.IsWhole) (arg7 : Memref sig .tc .vmem S2048x512 .bf16) (harg7 : arg7.IsWhole) (arg8 : Memref sig .tc .vmem S2048x512 .bf16) (harg8 : arg8.IsWhole) (hc0 : ¬cond0_0 i)
    (x0 : Vec Ideal S1x1088x2048 .bf16) (x1 : Vec Ideal S1x2048x512 .f32) (x2 : Vec Ideal S1x2048x512 .f32) (s0 s1 : Vec Ideal S2048x512 .bf16) :
    out0_B_3 c i arg3 harg3 arg4 harg4 arg5 harg5 arg6 harg6 arg7 harg7 arg8 harg8 hc0 x0 x1 x2 s0 s1 = k0_pay3 x0 s0 s1 := by
  frame_open
  frame_out

/-- What a point that takes in its weights holds afterwards. -/
theorem gate_A (c : Dev nD) (i : grid0.Coords) (arg3 : Memref sig .tc .vmem S1x1088x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x1088x512 .bf16) (harg6 : arg6.IsWhole) (arg7 : Memref sig .tc .vmem S2048x512 .bf16) (harg7 : arg7.IsWhole) (arg8 : Memref sig .tc .vmem S2048x512 .bf16) (harg8 : arg8.IsWhole) (hc0 : cond0_0 i)
    (x0 : Vec Ideal S1x1088x2048 .bf16) (x1 : Vec Ideal S1x2048x512 .f32) (x2 : Vec Ideal S1x2048x512 .f32) :
    sout0_A_0 c i arg3 harg3 arg4 harg4 arg5 harg5 arg6 harg6 arg7 harg7 arg8 harg8 hc0 x0 x1 x2 = k0_pay1 x1 := by
  frame_open
  frame_out

theorem up_A (c : Dev nD) (i : grid0.Coords) (arg3 : Memref sig .tc .vmem S1x1088x2048 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x1088x512 .bf16) (harg6 : arg6.IsWhole) (arg7 : Memref sig .tc .vmem S2048x512 .bf16) (harg7 : arg7.IsWhole) (arg8 : Memref sig .tc .vmem S2048x512 .bf16) (harg8 : arg8.IsWhole) (hc0 : cond0_0 i)
    (x0 : Vec Ideal S1x1088x2048 .bf16) (x1 : Vec Ideal S1x2048x512 .f32) (x2 : Vec Ideal S1x2048x512 .f32) :
    sout0_A_1 c i arg3 harg3 arg4 harg4 arg5 harg5 arg6 harg6 arg7 harg7 arg8 harg8 hc0 x0 x1 x2 = k0_pay2 x2 := by
  frame_open
  frame_out

/-- The gate's activation times the up projection. -/
def unit (u v : EReal) : EReal := u * Ideal.logistic u * v

/-- A block of the hidden layer from a row block and two weight blocks. -/
theorem pay3_apply (x : Vec Ideal S1x1088x2048 .bf16) (a b : Vec Ideal S2048x512 .bf16) (p : Fin 1088) (j : Fin 512) :
    k0_pay3 x a b (ix3 0 p j) = unit (∑ k : Fin 2048, x (ix3 0 p k) * a (ix2 k j)) (∑ k : Fin 2048, x (ix3 0 p k) * b (ix2 k j)) := by
  unfold_payloads
  pointwise!
  rw [Cert.Sigmoid.eq_logistic]
  rfl

theorem pay1_apply (x : Vec Ideal S1x2048x512 .f32) (k : Fin 2048) (j : Fin 512) : k0_pay1 x (ix2 k j) = x (ix3 0 k j) := by
  unfold_payloads
  pointwise!

theorem pay2_apply (x : Vec Ideal S1x2048x512 .f32) (k : Fin 2048) (j : Fin 512) : k0_pay2 x (ix2 k j) = x (ix3 0 k j) := by
  unfold_payloads
  pointwise!

/-- The first layer of the stacked weights, in the array whose first axis is layer and expert together. -/
theorem flat_apply {α : Type} (x : S2x16x2048x2048.Idx → α) (e : Fin 16) (k j : Fin 2048) :
    shapeCast S32x2048x2048 x shapeCasts_S2x16x2048x2048_S32x2048x2048 (ix3 ⟨e.val, by omega⟩ k j) = x (ix4 0 e k j) := by
  refine congrArg x (Shape.reshapeEquiv_eq_of_vals _ _ _ (0 * 67108864 + e.val * 4194304 + k.val * 2048 + j.val) (e.val * 4194304 + k.val * 2048 + j.val) ?_ ?_ (by omega))
  · refine (rowMajor_val4 _ 67108864 4194304 2048 (by decide) (by decide) (by decide)).trans ?_
    rfl
  · refine (rowMajor_val3 _ 4194304 2048 (by decide) (by decide)).trans ?_
    rfl

theorem entry_gate (c : Dev nD) : V m c main_v0 = shapeCast S32x2048x2048 (m ((c : Thread nD τ).loc main_arg1)) shapeCasts_S2x16x2048x2048_S32x2048x2048 := by
  unfold_abbrev_sides
  after_results
  rfl

theorem entry_up (c : Dev nD) : V m c main_v1 = shapeCast S32x2048x2048 (m ((c : Thread nD τ).loc main_arg2)) shapeCasts_S2x16x2048x2048_S32x2048x2048 := by
  unfold_abbrev_sides
  after_results
  rfl

theorem entry_x (c : Dev nD) : V m c main_arg0 = m ((c : Thread nD τ).loc main_arg0) := by
  unfold_abbrev_sides
  after_results

theorem idx0 : ∀ t : Fin cfg0.N, (cfg0.win 0).index t = ![t.val / 16, t.val % 4, 0] := by decide +kernel
theorem idx1 : ∀ t : Fin cfg0.N, (cfg0.win 1).index t = ![t.val / 16, 0, t.val / 4 % 4] := by decide +kernel
theorem idx2 : ∀ t : Fin cfg0.N, (cfg0.win 2).index t = ![t.val / 16, 0, t.val / 4 % 4] := by decide +kernel
theorem idx3 : ∀ t : Fin cfg0.N, (cfg0.win 3).index t = ![t.val / 16, t.val % 4, t.val / 4 % 4] := by decide +kernel

/-- A point's expert, and its block's first column. -/
def eOf (n : ℕ) (h : n < cfg0.N) : Fin 16 := ⟨n / 16, by have := lt_of_lt_of_eq h N_0; omega⟩
def col (n : ℕ) (j : Fin 512) : Fin 2048 := ⟨512 * (n / 4 % 4) + j.val, by omega⟩
def row (n : ℕ) (p : Fin 1088) : Fin 4352 := ⟨1088 * (n % 4) + p.val, by omega⟩

theorem blk0 (c : Dev nD) (t : Fin cfg0.N) (p : Fin 1088) (k : Fin 2048) :
    iblk m c 0 t (ix3 0 p k) = m ((c : Thread nD τ).loc main_arg0) (ix3 (eOf t.val t.isLt) (row t.val p) k) := by
  rw [← entry_x m c]
  blk_ext [iblk, idx0 t, eOf, row]

theorem blk1 (c : Dev nD) (t : Fin cfg0.N) (k : Fin 2048) (j : Fin 512) :
    iblk m c 1 t (ix3 0 k j) = m ((c : Thread nD τ).loc main_arg1) (ix4 0 (eOf t.val t.isLt) k (col t.val j)) := by
  refine Eq.trans ?_ ((congrFun (entry_gate m c) _).trans (flat_apply _ (eOf t.val t.isLt) k (col t.val j)))
  blk_ext [iblk, idx1 t, eOf, col]

theorem blk2 (c : Dev nD) (t : Fin cfg0.N) (k : Fin 2048) (j : Fin 512) :
    iblk m c 2 t (ix3 0 k j) = m ((c : Thread nD τ).loc main_arg2) (ix4 0 (eOf t.val t.isLt) k (col t.val j)) := by
  refine Eq.trans ?_ ((congrFun (entry_up m c) _).trans (flat_apply _ (eOf t.val t.isLt) k (col t.val j)))
  blk_ext [iblk, idx2 t, eOf, col]

/-- The weights held after every point are those of its expert and columns. -/
theorem held (c : Dev nD) : ∀ (n : ℕ) (h : n < cfg0.N) (k : Fin 2048) (j : Fin 512),
    (outsAt0 m c n h).2.1 (ix2 k j) = m ((c : Thread nD τ).loc main_arg1) (ix4 0 (eOf n h) k (col n j))
    ∧ (outsAt0 m c n h).2.2 (ix2 k j) = m ((c : Thread nD τ).loc main_arg2) (ix4 0 (eOf n h) k (col n j)) := by
  have first : ∀ (t : Fin cfg0.N), t.val % 4 = 0 → ∀ (k : Fin 2048) (j : Fin 512),
      (outsAt0 m c t.val t.isLt).2.1 (ix2 k j) = m ((c : Thread nD τ).loc main_arg1) (ix4 0 (eOf t.val t.isLt) k (col t.val j))
      ∧ (outsAt0 m c t.val t.isLt).2.2 (ix2 k j) = m ((c : Thread nD τ).loc main_arg2) (ix4 0 (eOf t.val t.isLt) k (col t.val j)) := fun t h0 k j => by
    rw [outsAt0_A m c t h0]
    dsimp only
    rw [gate_A, up_A, pay1_apply, pay2_apply, blk1, blk2]
    exact ⟨rfl, rfl⟩
  intro n
  induction n with
  | zero => exact fun h => first ⟨0, h⟩ rfl
  | succ n ih =>
    intro h k j
    by_cases h0 : (n + 1) % 4 = 0
    · exact first ⟨n + 1, h⟩ h0 k j
    · have e : eOf (n + 1) h = eOf n (Nat.lt_of_succ_lt h) := Fin.ext (by show (n + 1) / 16 = n / 16; omega)
      have f : col (n + 1) j = col n j := Fin.ext (by show 512 * ((n + 1) / 4 % 4) + j.val = 512 * (n / 4 % 4) + j.val; omega)
      rw [outsAt0_B m c ⟨n + 1, h⟩ h0, e, f]
      exact ih (Nat.lt_of_succ_lt h) k j

/-- The hidden layer from the rows and the two stacked weights. -/
def result (x : S16x4352x2048.Idx → EReal) (a b : S2x16x2048x2048.Idx → EReal) : S16x4352x2048.Idx → EReal := fun i =>
  unit (∑ k : Fin 2048, x (ix3 (i 0) (i 1) k) * a (ix4 0 (i 0) k (i 2))) (∑ k : Fin 2048, x (ix3 (i 0) (i 1) k) * b (ix4 0 (i 0) k (i 2)))

theorem result_apply (x : S16x4352x2048.Idx → EReal) (a b : S2x16x2048x2048.Idx → EReal) (e : Fin 16) (p : Fin 4352) (j : Fin 2048) :
    result x a b (ix3 e p j) = unit (∑ k : Fin 2048, x (ix3 e p k) * a (ix4 0 e k j)) (∑ k : Fin 2048, x (ix3 e p k) * b (ix4 0 e k j)) := rfl

theorem covers3 : (cfg0.win 3).Covers :=
  (cfg0.win 3).covers_of_indexMap_surj rfl (by decide) fun β => by
    have h0 : (β 0).val < 16 := (β 0).isLt
    have h1 : (β 1).val < 4 := (β 1).isLt
    have h2 : (β 2).val < 4 := (β 2).isLt
    refine ⟨fun | 0 => β 0 | 1 => β 2 | 2 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (BitVec.ofNat 32 (β 2).val).toNat = (β 2).val
      simp only [BitVec.toNat_ofNat]; omega

/-- Where a point's output block lies in the array. -/
theorem place3 (t : Fin cfg0.N) (p : Fin 1088) (q : Fin 512) :
    (((cfg0.win 3).blk t).view.emb (ix3 0 p q) : S16x4352x2048.Idx) = ix3 (eOf t.val t.isLt) (row t.val p) (col t.val q) := by
  blk_ext [idx3 t, eOf, row, col]

/-- The array the kernel leaves is the hidden layer. -/
theorem array (c : Dev nD) :
    (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ covers3 fun t hf y => ?_
  obtain ⟨p, q, rfl⟩ : ∃ (p : Fin 1088) (q : Fin 512), y = ix3 0 p q := ⟨y 1, y 2, by
    funext a
    fin_cases a
    · exact Fin.ext (by have : (y 0).val < 1 := (y 0).isLt; show (y 0).val = 0; omega)
    · rfl
    · rfl⟩
  rw [place3, result_apply]
  change (dats m 0 c).flushed 3 t (ix3 0 p q) = _
  by_cases h : t.val % 4 = 0
  · rw [Cert.Kernel2Ideal.Value.flushed3_A m c t h, out_A]
    refine (pay3_apply _ _ _ p q).trans (congrArg₂ unit (Finset.sum_congr rfl fun k _ => ?_) (Finset.sum_congr rfl fun k _ => ?_))
    · exact congrArg₂ (· * ·) (blk0 m c t p k) ((pay1_apply _ k q).trans (blk1 m c t k q))
    · exact congrArg₂ (· * ·) (blk0 m c t p k) ((pay2_apply _ k q).trans (blk2 m c t k q))
  · have hn : t.val - 1 < cfg0.N := Nat.lt_of_le_of_lt (Nat.sub_le _ _) t.isLt
    have e : eOf (t.val - 1) hn = eOf t.val t.isLt := Fin.ext (by show (t.val - 1) / 16 = t.val / 16; omega)
    have f : col (t.val - 1) q = col t.val q := Fin.ext (by show 512 * ((t.val - 1) / 4 % 4) + q.val = 512 * (t.val / 4 % 4) + q.val; omega)
    have g := fun k => held m c (t.val - 1) hn k q
    rw [e, f] at g
    rw [Cert.Kernel2Ideal.Value.flushed3_B m c t h, out_B]
    refine (pay3_apply _ _ _ p q).trans (congrArg₂ unit (Finset.sum_congr rfl fun k _ => ?_) (Finset.sum_congr rfl fun k _ => ?_))
    · exact congrArg₂ (· * ·) (blk0 m c t p k) (g k).1
    · exact congrArg₂ (· * ·) (blk0 m c t p k) (g k).2

end Cert.Kernel2Ideal.Hidden

namespace Cert.Reference2Ideal.Hidden

open Cert.Reference2Ideal Cert.Reference2Ideal.Gen Idealize.ShloMosaic Idealize.ShloMosaic.TcCoe Idealize.SL.Sem

/-- One projection of the reference. -/
def proj (x : FVec Ideal S16x4352x2048 .bf16) (w : FVec Ideal S2x16x2048x2048 .f32) : FVec Ideal S16x4352x2048 .f32 :=
  Host.dotGeneral dot_S16x4352x2048_S16x2048x2048_S16x4352x2048_2_1_1_2_0_0 none (extf .f32 x bitsLt_bf16_f32) (shapeCast S16x2048x2048 (extractStridedSlice S1x16x2048x2048 ![0, 0, 0, 0] w slices_S2x16x2048x2048_S1x16x2048x2048_0_0_0_0) shapeCasts_S1x16x2048x2048_S16x2048x2048)

/-- Its activation, by the logistic function as written, and the product. -/
def act (u v : FVec Ideal S16x4352x2048 .f32) : FVec Ideal S16x4352x2048 .bf16 :=
  truncf .bf16 (mulf (mulf u (Host.divf (broadcastInDim S16x4352x2048 ![] bcast_S_S16x4352x2048 (constant S_ .f32 0x3F800000#32)) (addf (broadcastInDim S16x4352x2048 ![] bcast_S_S16x4352x2048 (constant S_ .f32 0x3F800000#32)) (Host.exp (Host.negf u))))) v) bitsLt_bf16_f32

theorem proj_apply (x : FVec Ideal S16x4352x2048 .bf16) (w : FVec Ideal S2x16x2048x2048 .f32) (e : Fin 16) (p : Fin 4352) (j : Fin 2048) :
    proj x w (ix3 e p j) = ∑ k : Fin 2048, x (ix3 e p k) * w (ix4 0 e k j) := by
  unfold proj
  pointwise!

theorem act_apply (u v : FVec Ideal S16x4352x2048 .f32) (e : Fin 16) (p : Fin 4352) (j : Fin 2048) :
    act u v (ix3 e p j) = Cert.Kernel2Ideal.Hidden.unit (u (ix3 e p j)) (v (ix3 e p j)) := by
  unfold act
  pointwise!

theorem hidden (x : FVec Ideal S16x4352x2048 .bf16) (a b : FVec Ideal S2x16x2048x2048 .f32) :
    act (proj x a) (proj x b) = Cert.Kernel2Ideal.Hidden.result x a b := by
  funext i
  obtain ⟨e, p, j, rfl⟩ : ∃ (e : Fin 16) (p : Fin 4352) (j : Fin 2048), i = ix3 e p j := ⟨i 0, i 1, i 2, by
    funext a
    fin_cases a <;> rfl⟩
  rw [act_apply, proj_apply, proj_apply]
  rfl

end Cert.Reference2Ideal.Hidden
end
-- ==== Proof.Down.lean ====
/- The experts' output projection: what a grid point leaves in its output block and in the held weight block, the array of all
   blocks, and the reference's array. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel3Ideal.Down

open Cert.Kernel3Ideal Cert.Kernel3Ideal.Gen Idealize.ShloMosaic Idealize.ShloMosaic.TcCoe Idealize.SL.Sem

variable (m : (ℓ : Loc nD τ sig) → Buf (Elt Ideal) ℓ)

/-- The first lane of a block of row scales. -/
def lane (x : Vec Ideal S1x1088x128 .f32) : Vec Ideal S1x1088x1 .f32 := fun i => x (ix3 (i 0) (i 1) 0)

theorem ld_lane (x : Vec Ideal S1x1088x128 .f32) : View.ld x (Rect.unit ![0, 0, 0] ![1, 1088, 1] inb_S1x1088x128_S1x1088x1_0_0_0) = lane x := by
  funext i
  obtain ⟨p, rfl⟩ : ∃ (p : Fin 1088), i = ix3 0 p 0 := ⟨i 1, by
    funext a
    fin_cases a
    · exact Fin.ext (by have : (i 0).val < 1 := (i 0).isLt; show (i 0).val = 0; omega)
    · rfl
    · exact Fin.ext (by have : (i 2).val < 1 := (i 2).isLt; show (i 2).val = 0; omega)⟩
  change _ = x (ix3 0 p 0)
  pointwise!

/-- A point that takes in its weights multiplies by them. -/
theorem out_A (c : Dev nD) (i : grid0.Coords) (arg3 : Memref sig .tc .vmem S1x1088x2048 .bf16) (harg3 : arg3.IsWhole) (arg4 : Memref sig .tc .vmem S1x2048x1024 .f32) (harg4 : arg4.IsWhole) (arg5 : Memref sig .tc .vmem S1x1088x128 .f32) (harg5 : arg5.IsWhole) (arg6 : Memref sig .tc .vmem S1x1088x1024 .bf16) (harg6 : arg6.IsWhole) (arg7 : Memref sig .tc .vmem S2048x1024 .bf16) (harg7 : arg7.IsWhole) (hc0 : cond0_0 i)
    (x0 : Vec Ideal S1x1088x2048 .bf16) (x1 : Vec Ideal S1x2048x1024 .f32) (x2 : Vec Ideal S1x1088x128 .f32) :
    out0_A_3 c i arg3 harg3 arg4 harg4 arg5 harg5 arg6 harg6 arg7 harg7 hc0 x0 x1 x2 = k0_pay2 x0 (k0_pay1 x1) (lane x2) := by
  frame_open
  frame_out
  exact congrArg (k0_pay2 x0 (k0_pay1 x1)) (ld_lane x2)

/-- A point that takes in none multiplies by those held. -/
theorem out_B (c : Dev nD) (i : grid0.Coords) (arg3 : Memref sig .tc .vmem S1x1088x2048 .bf16) (harg3 : arg3.IsWhole) (arg4 : Memref sig .tc .vmem S1x2048x1024 .f32) (harg4 : arg4.IsWhole) (arg5 : Memref sig .tc .vmem S1x1088x128 .f32) (harg5 : arg5.IsWhole) (arg6 : Memref sig .tc .vmem S1x1088x1024 .bf16) (harg6 : arg6.IsWhole) (arg7 : Memref sig .tc .vmem S2048x1024 .bf16) (harg7 : arg7.IsWhole) (hc0 : ¬cond0_0 i)
    (x0 : Vec Ideal S1x1088x2048 .bf16) (x1 : Vec Ideal S1x2048x1024 .f32) (x2 : Vec Ideal S1x1088x128 .f32) (s0 : Vec Ideal S2048x1024 .bf16) :
    out0_B_3 c i arg3 harg3 arg4 harg4 arg5 harg5 arg6 harg6 arg7 harg7 hc0 x0 x1 x2 s0 = k0_pay2 x0 s0 (lane x2) := by
  frame_open
  frame_out
  exact congrArg (k0_pay2 x0 s0) (ld_lane x2)

/-- What a point that takes in its weights holds afterwards. -/
theorem down_A (c : Dev nD) (i : grid0.Coords) (arg3 : Memref sig .tc .vmem S1x1088x2048 .bf16) (harg3 : arg3.IsWhole) (arg4 : Memref sig .tc .vmem S1x2048x1024 .f32) (harg4 : arg4.IsWhole) (arg5 : Memref sig .tc .vmem S1x1088x128 .f32) (harg5 : arg5.IsWhole) (arg6 : Memref sig .tc .vmem S1x1088x1024 .bf16) (harg6 : arg6.IsWhole) (arg7 : Memref sig .tc .vmem S2048x1024 .bf16) (harg7 : arg7.IsWhole) (hc0 : cond0_0 i)
    (x0 : Vec Ideal S1x1088x2048 .bf16) (x1 : Vec Ideal S1x2048x1024 .f32) (x2 : Vec Ideal S1x1088x128 .f32) :
    sout0_A_0 c i arg3 harg3 arg4 harg4 arg5 harg5 arg6 harg6 arg7 harg7 hc0 x0 x1 x2 = k0_pay1 x1 := by
  frame_open
  frame_out

/-- A block of the result from a row block, a weight block and the rows' scales. -/
theorem pay2_apply (x : Vec Ideal S1x1088x2048 .bf16) (a : Vec Ideal S2048x1024 .bf16) (g : Vec Ideal S1x1088x1 .f32) (p : Fin 1088) (j : Fin 1024) :
    k0_pay2 x a g (ix3 0 p j) = (∑ k : Fin 2048, x (ix3 0 p k) * a (ix2 k j)) * g (ix3 0 p 0) := by
  unfold_payloads
  pointwise!

theorem pay1_apply (x : Vec Ideal S1x2048x1024 .f32) (k : Fin 2048) (j : Fin 1024) : k0_pay1 x (ix2 k j) = x (ix3 0 k j) := by
  unfold_payloads
  pointwise!

/-- The first layer of the stacked weights, in the array whose first axis is layer and expert together. -/
theorem flat_apply {α : Type} (x : S2x16x2048x2048.Idx → α) (e : Fin 16) (k j : Fin 2048) :
    shapeCast S32x2048x2048 x shapeCasts_S2x16x2048x2048_S32x2048x2048 (ix3 ⟨e.val, by omega⟩ k j) = x (ix4 0 e k j) := by
  refine congrArg x (Shape.reshapeEquiv_eq_of_vals _ _ _ (0 * 67108864 + e.val * 4194304 + k.val * 2048 + j.val) (e.val * 4194304 + k.val * 2048 + j.val) ?_ ?_ (by omega))
  · refine (rowMajor_val4 _ 67108864 4194304 2048 (by decide) (by decide) (by decide)).trans ?_
    rfl
  · refine (rowMajor_val3 _ 4194304 2048 (by decide) (by decide)).trans ?_
    rfl

theorem entry_down (c : Dev nD) : V m c main_v0 = shapeCast S32x2048x2048 (m ((c : Thread nD τ).loc main_arg2)) shapeCasts_S2x16x2048x2048_S32x2048x2048 := by
  unfold_abbrev_sides
  after_results
  rfl

theorem entry_x (c : Dev nD) : V m c main_arg0 = m ((c : Thread nD τ).loc main_arg0) := by
  unfold_abbrev_sides
  after_results

theorem entry_scale (c : Dev nD) : V m c main_arg1 = m ((c : Thread nD τ).loc main_arg1) := by
  unfold_abbrev_sides
  after_results

theorem idx0 : ∀ t : Fin cfg0.N, (cfg0.win 0).index t = ![t.val / 8, t.val % 4, 0] := by decide +kernel
theorem idx1 : ∀ t : Fin cfg0.N, (cfg0.win 1).index t = ![t.val / 8, 0, t.val / 4 % 2] := by decide +kernel
theorem idx2 : ∀ t : Fin cfg0.N, (cfg0.win 2).index t = ![t.val / 8, t.val % 4, 0] := by decide +kernel
theorem idx3 : ∀ t : Fin cfg0.N, (cfg0.win 3).index t = ![t.val / 8, t.val % 4, t.val / 4 % 2] := by decide +kernel

/-- A point's expert, and its block's columns and rows. -/
def eOf (n : ℕ) (h : n < cfg0.N) : Fin 16 := ⟨n / 8, by have := lt_of_lt_of_eq h N_0; omega⟩
def col (n : ℕ) (j : Fin 1024) : Fin 2048 := ⟨1024 * (n / 4 % 2) + j.val, by omega⟩
def row (n : ℕ) (p : Fin 1088) : Fin 4352 := ⟨1088 * (n % 4) + p.val, by omega⟩

theorem blk0 (c : Dev nD) (t : Fin cfg0.N) (p : Fin 1088) (k : Fin 2048) :
    iblk m c 0 t (ix3 0 p k) = m ((c : Thread nD τ).loc main_arg0) (ix3 (eOf t.val t.isLt) (row t.val p) k) := by
  rw [← entry_x m c]
  blk_ext [iblk, idx0 t, eOf, row]

theorem blk1 (c : Dev nD) (t : Fin cfg0.N) (k : Fin 2048) (j : Fin 1024) :
    iblk m c 1 t (ix3 0 k j) = m ((c : Thread nD τ).loc main_arg2) (ix4 0 (eOf t.val t.isLt) k (col t.val j)) := by
  refine Eq.trans ?_ ((congrFun (entry_down m c) _).trans (flat_apply _ (eOf t.val t.isLt) k (col t.val j)))
  blk_ext [iblk, idx1 t, eOf, col]

theorem blk2 (c : Dev nD) (t : Fin cfg0.N) (p : Fin 1088) :
    lane (iblk m c 2 t) (ix3 0 p 0) = m ((c : Thread nD τ).loc main_arg1) (ix3 (eOf t.val t.isLt) (row t.val p) 0) := by
  rw [← entry_scale m c]
  change iblk m c 2 t (ix3 0 p 0) = _
  blk_ext [iblk, idx2 t, eOf, row]

/-- The weights held after every point are those of its expert and columns. -/
theorem held (c : Dev nD) : ∀ (n : ℕ) (h : n < cfg0.N) (k : Fin 2048) (j : Fin 1024),
    (outsAt0 m c n h).2 (ix2 k j) = m ((c : Thread nD τ).loc main_arg2) (ix4 0 (eOf n h) k (col n j)) := by
  have first : ∀ (t : Fin cfg0.N), t.val % 4 = 0 → ∀ (k : Fin 2048) (j : Fin 1024),
      (outsAt0 m c t.val t.isLt).2 (ix2 k j) = m ((c : Thread nD τ).loc main_arg2) (ix4 0 (eOf t.val t.isLt) k (col t.val j)) := fun t h0 k j => by
    rw [outsAt0_A m c t h0]
    dsimp only
    rw [down_A, pay1_apply, blk1]
  intro n
  induction n with
  | zero => exact fun h => first ⟨0, h⟩ rfl
  | succ n ih =>
    intro h k j
    by_cases h0 : (n + 1) % 4 = 0
    · exact first ⟨n + 1, h⟩ h0 k j
    · have e : eOf (n + 1) h = eOf n (Nat.lt_of_succ_lt h) := Fin.ext (by show (n + 1) / 8 = n / 8; omega)
      have f : col (n + 1) j = col n j := Fin.ext (by show 1024 * ((n + 1) / 4 % 2) + j.val = 1024 * (n / 4 % 2) + j.val; omega)
      rw [outsAt0_B m c ⟨n + 1, h⟩ h0, e, f]
      exact ih (Nat.lt_of_succ_lt h) k j

/-- The projected rows, each by its scale. -/
def result (x : S16x4352x2048.Idx → EReal) (g : S16x4352x128.Idx → EReal) (a : S2x16x2048x2048.Idx → EReal) : S16x4352x2048.Idx → EReal := fun i =>
  (∑ k : Fin 2048, x (ix3 (i 0) (i 1) k) * a (ix4 0 (i 0) k (i 2))) * g (ix3 (i 0) (i 1) 0)

theorem result_apply (x : S16x4352x2048.Idx → EReal) (g : S16x4352x128.Idx → EReal) (a : S2x16x2048x2048.Idx → EReal) (e : Fin 16) (p : Fin 4352) (j : Fin 2048) :
    result x g a (ix3 e p j) = (∑ k : Fin 2048, x (ix3 e p k) * a (ix4 0 e k j)) * g (ix3 e p 0) := rfl

theorem covers3 : (cfg0.win 3).Covers :=
  (cfg0.win 3).covers_of_indexMap_surj rfl (by decide) fun β => by
    have h0 : (β 0).val < 16 := (β 0).isLt
    have h1 : (β 1).val < 4 := (β 1).isLt
    have h2 : (β 2).val < 2 := (β 2).isLt
    refine ⟨fun | 0 => β 0 | 1 => β 2 | 2 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (BitVec.ofNat 32 (β 2).val).toNat = (β 2).val
      simp only [BitVec.toNat_ofNat]; omega

/-- Where a point's output block lies in the array. -/
theorem place3 (t : Fin cfg0.N) (p : Fin 1088) (q : Fin 1024) :
    (((cfg0.win 3).blk t).view.emb (ix3 0 p q) : S16x4352x2048.Idx) = ix3 (eOf t.val t.isLt) (row t.val p) (col t.val q) := by
  blk_ext [idx3 t, eOf, row, col]

/-- The array the kernel leaves is the projected rows. -/
theorem array (c : Dev nD) :
    (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ covers3 fun t hf y => ?_
  obtain ⟨p, q, rfl⟩ : ∃ (p : Fin 1088) (q : Fin 1024), y = ix3 0 p q := ⟨y 1, y 2, by
    funext a
    fin_cases a
    · exact Fin.ext (by have : (y 0).val < 1 := (y 0).isLt; show (y 0).val = 0; omega)
    · rfl
    · rfl⟩
  rw [place3, result_apply]
  change (dats m 0 c).flushed 3 t (ix3 0 p q) = _
  by_cases h : t.val % 4 = 0
  · rw [Cert.Kernel3Ideal.Value.flushed3_A m c t h, out_A]
    refine (pay2_apply _ _ _ p q).trans (congrArg₂ (· * ·) (Finset.sum_congr rfl fun k _ => ?_) (blk2 m c t p))
    exact congrArg₂ (· * ·) (blk0 m c t p k) ((pay1_apply _ k q).trans (blk1 m c t k q))
  · have hn : t.val - 1 < cfg0.N := Nat.lt_of_le_of_lt (Nat.sub_le _ _) t.isLt
    have e : eOf (t.val - 1) hn = eOf t.val t.isLt := Fin.ext (by show (t.val - 1) / 8 = t.val / 8; omega)
    have f : col (t.val - 1) q = col t.val q := Fin.ext (by show 1024 * ((t.val - 1) / 4 % 2) + q.val = 1024 * (t.val / 4 % 2) + q.val; omega)
    have g := fun k => held m c (t.val - 1) hn k q
    rw [e, f] at g
    rw [Cert.Kernel3Ideal.Value.flushed3_B m c t h, out_B]
    refine (pay2_apply _ _ _ p q).trans (congrArg₂ (· * ·) (Finset.sum_congr rfl fun k _ => ?_) (blk2 m c t p))
    exact congrArg₂ (· * ·) (blk0 m c t p k) (g k)

end Cert.Kernel3Ideal.Down

namespace Cert.Reference3Ideal.Down

open Cert.Reference3Ideal Cert.Reference3Ideal.Gen Idealize.ShloMosaic Idealize.ShloMosaic.TcCoe Idealize.SL.Sem

/-- The reference's array, as composed. -/
def composed (x : FVec Ideal S16x4352x2048 .bf16) (g : FVec Ideal S16x4352x128 .f32) (w : FVec Ideal S2x16x2048x2048 .f32) : FVec Ideal S16x4352x2048 .bf16 :=
  truncf .bf16 (mulf (Host.dotGeneral dot_S16x4352x2048_S16x2048x2048_S16x4352x2048_2_1_1_2_0_0 none (extf .f32 x bitsLt_bf16_f32) (shapeCast S16x2048x2048 (extractStridedSlice S1x16x2048x2048 ![0, 0, 0, 0] w slices_S2x16x2048x2048_S1x16x2048x2048_0_0_0_0) shapeCasts_S1x16x2048x2048_S16x2048x2048)) (broadcastInDim S16x4352x2048 ![0, 1, 2] bcast_S16x4352x1_S16x4352x2048_0_1_2 (extractStridedSlice S16x4352x1 ![0, 0, 0] g slices_S16x4352x128_S16x4352x1_0_0_0))) bitsLt_bf16_f32

/-- It is the projected rows. -/
theorem projected (x : FVec Ideal S16x4352x2048 .bf16) (g : FVec Ideal S16x4352x128 .f32) (w : FVec Ideal S2x16x2048x2048 .f32) :
    composed x g w = Cert.Kernel3Ideal.Down.result x g w := by
  funext i
  obtain ⟨e, p, j, rfl⟩ : ∃ (e : Fin 16) (p : Fin 4352) (j : Fin 2048), i = ix3 e p j := ⟨i 0, i 1, i 2, by
    funext a
    fin_cases a <;> rfl⟩
  rw [Cert.Kernel3Ideal.Down.result_apply]
  unfold composed
  pointwise!

end Cert.Reference3Ideal.Down
end
-- ==== Proof.Proj.lean ====
/- The normalising projection: what its runs share — the region entry, the inputs’ blocks, the condition on the column tile. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- a rectangle has thousands of coordinates along an axis
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, whatever the proof data that
    takes the region's arrays and leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, whatever the proof data that
    takes the region's arrays and leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, whatever the proof data that
    takes the region's arrays and leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, whatever the proof data that
    takes the region's arrays and leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, whatever the proof data that
    takes the region's arrays and leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, whatever the proof data that
    takes the region's arrays and leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, whatever the proof data that
    takes the region's arrays and leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, whatever the proof data that
    takes the region's arrays and leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run: whatever the proof data, if its arrays are those the region finds, the arguments end as launched: an array that
    a window stages is never written back, one that no window stages is left alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's first conditional, from the grid coordinates: the column tile is the first. -/
abbrev cond0_0 (i : grid0.Coords) : Prop := k0_cond1 i = 1#1
/-- It holds at the points ≡ 0 (mod 18), the column tile being the point's remainder. -/
theorem hcond0_0 : ∀ t : Fin cfg0.N, cond0_0 (grid0.coords t) ↔ t.val % 18 = 0 :=
  (fun t => by
    have ht : t.val < 576 := Nat.lt_of_lt_of_eq t.isLt N_0
    have e0 : (grid0.coords t 0).val = t.val / 72 % 8 := Pipeline.Grid.coords_val t 0 (by decide) rfl
    have e1 : (grid0.coords t 1).val = t.val / 18 % 4 := Pipeline.Grid.coords_val t 1 (by decide) rfl
    have e2 : (grid0.coords t 2).val = t.val / 1 % 18 := Pipeline.Grid.coords_val t 2 (by decide) rfl
    simp only [cond0_0, k0_cond1, e0, e1, e2]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an output stored at every point, under no condition). -/
theorem liveAt0_8 : ∀ t : Fin cfg0.N, cfg0.idle 8 (grid0.coords t) = false := fun _ => rfl
/-- Whether output 9's buffer is fresh at each position from 1 on, that is, holds nothing stored since the region's entry or
    the last write-back: bit `n` for position `n + 1`; position 0 is fresh. -/
def freshTab0_9 : ℕ → Bool
  | 0 => true
  | n + 1 => (0x800020000800020000800020000800020000800020000800020000800020000800020000800020000800020000800020000800020000800020000800020000800020000800020000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A output 9 is stored into. -/
theorem liveAt0_9_A : ∀ t : Fin cfg0.N, cond0_0 (grid0.coords t) → cfg0.idle 9 (grid0.coords t) = false := by decide +kernel
/-- At the points of case B output 9 is left idle. -/
theorem idleAt0_9_B : ∀ t : Fin cfg0.N, ¬cond0_0 (grid0.coords t) → cfg0.idle 9 (grid0.coords t) = true := by decide +kernel
/-- At the points of case B output 9's buffer is not fresh: the row tile's first column tile stored into it. -/
theorem notFresh0_9_B : ∀ t : Fin cfg0.N, ¬cond0_0 (grid0.coords t) → cfg0.fresh 9 t.val = false := by
  intro t; rw [fresh0_9_eq t]; revert t; decide +kernel

/-! ## The kernel body on any staging memrefs: a subtype the run finds -/

/-- One staging buffer of output window 8, through which its contents are stated (the choice does not matter). -/
abbrev VO0_8 : View sig .tc .vmem S1x1088x768 .bf16 := (Memref.whole cc0_stg8_0 : Memref sig .tc .vmem S1x1088x768 .bf16).view
/-- One staging buffer of output window 9, through which its contents are stated (the choice does not matter). -/
abbrev VO0_9 : View sig .tc .vmem S1x1088x128 .f32 := (Memref.whole cc0_stg9_0 : Memref sig .tc .vmem S1x1088x128 .f32).view
/-- Each window's current staging memref at point `t`, and its wholeness. -/
abbrev ms0_0 (t : Fin cfg0.N) : Memref sig .tc .vmem S1x1088x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1088x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1088x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1088x2048 .bf16 := Memref.whole cc0_scratch0
/-- The scratch `arg13` the kernel carries between points, as a view: what it holds is stated through it. -/
abbrev VS0_0 : View sig .tc .vmem S1088x2048 .bf16 := scM0_0.view

/-- The invariant with the scratch operands as memrefs owned at some contents: what the body is handed and gives back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel4Ideal.Gen

end
-- ==== Proof.ProjA.lean ====
/- The normalising projection’s body at a row tile’s first column tile: the normalised rows and the gates are stored. -/
module

public import proofs.«01_k».proof.Proof.Proj

@[expose] public section

-- a rectangle has thousands of coordinates along an axis
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body's run is long
set_option maxHeartbeats 1000000 in
/-- What the body stores into each output's staging memref and into the scratch at a row tile's first column tile (points 0, 18, …, 558), as pieces (last first),
    with the proof that on whole staging memrefs the body runs and leaves the inputs' as they were and the outputs' and the scratch with
    those pieces written. -/
noncomputable def kernelRun0_A (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) :
    Σ' (L8 : List (View.Piece (Elt F) S1x1088x768 .bf16)), Σ' (L9 : List (View.Piece (Elt F) S1x1088x128 .f32)), { LS0 : List (View.Piece (Elt F) S1088x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0)) -∗ K ⟨⟩))
          ⊢ wp frame (wpE (defs₀ (F := F)) Variants.none c none) E (cc0__proj_kernel i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__proj_kernel_eq_skeleton]; unfold cc0__proj_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    iexists _; iexact HS0

end Cert.Kernel4Ideal.Gen

end
-- ==== Proof.ProjB.lean ====
/- The normalising projection’s body at a row tile’s later column tiles: only the product is stored. -/
module

public import proofs.«01_k».proof.Proof.ProjA

@[expose] public section

-- a rectangle has thousands of coordinates along an axis
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body's run is long
set_option maxHeartbeats 1000000 in
/-- What the body stores into each output's staging memref and into the scratch at a row tile's later column tiles, as pieces (last first),
    with the proof that on whole staging memrefs the body runs and leaves the inputs' as they were and the outputs' and the scratch with
    those pieces written. -/
noncomputable def kernelRun0_B (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (xo9 : Vec F S1x1088x128 .f32) (xs0 : Vec F S1088x2048 .bf16) :
    Σ' (L8 : List (View.Piece (Elt F) S1x1088x768 .bf16)), { LS0 : List (View.Piece (Elt F) S1088x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xo9 ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xo9 ∗ owns (c : Thread nD τ) arg13 fullShare xs0) -∗ K ⟨⟩))
          ⊢ wp frame (wpE (defs₀ (F := F)) Variants.none c none) E (cc0__proj_kernel i arg3 harg3 arg4 harg4 arg5 harg5 arg6 harg6 arg7 harg7 arg8 harg8 arg9 harg9 arg10 harg10 arg11 harg11 arg12 harg12 arg13 harg13) K } := by
  refine ⟨?_, [], fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hf9; obtain rfl := harg13.eq_unread hfs0
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]
    · iexists _; isplitr; · ipureintro; exact harg12.read_unread _
      iexact H9
    iexists _; isplitr; · ipureintro; exact harg13.read_unread _
    iexact HS0

end Cert.Kernel4Ideal.Gen

end
-- ==== Proof.ProjFrame.lean ====
/- The normalising projection’s frame: what its buffers hold point by point, the body at every point, the run. -/
module

public import proofs.«01_k».proof.Proof.ProjB
public import Idealize.ShloMosaic.Lib.Claim

@[expose] public section

-- a rectangle has thousands of coordinates along an axis
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's one store covers output 8's block. -/
theorem cover0_A_8 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (y : S1x1088x768.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).1 S1x1088x768.size (by sl_kernel_rfl) y

/-- What case A leaves in output 8's staging buffer: its pieces read back over junk. -/
def out0_A_8 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) : Vec F S1x1088x768 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).1)

/-- Case A's four stores, of 272 rows each, cover output 9's block. -/
theorem cover0_A_9 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (y : S1x1088x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.1 S1x272x128.size (by sl_kernel_rfl) y

/-- What case A leaves in output 9's staging buffer: its pieces read back over junk. -/
def out0_A_9 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) : Vec F S1x1088x128 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.1)

/-- Case A's four stores, of 272 rows each, cover the scratch. -/
theorem scover0_A_0 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (y : S1088x2048.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.2.1 S272x2048.size (by sl_kernel_rfl) y

/-- What case A leaves in scratch `arg13`: its pieces read back over junk. -/
def sout0_A_0 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) : Vec F S1088x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 x0 x1 x2 x3 x4 x5 x6 x7).2.2.1)

/-- Case B's one store covers output 8's block. -/
theorem cover0_B_8 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (xo9 : Vec F S1x1088x128 .f32) (xs0 : Vec F S1088x2048 .bf16) (y : S1x1088x768.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 x4 x5 x6 x7 xo9 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 x4 x5 x6 x7 xo9 xs0).1 S1x1088x768.size (by sl_kernel_rfl) y

/-- What case B leaves in output 8's staging buffer: its pieces read back over junk. -/
def out0_B_8 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (xo9 : Vec F S1x1088x128 .f32) (xs0 : Vec F S1088x2048 .bf16) : Vec F S1x1088x768 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 hc0 x0 x1 x2 x3 x4 x5 x6 x7 xo9 xs0).1)

/-- Case B stores nothing into output 9: it holds what the point before left. -/
def out0_B_9 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (xo9 : Vec F S1x1088x128 .f32) (xs0 : Vec F S1088x2048 .bf16) : Vec F S1x1088x128 .f32 :=
  xo9

/-- Case B stores nothing into scratch `arg13`: it holds what the point before left. -/
def sout0_B_0 (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec F S1x1088x2048 .f32) (x1 : Vec F S1x2048 .f32) (x2 : Vec F S1x1x2048 .f32) (x3 : Vec F S1x1x2048 .f32) (x4 : Vec F S1x1x2048 .f32) (x5 : Vec F S1x1x2048 .f32) (x6 : Vec F S2048x768 .bf16) (x7 : Vec F S2048x128 .bf16) (xo9 : Vec F S1x1088x128 .f32) (xs0 : Vec F S1088x2048 .bf16) : Vec F S1088x2048 .bf16 := xs0

/-! ## What the outputs hold after each point -/

/-- What the outputs' staging buffers and the carried scratch hold after the body at position `n`: the case that `n` selects, run at the
    point's memrefs and input blocks; output 9 and the scratch, at a later column tile, stay as the point before left them. -/
def outsAt0 (c : Dev nD) : (n : ℕ) → n < cfg0.N → Vec F S1x1088x768 .bf16 × Vec F S1x1088x128 .f32 × Vec F S1088x2048 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 18 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 18 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 18 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: before the first point every scratch at anything; afterwards the carried scratch at what the
    point before left in it, the others at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them; after the body each input's buffer at its
    block and the outputs' at `outsAt0`; the invariant `PhiS`; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

/-- The proof data's arrays are those the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents carry through the points that leave it idle: there what it holds afterwards is what the point before left. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 576 := lt_of_lt_of_eq t.isLt (show cfg0.N = 576 from N_0)
  rw [after0_9, after0_9]
  by_cases h0 : t.val % 18 = 0
  · rw [liveAt0_9_A t ((hcond0_0 t).mpr h0)] at hi
    exact absurd hi Bool.false_ne_true
  · rw [outsAt0_B m c t h0]; rfl
/-- At a point of case B output 9's current staging buffer holds what the point before left. -/
theorem before0_9_B (c : Dev nD) (t : Fin cfg0.N) (h0 : ¬t.val % 18 = 0) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h))]; exact Bool.false_ne_true)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- What the point before left in output 9's buffer is what the body must leave there at a point of case B: as found, and
    at the row tile's last point what is written back. -/
theorem held9 (c : Dev nD) (t : Fin cfg0.N) (h0 : ¬t.val % 18 = 0) :
    owns (c : Thread nD τ) (ms0_9 t) fullShare (outsAt0 m c (t.val - 1) (Nat.lt_of_le_of_lt (Nat.sub_le _ _) t.isLt)).2.1 ⊢ (dats m 0 c).leavesExact 9 t := by
  have hi := idleAt0_9_B t (fun h => h0 ((hcond0_0 t).mp h))
  cases hf : (cfg0.win 9).flush t
  · rw [Dat.leavesExact_idle _ 9 t hi hf]
    iintro H
    iexists (outsAt0 m c (t.val - 1) (Nat.lt_of_le_of_lt (Nat.sub_le _ _) t.isLt)).2.1
    rw [before0_9_B m c t h0]
    iexact H
  · unfold Dat.leavesExact
    rw [hi, hf]
    dsimp only
    rw [after0_9, outsAt0_B m c t h0]
    iintro H
    iexact H

set_option maxHeartbeats 6400000 in
/-- The body at any point: the inputs' memrefs hold their blocks and the point says which case it is in, so that case's run applies;
    the carried scratch is handed over at what the point before left and taken back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 576 := lt_of_lt_of_eq t.isLt (show cfg0.N = 576 from N_0)
  by_cases h0 : t.val % 18 = 0
  · skip
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0)], after0_9]
      by_cases hz : t.val = 0
      · rw [PhiS_castSucc m c t, PhiS_zero m c _ _ hz, PhiA0_eq]
        rw [outsAt0_A m c t h0]
        unfold out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
      · rw [PhiS_castSucc m c t, PhiS_pos m c _ _ hz]
        rw [outsAt0_A m c t h0]
        unfold out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
  · skip
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      by_cases hz : t.val = 0
      · exfalso; have hN : t.val < 576 := lt_of_lt_of_eq t.isLt (show cfg0.N = 576 from N_0); omega
      · rw [PhiS_castSucc m c t, PhiS_pos m c _ _ hz]
        rw [outsAt0_B m c t h0]
        simp only [before0_9_B m c t h0]
        unfold out0_B_8 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        iapply (held9 m c t h0)
        iexact H9

/-- The body table's row at point `t`'s slots is the body at the point's memrefs. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed: the carried scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 576 := N_0; omega)

/-! ## The run and the frame -/

set_option backward.isDefEq.respectTransparency.types false in
/-- The run: every array of the pipeline ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, over any float values: the run ends, the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Gen

end
-- ==== Proof.ProjValue.lean ====
/- The normalising projection’s runs with the arrays after them named, and what each point writes back. -/
module

public import proofs.«01_k».proof.Proof.ProjFrame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 8's array: what the body leaves in its buffer. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- The same at a row tile's first column tile. -/
theorem flushed8_A (c : Dev nD) (t : Fin cfg0.N) (h0 : t.val % 18 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- The same at a later column tile. -/
theorem flushed8_B (c : Dev nD) (t : Fin cfg0.N) (h0 : ¬t.val % 18 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed8, outsAt0_B m c t h0]

/-- What point `t` writes back to output window 9's array: what the body leaves in its buffer. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- The same at a row tile's first column tile. -/
theorem flushed9_A (c : Dev nD) (t : Fin cfg0.N) (h0 : t.val % 18 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- The same at a later column tile. -/
theorem flushed9_B (c : Dev nD) (t : Fin cfg0.N) (h0 : ¬t.val % 18 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed9, outsAt0_B m c t h0]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v10_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v10_1) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run with each output array named, the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 8 cfg0.N
      ∧ r.2.mem ((c : Thread nD τ).loc main_v10_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c⟩)
    (run_main m ρ)

end Cert.Kernel4Ideal.Value

end
-- ==== Proof.ProjRows.lean ====
/- The normalising projection at one grid point: the normalised rows it stores, the product tile and the gates. -/
module

public import proofs.«01_k».proof.Proof.ProjValue
public import proofs.«01_k».proof.Proof.Sigmoid
public import Idealize.ShloMosaic.Lib.Pipeline.ValueKit
public import Idealize.ShloMosaic.Lib.Pipeline.Covers

@[expose] public section

set_option maxRecDepth 16384

noncomputable section

namespace Cert.Kernel4Ideal.Rows

open Cert.Kernel4Ideal Cert.Kernel4Ideal.Gen Idealize.ShloMosaic Idealize.ShloMosaic.TcCoe Idealize.SL.Sem

/-- One entry of a row divided by its root mean square, weighted by `g`, scaled by `1 + sc` and shifted by `sh`. -/
def norm (x : Fin 2048 → EReal) (g sc sh : EReal) (k : Fin 2048) : EReal :=
  x k * Ideal.rsqrt (Ideal.div (∑ j : Fin 2048, x j * x j) (Ideal.ofBits .f32 0x45000000#32) + Ideal.ofBits .f32 0x358637BD#32) * g * (1 + sc) + sh

/-- A selection by the flag of a truth value. -/
theorem select_flag {α : Type} (b : Bool) (x y : α) : Scalar.select (BitVec.ofBool b) x y = if b then x else y := by
  cases b <;> rfl

/-! A row of tile `a` belongs to the context rows exactly when its number is at least 4096. -/

theorem late0 : ∀ (a : Fin 4) (i : Fin 272), IntOp.cmpi .sge (IntOp.addi (Scalar.addi (Scalar.muli (BitVec.ofNat 32 a.val) 1088#32) 0#32) (BitVec.ofNat 32 i.val)) 4096#32
    = BitVec.ofBool (decide (4096 ≤ 1088 * a.val + (0 + i.val))) := by decide +kernel

theorem late1 : ∀ (a : Fin 4) (i : Fin 272), IntOp.cmpi .sge (IntOp.addi (Scalar.addi (Scalar.muli (BitVec.ofNat 32 a.val) 1088#32) 272#32) (BitVec.ofNat 32 i.val)) 4096#32
    = BitVec.ofBool (decide (4096 ≤ 1088 * a.val + (272 + i.val))) := by decide +kernel

theorem late2 : ∀ (a : Fin 4) (i : Fin 272), IntOp.cmpi .sge (IntOp.addi (Scalar.addi (Scalar.muli (BitVec.ofNat 32 a.val) 1088#32) 544#32) (BitVec.ofNat 32 i.val)) 4096#32
    = BitVec.ofBool (decide (4096 ≤ 1088 * a.val + (544 + i.val))) := by decide +kernel

theorem late3 : ∀ (a : Fin 4) (i : Fin 272), IntOp.cmpi .sge (IntOp.addi (Scalar.addi (Scalar.muli (BitVec.ofNat 32 a.val) 1088#32) 816#32) (BitVec.ofNat 32 i.val)) 4096#32
    = BitVec.ofBool (decide (4096 ≤ 1088 * a.val + (816 + i.val))) := by decide +kernel

/-- A column of tile `n` belongs to the merge gates exactly when its number is at least 7680. -/
theorem gated : ∀ (n : Fin 18) (j : Fin 768), IntOp.cmpi .sge (IntOp.addi (Scalar.muli (BitVec.ofNat 32 n.val) 768#32) (BitVec.ofNat 32 j.val)) 7680#32
    = BitVec.ofBool (decide (7680 ≤ 768 * n.val + j.val)) := by decide +kernel

/-- Row `r` of row tile `a`, normalised: the context's scale and shift from token 4096 on, the sample's own before. -/
def hrow (a : Fin 4) (x0 : S1x1088x2048.Idx → EReal) (x1 : S1x2048.Idx → EReal) (x2 x3 x4 x5 : S1x1x2048.Idx → EReal) (r : Fin 1088) (k : Fin 2048) : EReal :=
  norm (fun j => x0 (ix3 0 r j)) (x1 (ix2 0 k)) (if 4096 ≤ 1088 * a.val + r.val then x5 (ix3 0 0 k) else x3 (ix3 0 0 k)) (if 4096 ≤ 1088 * a.val + r.val then x4 (ix3 0 0 k) else x2 (ix3 0 0 k)) k

/-- A column of the product tile: through the logistic function where it is a merge gate. -/
def gate (n : Fin 18) (j : Fin 768) (s : EReal) : EReal := if 7680 ≤ 768 * n.val + j.val then Ideal.logistic s else s

theorem pay2_apply (i : grid0.Coords) (h : Vec Ideal S1088x2048 .bf16) (w : Vec Ideal S2048x768 .bf16) (p : Fin 1088) (j : Fin 768) :
    k0_pay2 i h w (ix3 0 p j) = gate (i 2) j (∑ k : Fin 2048, h (ix2 p k) * w (ix2 k j)) := by
  unfold_payloads
  pointwise!
  rw [Cert.Sigmoid.eq_logistic]
  erw [gated (i 2) j]
  rw [select_flag]
  unfold gate
  simp only [decide_eq_true_eq]

theorem lane {o : ℕ} (inb : ∀ a, ![0, o, 0] a + ![1, 272, 2048] a ≤ S1x1088x2048.size a) (x0 : S1x1088x2048.Idx → EReal) (i : Fin 272) (j : Fin 2048) (r : Fin 1088) (h : r.val = o + i.val) :
    View.ld (Val := Elt Ideal) (e' := .f32) x0 (Rect.unit (s := S1x1088x2048) ![0, o, 0] ![1, 272, 2048] inb) (ix3 0 i j) = x0 (ix3 0 r j) := by
  refine congrArg x0 (funext fun a => ?_)
  fin_cases a
  · rfl
  · exact Fin.ext (by rw [Rect.idx_unit_val]; exact h.symm)
  · exact Fin.ext (by rw [Rect.idx_unit_val]; exact Nat.zero_add _)

theorem pay3_apply (v : Vec Ideal S1x272x2048 .f32) (x1 : Vec Ideal S1x2048 .f32) (i : Fin 272) (k : Fin 2048) :
    k0_pay3 v x1 (ix2 i k) = v (ix3 0 i k) * Ideal.rsqrt (Ideal.div (∑ j : Fin 2048, v (ix3 0 i j) * v (ix3 0 i j)) (Ideal.ofBits .f32 0x45000000#32) + Ideal.ofBits .f32 0x358637BD#32) * x1 (ix2 0 k) := by
  unfold k0_pay3
  pointwise!

theorem pay10_apply (v : Vec Ideal S1x272x2048 .f32) (x1 : Vec Ideal S1x2048 .f32) (i : Fin 272) (k : Fin 2048) :
    k0_pay10 v x1 (ix2 i k) = v (ix3 0 i k) * Ideal.rsqrt (Ideal.div (∑ j : Fin 2048, v (ix3 0 i j) * v (ix3 0 i j)) (Ideal.ofBits .f32 0x45000000#32) + Ideal.ofBits .f32 0x358637BD#32) * x1 (ix2 0 k) := by
  unfold k0_pay10
  pointwise!

theorem pay15_apply (v : Vec Ideal S1x272x2048 .f32) (x1 : Vec Ideal S1x2048 .f32) (i : Fin 272) (k : Fin 2048) :
    k0_pay15 v x1 (ix2 i k) = v (ix3 0 i k) * Ideal.rsqrt (Ideal.div (∑ j : Fin 2048, v (ix3 0 i j) * v (ix3 0 i j)) (Ideal.ofBits .f32 0x45000000#32) + Ideal.ofBits .f32 0x358637BD#32) * x1 (ix2 0 k) := by
  unfold k0_pay15
  pointwise!

theorem pay21_apply (v : Vec Ideal S1x272x2048 .f32) (i : Fin 272) (k : Fin 2048) : k0_pay21 v (ix2 i k) = v (ix3 0 i k) * Ideal.rsqrt (Ideal.div (∑ j : Fin 2048, v (ix3 0 i j) * v (ix3 0 i j)) (Ideal.ofBits .f32 0x45000000#32) + Ideal.ofBits .f32 0x358637BD#32) := by
  unfold k0_pay21
  pointwise!

theorem pay11_apply (y : FVec Ideal S272x2048 .f32) (p d : BitVec 32) (x2 x3 x4 x5 : Vec Ideal S1x1x2048 .f32) (i : Fin 272) (k : Fin 2048) :
    k0_pay11 y p d x5 x3 x4 x2 (ix2 i k)
      = y (ix2 i k) * (1 + Scalar.select (IntOp.cmpi .sge (IntOp.addi (Scalar.addi p d) (BitVec.ofNat 32 i.val)) 4096#32) (x5 (ix3 0 0 k)) (x3 (ix3 0 0 k)))
        + Scalar.select (IntOp.cmpi .sge (IntOp.addi (Scalar.addi p d) (BitVec.ofNat 32 i.val)) 4096#32) (x4 (ix3 0 0 k)) (x2 (ix3 0 0 k)) := by
  unfold k0_pay11
  pointwise!

theorem rows0 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 0 + i.val) (k : Fin 2048) :
    k0_pay7 (k0_pay3 v x1) (k0_pay4 (BitVec.ofNat 32 a.val)) (k0_pay5 (BitVec.ofNat 32 a.val) x5 x3) (k0_pay6 x4) x2 (ix2 i k) = hrow a x0 x1 x2 x3 x4 x5 r k := by
  have e : k0_pay7 (k0_pay3 v x1) (k0_pay4 (BitVec.ofNat 32 a.val)) (k0_pay5 (BitVec.ofNat 32 a.val) x5 x3) (k0_pay6 x4) x2 = k0_pay11 (k0_pay10 v x1) (Scalar.muli (BitVec.ofNat 32 a.val) 1088#32) 0#32 x5 x3 x4 x2 := rfl
  rw [e, pay11_apply, pay10_apply, late0 a i, select_flag, select_flag]
  simp only [hv, decide_eq_true_eq]
  rw [← hr]
  rfl

theorem stored0 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 0 + i.val) (k : Fin 2048) :
    k0_pay8 (k0_pay3 v x1) (k0_pay4 (BitVec.ofNat 32 a.val)) (k0_pay5 (BitVec.ofNat 32 a.val) x5 x3) (k0_pay6 x4) x2 (ix2 i k) = hrow a x0 x1 x2 x3 x4 x5 r k := by
  refine Eq.trans ?_ (rows0 a v x0 x1 x2 x3 x4 x5 i r hv hr k)
  unfold k0_pay8
  pointwise!

theorem gates0 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 0 + i.val) (u : Vec Ideal S2048x128 .bf16) (k : Fin 128) :
    k0_pay9 (k0_pay3 v x1) (k0_pay4 (BitVec.ofNat 32 a.val)) (k0_pay5 (BitVec.ofNat 32 a.val) x5 x3) (k0_pay6 x4) x2 u (ix3 0 i k) = ∑ j : Fin 2048, hrow a x0 x1 x2 x3 x4 x5 r j * u (ix2 j k) := by
  refine Eq.trans ?_ (Finset.sum_congr rfl fun j _ => congrArg (· * u (ix2 j k)) (rows0 a v x0 x1 x2 x3 x4 x5 i r hv hr j))
  unfold k0_pay9
  pointwise!

theorem rows1 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 272 + i.val) (k : Fin 2048) :
    k0_pay11 (k0_pay10 v x1) (Scalar.muli (BitVec.ofNat 32 a.val) 1088#32) 272#32 x5 x3 x4 x2 (ix2 i k) = hrow a x0 x1 x2 x3 x4 x5 r k := by
  have e : k0_pay11 (k0_pay10 v x1) (Scalar.muli (BitVec.ofNat 32 a.val) 1088#32) 272#32 x5 x3 x4 x2 = k0_pay11 (k0_pay10 v x1) (Scalar.muli (BitVec.ofNat 32 a.val) 1088#32) 272#32 x5 x3 x4 x2 := rfl
  rw [e, pay11_apply, pay10_apply, late1 a i, select_flag, select_flag]
  simp only [hv, decide_eq_true_eq]
  rw [← hr]
  rfl

theorem stored1 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 272 + i.val) (k : Fin 2048) :
    k0_pay12 (k0_pay10 v x1) (Scalar.muli (BitVec.ofNat 32 a.val) 1088#32) 272#32 x5 x3 x4 x2 (ix2 i k) = hrow a x0 x1 x2 x3 x4 x5 r k := by
  refine Eq.trans ?_ (rows1 a v x0 x1 x2 x3 x4 x5 i r hv hr k)
  unfold k0_pay12
  pointwise!

theorem gates1 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 272 + i.val) (u : Vec Ideal S2048x128 .bf16) (k : Fin 128) :
    k0_pay14 (k0_pay13 (k0_pay10 v x1) (Scalar.muli (BitVec.ofNat 32 a.val) 1088#32) 272#32 x5 x3 x4 x2 u) (ix3 0 i k) = ∑ j : Fin 2048, hrow a x0 x1 x2 x3 x4 x5 r j * u (ix2 j k) := by
  refine Eq.trans ?_ (Finset.sum_congr rfl fun j _ => congrArg (· * u (ix2 j k)) (rows1 a v x0 x1 x2 x3 x4 x5 i r hv hr j))
  unfold k0_pay14 k0_pay13
  pointwise!

theorem rows2 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 544 + i.val) (k : Fin 2048) :
    k0_pay18 (k0_pay15 v x1) (k0_pay16 (BitVec.ofNat 32 a.val)) (k0_pay17 (BitVec.ofNat 32 a.val) x5 x3) x4 x2 (ix2 i k) = hrow a x0 x1 x2 x3 x4 x5 r k := by
  have e : k0_pay18 (k0_pay15 v x1) (k0_pay16 (BitVec.ofNat 32 a.val)) (k0_pay17 (BitVec.ofNat 32 a.val) x5 x3) x4 x2 = k0_pay11 (k0_pay10 v x1) (Scalar.muli (BitVec.ofNat 32 a.val) 1088#32) 544#32 x5 x3 x4 x2 := rfl
  rw [e, pay11_apply, pay10_apply, late2 a i, select_flag, select_flag]
  simp only [hv, decide_eq_true_eq]
  rw [← hr]
  rfl

theorem stored2 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 544 + i.val) (k : Fin 2048) :
    k0_pay19 (k0_pay15 v x1) (k0_pay16 (BitVec.ofNat 32 a.val)) (k0_pay17 (BitVec.ofNat 32 a.val) x5 x3) x4 x2 (ix2 i k) = hrow a x0 x1 x2 x3 x4 x5 r k := by
  refine Eq.trans ?_ (rows2 a v x0 x1 x2 x3 x4 x5 i r hv hr k)
  unfold k0_pay19
  pointwise!

theorem gates2 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 544 + i.val) (u : Vec Ideal S2048x128 .bf16) (k : Fin 128) :
    k0_pay20 (k0_pay15 v x1) (k0_pay16 (BitVec.ofNat 32 a.val)) (k0_pay17 (BitVec.ofNat 32 a.val) x5 x3) x4 x2 u (ix3 0 i k) = ∑ j : Fin 2048, hrow a x0 x1 x2 x3 x4 x5 r j * u (ix2 j k) := by
  refine Eq.trans ?_ (Finset.sum_congr rfl fun j _ => congrArg (· * u (ix2 j k)) (rows2 a v x0 x1 x2 x3 x4 x5 i r hv hr j))
  unfold k0_pay20
  pointwise!

theorem rows3 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 816 + i.val) (k : Fin 2048) :
    k0_pay22 (BitVec.ofNat 32 a.val) (k0_pay21 v) x1 x5 x3 x4 x2 (ix2 i k) = hrow a x0 x1 x2 x3 x4 x5 r k := by
  have e : k0_pay22 (BitVec.ofNat 32 a.val) (k0_pay21 v) x1 x5 x3 x4 x2 = k0_pay11 (k0_pay10 v x1) (Scalar.muli (BitVec.ofNat 32 a.val) 1088#32) 816#32 x5 x3 x4 x2 := rfl
  rw [e, pay11_apply, pay10_apply, late3 a i, select_flag, select_flag]
  simp only [hv, decide_eq_true_eq]
  rw [← hr]
  rfl

theorem stored3 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 816 + i.val) (k : Fin 2048) :
    k0_pay23 (BitVec.ofNat 32 a.val) (k0_pay21 v) x1 x5 x3 x4 x2 (ix2 i k) = hrow a x0 x1 x2 x3 x4 x5 r k := by
  refine Eq.trans ?_ (rows3 a v x0 x1 x2 x3 x4 x5 i r hv hr k)
  unfold k0_pay23
  pointwise!

theorem gates3 (a : Fin 4) (v : Vec Ideal S1x272x2048 .f32) (x0 : S1x1088x2048.Idx → EReal) (x1 : Vec Ideal S1x2048 .f32) (x2 x3 x4 x5 : Vec Ideal S1x1x2048 .f32) (i : Fin 272) (r : Fin 1088) (hv : ∀ j : Fin 2048, v (ix3 0 i j) = x0 (ix3 0 r j)) (hr : r.val = 816 + i.val) (u : Vec Ideal S2048x128 .bf16) (k : Fin 128) :
    k0_pay1 (k0_pay22 (BitVec.ofNat 32 a.val) (k0_pay21 v) x1 x5 x3 x4 x2) u (ix3 0 i k) = ∑ j : Fin 2048, hrow a x0 x1 x2 x3 x4 x5 r j * u (ix2 j k) := by
  refine Eq.trans ?_ (Finset.sum_congr rfl fun j _ => congrArg (· * u (ix2 j k)) (rows3 a v x0 x1 x2 x3 x4 x5 i r hv hr j))
  unfold k0_pay1
  pointwise!

end Cert.Kernel4Ideal.Rows
end
-- ==== Proof.ProjBlocks.lean ====
/- The normalising projection: its two results as functions of its arguments, and what each grid point's blocks hold. -/
module

public import proofs.«01_k».proof.Proof.ProjRows

@[expose] public section

set_option maxRecDepth 16384

noncomputable section

namespace Cert.Kernel4Ideal.Rows

open Cert.Kernel4Ideal Cert.Kernel4Ideal.Gen Idealize.ShloMosaic Idealize.ShloMosaic.TcCoe Idealize.SL.Sem

variable (m : (ℓ : Loc nD τ sig) → Buf (Elt Ideal) ℓ)

/-- Row `p` of batch `b`: of the sequence, or of the context after it. -/
def joined (x : S8x4096x2048.Idx → EReal) (y : S8x256x2048.Idx → EReal) (b : Fin 8) (p : Fin 4352) (j : Fin 2048) : EReal :=
  if h : p.val < 4096 then x (ix3 b ⟨p.val, h⟩ j) else y (ix3 b ⟨p.val - 4096, by omega⟩ j)

/-- One entry of the normalised row. -/
def hid (x : S8x4096x2048.Idx → EReal) (y : S8x256x2048.Idx → EReal) (v : S16x12288.Idx → EReal) (g : S2048.Idx → EReal) (b : Fin 8) (p : Fin 4352) (k : Fin 2048) : EReal :=
  norm (joined x y b p) (g (ix1 k))
    (if 4096 ≤ p.val then v (ix2 8 ⟨2048 + k.val, by omega⟩) else v (ix2 ⟨b.val, by omega⟩ ⟨2048 + k.val, by omega⟩))
    (if 4096 ≤ p.val then v (ix2 8 ⟨k.val, by omega⟩) else v (ix2 ⟨b.val, by omega⟩ ⟨k.val, by omega⟩)) k

/-- A column of the weights without the gate columns. -/
def mainW (w : S2048x13840.Idx → EReal) (k : Fin 2048) (q : Fin 13824) : EReal :=
  if q.val < 3072 then w (ix2 k ⟨q.val, by omega⟩) else w (ix2 k ⟨q.val + 16, by omega⟩)

/-- A gate column of the weights, zero past the sixteenth. -/
def gateW (w : S2048x13840.Idx → EReal) (k : Fin 2048) (q : Fin 128) : EReal :=
  if h : q.val < 16 then w (ix2 k ⟨3072 + q.val, by omega⟩) else 0

/-- The projected rows, the branch gates among them through the logistic function. -/
def resultP (x : S8x4096x2048.Idx → EReal) (y : S8x256x2048.Idx → EReal) (v : S16x12288.Idx → EReal) (g : S2048.Idx → EReal) (w : S2048x13840.Idx → EReal) : S8x4352x13824.Idx → EReal := fun i =>
  if 7680 ≤ (i 2).val then Ideal.logistic (∑ k : Fin 2048, hid x y v g (i 0) (i 1) k * mainW w k (i 2)) else ∑ k : Fin 2048, hid x y v g (i 0) (i 1) k * mainW w k (i 2)

/-- The head gates, padded to 128 columns. -/
def resultG (x : S8x4096x2048.Idx → EReal) (y : S8x256x2048.Idx → EReal) (v : S16x12288.Idx → EReal) (g : S2048.Idx → EReal) (w : S2048x13840.Idx → EReal) : S8x4352x128.Idx → EReal := fun i =>
  ∑ k : Fin 2048, hid x y v g (i 0) (i 1) k * gateW w k (i 2)

theorem resultP_apply (x : S8x4096x2048.Idx → EReal) (y : S8x256x2048.Idx → EReal) (v : S16x12288.Idx → EReal) (g : S2048.Idx → EReal) (w : S2048x13840.Idx → EReal) (b : Fin 8) (p : Fin 4352) (q : Fin 13824) :
    resultP x y v g w (ix3 b p q) = if 7680 ≤ q.val then Ideal.logistic (∑ k : Fin 2048, hid x y v g b p k * mainW w k q) else ∑ k : Fin 2048, hid x y v g b p k * mainW w k q := rfl

theorem resultG_apply (x : S8x4096x2048.Idx → EReal) (y : S8x256x2048.Idx → EReal) (v : S16x12288.Idx → EReal) (g : S2048.Idx → EReal) (w : S2048x13840.Idx → EReal) (b : Fin 8) (p : Fin 4352) (q : Fin 128) :
    resultG x y v g w (ix3 b p q) = ∑ k : Fin 2048, hid x y v g b p k * gateW w k q := rfl

/-! ## The arrays the windows read -/

def catRows (x : FVec Ideal S8x4096x2048 .f32) (y : FVec Ideal S8x256x2048 .f32) : FVec Ideal S8x4352x2048 .f32 :=
  concatenate S8x4352x2048 1 [⟨S8x4096x2048, x⟩, ⟨S8x256x2048, y⟩] concatenates_S8x4096x2048_S8x256x2048_S8x4352x2048_d1

def catW (w : FVec Ideal S2048x13840 .f32) : FVec Ideal S2048x13824 .bf16 :=
  truncf .bf16 (concatenate S2048x13824 1 [⟨S2048x3072, extractStridedSlice S2048x3072 ![0, 0] w slices_S2048x13840_S2048x3072_0_0⟩, ⟨S2048x10752, extractStridedSlice S2048x10752 ![0, 3088] w slices_S2048x13840_S2048x10752_0_3088⟩] concatenates_S2048x3072_S2048x10752_S2048x13824_d1) bitsLt_bf16_f32

def padW (w : FVec Ideal S2048x13840 .f32) : FVec Ideal S2048x128 .bf16 :=
  truncf .bf16 (pad S2048x128 ![0, 0] ![0, 112] ![0, 0] (extractStridedSlice S2048x16 ![0, 3072] w slices_S2048x13840_S2048x16_0_3072) (sitofp .f32 (constantI S_ 32 0#32)) pads_S2048x16_S2048x128_000_01120 h_S_) bitsLt_bf16_f32

theorem catRows_apply (x : FVec Ideal S8x4096x2048 .f32) (y : FVec Ideal S8x256x2048 .f32) (b : Fin 8) (p : Fin 4352) (j : Fin 2048) :
    catRows x y (ix3 b p j) = joined x y b p j := by
  unfold catRows joined
  pointwise!

theorem catW_apply (w : FVec Ideal S2048x13840 .f32) (k : Fin 2048) (q : Fin 13824) : catW w (ix2 k q) = mainW w k q := by
  unfold catW mainW
  pointwise!
  split
  · rfl
  · exact congrArg w (congrArg (ix2 k) (Fin.ext (by show 3088 + (q.val - 3072) = q.val + 16; omega)))

theorem padW_apply (w : FVec Ideal S2048x13840 .f32) (k : Fin 2048) (q : Fin 128) : padW w (ix2 k q) = gateW w k q := by
  unfold padW gateW
  pointwise!
  rw [show FloatOps.sitofp (F := Ideal) FTy.f32 0#32 = (0 : EReal) from by
    show (((0#32).toInt : ℝ) : EReal) = 0
    simp]

theorem flat_apply {α : Type} (v : S16x12288.Idx → α) (b : Fin 16) (k : Fin 12288) :
    shapeCast S16x1x12288 v shapeCasts_S16x12288_S16x1x12288 (ix3 b 0 k) = v (ix2 b k) := by
  pointwise!

theorem line_apply {α : Type} (g : S2048.Idx → α) (k : Fin 2048) : shapeCast S1x2048 g shapeCasts_S2048_S1x2048 (ix2 0 k) = g (ix1 k) := by
  pointwise!

theorem entry0 (c : Dev nD) : V m c main_v0 = catRows (m ((c : Thread nD τ).loc main_arg0)) (m ((c : Thread nD τ).loc main_arg1)) := by
  unfold_abbrev_sides
  simp only [hostOps0, hostOps0_1, hostOps0_2, List.flatten_cons, List.flatten_nil, List.append_nil, List.cons_append, List.nil_append]
  after_results
  rfl

theorem entry1 (c : Dev nD) : V m c main_v1 = shapeCast S16x1x12288 (m ((c : Thread nD τ).loc main_arg2)) shapeCasts_S16x12288_S16x1x12288 := by
  unfold_abbrev_sides
  simp only [hostOps0, hostOps0_1, hostOps0_2, List.flatten_cons, List.flatten_nil, List.append_nil, List.cons_append, List.nil_append]
  after_results
  rfl

theorem entry5 (c : Dev nD) : V m c main_v5 = catW (m ((c : Thread nD τ).loc main_arg4)) := by
  unfold_abbrev_sides
  simp only [hostOps0, hostOps0_1, hostOps0_2, List.flatten_cons, List.flatten_nil, List.append_nil, List.cons_append, List.nil_append]
  after_results
  rfl

theorem entry8 (c : Dev nD) : V m c main_v8 = padW (m ((c : Thread nD τ).loc main_arg4)) := by
  unfold_abbrev_sides
  simp only [hostOps0, hostOps0_1, hostOps0_2, List.flatten_cons, List.flatten_nil, List.append_nil, List.cons_append, List.nil_append]
  after_results
  rfl

theorem entry9 (c : Dev nD) : V m c main_v9 = shapeCast S1x2048 (m ((c : Thread nD τ).loc main_arg3)) shapeCasts_S2048_S1x2048 := by
  unfold_abbrev_sides
  simp only [hostOps0, hostOps0_1, hostOps0_2, List.flatten_cons, List.flatten_nil, List.append_nil, List.cons_append, List.nil_append]
  after_results
  rfl

theorem idx0 : ∀ t : Fin cfg0.N, (cfg0.win 0).index t = ![t.val / 72, t.val / 18 % 4, 0] := by decide +kernel
theorem idx1 : ∀ t : Fin cfg0.N, (cfg0.win 1).index t = ![0, 0] := by decide +kernel
theorem idx2 : ∀ t : Fin cfg0.N, (cfg0.win 2).index t = ![t.val / 72, 0, 0] := by decide +kernel
theorem idx3 : ∀ t : Fin cfg0.N, (cfg0.win 3).index t = ![t.val / 72, 0, 1] := by decide +kernel
theorem idx4 : ∀ t : Fin cfg0.N, (cfg0.win 4).index t = ![8, 0, 0] := by decide +kernel
theorem idx5 : ∀ t : Fin cfg0.N, (cfg0.win 5).index t = ![8, 0, 1] := by decide +kernel
theorem idx6 : ∀ t : Fin cfg0.N, (cfg0.win 6).index t = ![0, t.val % 18] := by decide +kernel
theorem idx7 : ∀ t : Fin cfg0.N, (cfg0.win 7).index t = ![0, 0] := by decide +kernel
theorem idx8 : ∀ t : Fin cfg0.N, (cfg0.win 8).index t = ![t.val / 72, t.val / 18 % 4, t.val % 18] := by decide +kernel
theorem idx9 : ∀ t : Fin cfg0.N, (cfg0.win 9).index t = ![t.val / 72, t.val / 18 % 4, 0] := by decide +kernel
theorem coord1 : ∀ t : Fin cfg0.N, (grid0.coords t 1).val = t.val / 18 % 4 := by decide +kernel
theorem coord2 : ∀ t : Fin cfg0.N, (grid0.coords t 2).val = t.val % 18 := by decide +kernel

/-- A point's batch, row and column. -/
def bOf (n : ℕ) (h : n < cfg0.N) : Fin 8 := ⟨n / 72, by have := lt_of_lt_of_eq h N_0; omega⟩
def row (n : ℕ) (r : Fin 1088) : Fin 4352 := ⟨1088 * (n / 18 % 4) + r.val, by omega⟩
def col (n : ℕ) (j : Fin 768) : Fin 13824 := ⟨768 * (n % 18) + j.val, by omega⟩

theorem blk0 (c : Dev nD) (t : Fin cfg0.N) (r : Fin 1088) (j : Fin 2048) :
    iblk m c 0 t (ix3 0 r j) = joined (m ((c : Thread nD τ).loc main_arg0)) (m ((c : Thread nD τ).loc main_arg1)) (bOf t.val t.isLt) (row t.val r) j := by
  refine Eq.trans ?_ ((congrFun (entry0 m c) _).trans (catRows_apply _ _ (bOf t.val t.isLt) (row t.val r) j))
  blk_ext [iblk, idx0 t, bOf, row]

theorem blk1 (c : Dev nD) (t : Fin cfg0.N) (k : Fin 2048) : iblk m c 1 t (ix2 0 k) = m ((c : Thread nD τ).loc main_arg3) (ix1 k) := by
  refine Eq.trans ?_ ((congrFun (entry9 m c) _).trans (line_apply _ k))
  blk_ext [iblk, idx1 t]

theorem blk2 (c : Dev nD) (t : Fin cfg0.N) (k : Fin 2048) :
    iblk m c 2 t (ix3 0 0 k) = m ((c : Thread nD τ).loc main_arg2) (ix2 ⟨(bOf t.val t.isLt).val, by omega⟩ ⟨k.val, by omega⟩) := by
  refine Eq.trans ?_ ((congrFun (entry1 m c) _).trans (flat_apply _ ⟨(bOf t.val t.isLt).val, by omega⟩ ⟨k.val, by omega⟩))
  blk_ext [iblk, idx2 t, bOf]

theorem blk3 (c : Dev nD) (t : Fin cfg0.N) (k : Fin 2048) :
    iblk m c 3 t (ix3 0 0 k) = m ((c : Thread nD τ).loc main_arg2) (ix2 ⟨(bOf t.val t.isLt).val, by omega⟩ ⟨2048 + k.val, by omega⟩) := by
  refine Eq.trans ?_ ((congrFun (entry1 m c) _).trans (flat_apply _ ⟨(bOf t.val t.isLt).val, by omega⟩ ⟨2048 + k.val, by omega⟩))
  blk_ext [iblk, idx3 t, bOf]

theorem blk4 (c : Dev nD) (t : Fin cfg0.N) (k : Fin 2048) :
    iblk m c 4 t (ix3 0 0 k) = m ((c : Thread nD τ).loc main_arg2) (ix2 8 ⟨k.val, by omega⟩) := by
  refine Eq.trans ?_ ((congrFun (entry1 m c) _).trans (flat_apply _ 8 ⟨k.val, by omega⟩))
  blk_ext [iblk, idx4 t]

theorem blk5 (c : Dev nD) (t : Fin cfg0.N) (k : Fin 2048) :
    iblk m c 5 t (ix3 0 0 k) = m ((c : Thread nD τ).loc main_arg2) (ix2 8 ⟨2048 + k.val, by omega⟩) := by
  refine Eq.trans ?_ ((congrFun (entry1 m c) _).trans (flat_apply _ 8 ⟨2048 + k.val, by omega⟩))
  blk_ext [iblk, idx5 t]

theorem blk6 (c : Dev nD) (t : Fin cfg0.N) (k : Fin 2048) (j : Fin 768) :
    iblk m c 6 t (ix2 k j) = mainW (m ((c : Thread nD τ).loc main_arg4)) k (col t.val j) := by
  refine Eq.trans ?_ ((congrFun (entry5 m c) _).trans (catW_apply _ k (col t.val j)))
  blk_ext [iblk, idx6 t, col]

theorem blk7 (c : Dev nD) (t : Fin cfg0.N) (k : Fin 2048) (j : Fin 128) :
    iblk m c 7 t (ix2 k j) = gateW (m ((c : Thread nD τ).loc main_arg4)) k j := by
  refine Eq.trans ?_ ((congrFun (entry8 m c) _).trans (padW_apply _ k j))
  blk_ext [iblk, idx7 t]

/-- The rows of a point's tile, read from its blocks. -/
theorem hrow_blk (c : Dev nD) (t : Fin cfg0.N) (r : Fin 1088) (k : Fin 2048) :
    hrow (grid0.coords t 1) (iblk m c 0 t) (iblk m c 1 t) (iblk m c 2 t) (iblk m c 3 t) (iblk m c 4 t) (iblk m c 5 t) r k
      = hid (m ((c : Thread nD τ).loc main_arg0)) (m ((c : Thread nD τ).loc main_arg1)) (m ((c : Thread nD τ).loc main_arg2)) (m ((c : Thread nD τ).loc main_arg3)) (bOf t.val t.isLt) (row t.val r) k := by
  unfold hrow hid
  rw [blk1, blk2, blk3, blk4, blk5, coord1, show (fun j => iblk m c 0 t (ix3 0 r j)) = joined (m ((c : Thread nD τ).loc main_arg0)) (m ((c : Thread nD τ).loc main_arg1)) (bOf t.val t.isLt) (row t.val r) from funext fun j => blk0 m c t r j]
  rfl

theorem covers8 : (cfg0.win 8).Covers :=
  (cfg0.win 8).covers_of_indexMap_surj rfl (by decide) fun β => by
    have h0 : (β 0).val < 8 := (β 0).isLt
    have h1 : (β 1).val < 4 := (β 1).isLt
    have h2 : (β 2).val < 18 := (β 2).isLt
    refine ⟨fun | 0 => β 0 | 1 => β 1 | 2 => β 2, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (BitVec.ofNat 32 (β 2).val).toNat = (β 2).val
      simp only [BitVec.toNat_ofNat]; omega

theorem covers9 : (cfg0.win 9).Covers :=
  (cfg0.win 9).covers_of_indexMap_surj rfl (by decide) fun β => by
    have h0 : (β 0).val < 8 := (β 0).isLt
    have h1 : (β 1).val < 4 := (β 1).isLt
    have h2 : (β 2).val < 1 := (β 2).isLt
    refine ⟨fun | 0 => β 0 | 1 => β 1 | 2 => (0 : Fin 18), fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (0#32).toNat = (β 2).val
      simp only [BitVec.toNat_ofNat]; omega

/-- Where a point's output blocks lie in their arrays. -/
theorem place8 (t : Fin cfg0.N) (r : Fin 1088) (j : Fin 768) :
    (((cfg0.win 8).blk t).view.emb (ix3 0 r j) : S8x4352x13824.Idx) = ix3 (bOf t.val t.isLt) (row t.val r) (col t.val j) := by
  blk_ext [idx8 t, bOf, row, col]

theorem place9 (t : Fin cfg0.N) (r : Fin 1088) (j : Fin 128) :
    (((cfg0.win 9).blk t).view.emb (ix3 0 r j) : S8x4352x128.Idx) = ix3 (bOf t.val t.isLt) (row t.val r) j := by
  blk_ext [idx9 t, bOf, row]

end Cert.Kernel4Ideal.Rows
end
-- ==== Proof.ProjArray.lean ====
/- The normalising projection: what each grid point holds and leaves, and the two arrays of all blocks. -/
module

public import proofs.«01_k».proof.Proof.ProjBlocks

@[expose] public section

set_option maxRecDepth 16384

noncomputable section

namespace Cert.Kernel4Ideal.Rows

open Cert.Kernel4Ideal Cert.Kernel4Ideal.Gen Idealize.ShloMosaic Idealize.ShloMosaic.TcCoe Idealize.SL.Sem

variable (m : (ℓ : Loc nD τ sig) → Buf (Elt Ideal) ℓ)

/-- A point that takes in its rows multiplies the rows it has just stored. -/
theorem out_A (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec Ideal S1x1088x2048 .f32) (x1 : Vec Ideal S1x2048 .f32) (x2 x3 x4 x5 : Vec Ideal S1x1x2048 .f32) (x6 : Vec Ideal S2048x768 .bf16) (x7 : Vec Ideal S2048x128 .bf16) :
    out0_A_8 c i arg3 harg3 arg4 harg4 arg5 harg5 arg6 harg6 arg7 harg7 arg8 harg8 arg9 harg9 arg10 harg10 arg11 harg11 arg12 harg12 arg13 harg13 hc0 x0 x1 x2 x3 x4 x5 x6 x7 = k0_pay2 i (sout0_A_0 c i arg3 harg3 arg4 harg4 arg5 harg5 arg6 harg6 arg7 harg7 arg8 harg8 arg9 harg9 arg10 harg10 arg11 harg11 arg12 harg12 arg13 harg13 hc0 x0 x1 x2 x3 x4 x5 x6 x7) x6 := by
  frame_open
  frame_out
  refine congrArg (fun h => k0_pay2 i h x6) ?_
  refine Eq.trans (View.readCov_eq_canon_ld _ _ _ ?_) ?_
  · exact View.cover_of_tiledL _ S272x2048.size (by sl_kernel_rfl)
  · exact View.ld_unit_zero (S := S1088x2048) (show (![0, 0] : Fin 2 → ℕ) = fun _ => 0 by decide) _ _

/-- A point that takes in none multiplies those held. -/
theorem out_B (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : ¬cond0_0 i)
    (x0 : Vec Ideal S1x1088x2048 .f32) (x1 : Vec Ideal S1x2048 .f32) (x2 x3 x4 x5 : Vec Ideal S1x1x2048 .f32) (x6 : Vec Ideal S2048x768 .bf16) (x7 : Vec Ideal S2048x128 .bf16) (xo9 : Vec Ideal S1x1088x128 .f32) (xs0 : Vec Ideal S1088x2048 .bf16) :
    out0_B_8 c i arg3 harg3 arg4 harg4 arg5 harg5 arg6 harg6 arg7 harg7 arg8 harg8 arg9 harg9 arg10 harg10 arg11 harg11 arg12 harg12 arg13 harg13 hc0 x0 x1 x2 x3 x4 x5 x6 x7 xo9 xs0 = k0_pay2 i xs0 x6 := by
  frame_open
  frame_out

/-- The rows stored by a point that takes them in. -/
theorem rows_A (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec Ideal S1x1088x2048 .f32) (x1 : Vec Ideal S1x2048 .f32) (x2 x3 x4 x5 : Vec Ideal S1x1x2048 .f32) (x6 : Vec Ideal S2048x768 .bf16) (x7 : Vec Ideal S2048x128 .bf16) (r : Fin 1088) (k : Fin 2048) :
    sout0_A_0 c i arg3 harg3 arg4 harg4 arg5 harg5 arg6 harg6 arg7 harg7 arg8 harg8 arg9 harg9 arg10 harg10 arg11 harg11 arg12 harg12 arg13 harg13 hc0 x0 x1 x2 x3 x4 x5 x6 x7 (ix2 r k) = hrow (i 1) x0 x1 x2 x3 x4 x5 r k := by
  frame_open
  frame_out
  canon_tiles x h
  · have e : x = ix2 (x 0) k := by
      funext a
      fin_cases a
      · rfl
      · exact Fin.ext h1.symm
    rw [e]
    exact stored3 (i 1) _ x0 x1 x2 x3 x4 x5 (x 0) r (fun j => lane _ x0 (x 0) j r h0) h0 k
  · have e : x = ix2 (x 0) k := by
      funext a
      fin_cases a
      · rfl
      · exact Fin.ext h1.symm
    rw [e]
    exact stored2 (i 1) _ x0 x1 x2 x3 x4 x5 (x 0) r (fun j => lane _ x0 (x 0) j r h0) h0 k
  · have e : x = ix2 (x 0) k := by
      funext a
      fin_cases a
      · rfl
      · exact Fin.ext h1.symm
    rw [e]
    exact stored1 (i 1) _ x0 x1 x2 x3 x4 x5 (x 0) r (fun j => lane _ x0 (x 0) j r h0) h0 k
  · have e : x = ix2 (x 0) k := by
      funext a
      fin_cases a
      · rfl
      · exact Fin.ext h1.symm
    rw [e]
    exact stored0 (i 1) _ x0 x1 x2 x3 x4 x5 (x 0) r (fun j => lane _ x0 (x 0) j r (h0.trans (Nat.zero_add _).symm)) (h0.trans (Nat.zero_add _).symm) k

/-- The gates stored by it. -/
theorem gates_A (c : Dev nD) (i : grid0.Coords) (arg3 : Memref sig .tc .vmem S1x1088x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x768 .bf16) (harg9 : arg9.IsWhole) (arg10 : Memref sig .tc .vmem S2048x128 .bf16) (harg10 : arg10.IsWhole) (arg11 : Memref sig .tc .vmem S1x1088x768 .bf16) (harg11 : arg11.IsWhole) (arg12 : Memref sig .tc .vmem S1x1088x128 .f32) (harg12 : arg12.IsWhole) (arg13 : Memref sig .tc .vmem S1088x2048 .bf16) (harg13 : arg13.IsWhole) (hc0 : cond0_0 i)
    (x0 : Vec Ideal S1x1088x2048 .f32) (x1 : Vec Ideal S1x2048 .f32) (x2 x3 x4 x5 : Vec Ideal S1x1x2048 .f32) (x6 : Vec Ideal S2048x768 .bf16) (x7 : Vec Ideal S2048x128 .bf16) (r : Fin 1088) (k : Fin 128) :
    out0_A_9 c i arg3 harg3 arg4 harg4 arg5 harg5 arg6 harg6 arg7 harg7 arg8 harg8 arg9 harg9 arg10 harg10 arg11 harg11 arg12 harg12 arg13 harg13 hc0 x0 x1 x2 x3 x4 x5 x6 x7 (ix3 0 r k) = ∑ j : Fin 2048, hrow (i 1) x0 x1 x2 x3 x4 x5 r j * x7 (ix2 j k) := by
  frame_open
  frame_out
  canon_tiles x h
  · have e : x = ix3 0 (x 1) k := by
      funext a
      fin_cases a
      · exact Fin.ext h0.symm
      · rfl
      · exact Fin.ext h2.symm
    rw [e]
    exact gates3 (i 1) _ x0 x1 x2 x3 x4 x5 (x 1) r (fun j => lane _ x0 (x 1) j r h1) h1 x7 k
  · have e : x = ix3 0 (x 1) k := by
      funext a
      fin_cases a
      · exact Fin.ext h0.symm
      · rfl
      · exact Fin.ext h2.symm
    rw [e]
    exact gates2 (i 1) _ x0 x1 x2 x3 x4 x5 (x 1) r (fun j => lane _ x0 (x 1) j r h1) h1 x7 k
  · have e : x = ix3 0 (x 1) k := by
      funext a
      fin_cases a
      · exact Fin.ext h0.symm
      · rfl
      · exact Fin.ext h2.symm
    rw [e]
    exact gates1 (i 1) _ x0 x1 x2 x3 x4 x5 (x 1) r (fun j => lane _ x0 (x 1) j r h1) h1 x7 k
  · have e : x = ix3 0 (x 1) k := by
      funext a
      fin_cases a
      · exact Fin.ext h0.symm
      · rfl
      · exact Fin.ext h2.symm
    rw [e]
    exact gates0 (i 1) _ x0 x1 x2 x3 x4 x5 (x 1) r (fun j => lane _ x0 (x 1) j r (h1.trans (Nat.zero_add _).symm)) (h1.trans (Nat.zero_add _).symm) x7 k

/-- After every point, the rows held are those of its tile, and so are the gates. -/
theorem held (c : Dev nD) : ∀ (n : ℕ) (h : n < cfg0.N),
    (∀ (r : Fin 1088) (k : Fin 2048), (outsAt0 m c n h).2.2 (ix2 r k)
      = hid (m ((c : Thread nD τ).loc main_arg0)) (m ((c : Thread nD τ).loc main_arg1)) (m ((c : Thread nD τ).loc main_arg2)) (m ((c : Thread nD τ).loc main_arg3)) (bOf n h) (row n r) k)
    ∧ ∀ (r : Fin 1088) (j : Fin 128), (outsAt0 m c n h).2.1 (ix3 0 r j)
      = ∑ k : Fin 2048, hid (m ((c : Thread nD τ).loc main_arg0)) (m ((c : Thread nD τ).loc main_arg1)) (m ((c : Thread nD τ).loc main_arg2)) (m ((c : Thread nD τ).loc main_arg3)) (bOf n h) (row n r) k * gateW (m ((c : Thread nD τ).loc main_arg4)) k j := by
  have first : ∀ (t : Fin cfg0.N), t.val % 18 = 0 →
      (∀ (r : Fin 1088) (k : Fin 2048), (outsAt0 m c t.val t.isLt).2.2 (ix2 r k)
        = hid (m ((c : Thread nD τ).loc main_arg0)) (m ((c : Thread nD τ).loc main_arg1)) (m ((c : Thread nD τ).loc main_arg2)) (m ((c : Thread nD τ).loc main_arg3)) (bOf t.val t.isLt) (row t.val r) k)
      ∧ ∀ (r : Fin 1088) (j : Fin 128), (outsAt0 m c t.val t.isLt).2.1 (ix3 0 r j)
        = ∑ k : Fin 2048, hid (m ((c : Thread nD τ).loc main_arg0)) (m ((c : Thread nD τ).loc main_arg1)) (m ((c : Thread nD τ).loc main_arg2)) (m ((c : Thread nD τ).loc main_arg3)) (bOf t.val t.isLt) (row t.val r) k * gateW (m ((c : Thread nD τ).loc main_arg4)) k j := fun t h0 => by
    rw [outsAt0_A m c t h0]
    dsimp only
    refine ⟨fun r k => ?_, fun r j => ?_⟩
    · rw [rows_A]
      exact hrow_blk m c t r k
    · rw [gates_A]
      exact Finset.sum_congr rfl fun k _ => congrArg₂ (· * ·) (hrow_blk m c t r k) (blk7 m c t k j)
  intro n
  induction n with
  | zero => exact fun h => first ⟨0, h⟩ rfl
  | succ n ih =>
    intro h
    by_cases h0 : (n + 1) % 18 = 0
    · exact first ⟨n + 1, h⟩ h0
    · have e : bOf (n + 1) h = bOf n (Nat.lt_of_succ_lt h) := Fin.ext (by show (n + 1) / 72 = n / 72; omega)
      have f : ∀ r, row (n + 1) r = row n r := fun r => Fin.ext (by show 1088 * ((n + 1) / 18 % 4) + r.val = 1088 * (n / 18 % 4) + r.val; omega)
      rw [outsAt0_B m c ⟨n + 1, h⟩ h0, e]
      simp only [f]
      exact ih (Nat.lt_of_succ_lt h)

/-- A product tile of the rows held and a point's weights. -/
theorem tile (c : Dev nD) (t : Fin cfg0.N) (u : Vec Ideal S1088x2048 .bf16) (r : Fin 1088) (j : Fin 768)
    (hu : ∀ k : Fin 2048, u (ix2 r k) = hid (m ((c : Thread nD τ).loc main_arg0)) (m ((c : Thread nD τ).loc main_arg1)) (m ((c : Thread nD τ).loc main_arg2)) (m ((c : Thread nD τ).loc main_arg3)) (bOf t.val t.isLt) (row t.val r) k) :
    k0_pay2 (grid0.coords t) u (iblk m c 6 t) (ix3 0 r j)
      = resultP (m ((c : Thread nD τ).loc main_arg0)) (m ((c : Thread nD τ).loc main_arg1)) (m ((c : Thread nD τ).loc main_arg2)) (m ((c : Thread nD τ).loc main_arg3)) (m ((c : Thread nD τ).loc main_arg4)) (ix3 (bOf t.val t.isLt) (row t.val r) (col t.val j)) := by
  rw [resultP_apply]
  refine (pay2_apply _ _ _ r j).trans ?_
  have e : (∑ k : Fin 2048, u (ix2 r k) * iblk m c 6 t (ix2 k j)) = ∑ k : Fin 2048, hid (m ((c : Thread nD τ).loc main_arg0)) (m ((c : Thread nD τ).loc main_arg1)) (m ((c : Thread nD τ).loc main_arg2)) (m ((c : Thread nD τ).loc main_arg3)) (bOf t.val t.isLt) (row t.val r) k * mainW (m ((c : Thread nD τ).loc main_arg4)) k (col t.val j) :=
    Finset.sum_congr rfl fun k _ => congrArg₂ (· * ·) (hu k) (blk6 m c t k j)
  refine (congrArg (gate (grid0.coords t 2) j) e).trans ?_
  unfold gate
  rw [coord2]
  rfl

/-- The array of the product tiles. -/
theorem array8 (c : Dev nD) :
    (dats m 0 c).arrAt 8 cfg0.N = resultP (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ covers8 fun t hf y => ?_
  obtain ⟨r, j, rfl⟩ : ∃ (r : Fin 1088) (j : Fin 768), y = ix3 0 r j := ⟨y 1, y 2, by
    funext a
    fin_cases a
    · exact Fin.ext (by have : (y 0).val < 1 := (y 0).isLt; show (y 0).val = 0; omega)
    · rfl
    · rfl⟩
  rw [place8]
  change (dats m 0 c).flushed 8 t (ix3 0 r j) = _
  by_cases h : t.val % 18 = 0
  · rw [Cert.Kernel4Ideal.Value.flushed8_A m c t h, out_A]
    exact tile m c t _ r j fun k => (rows_A c _ _ _ _ _ _ _ _ _ _ _ _ _ _ _ _ _ _ _ _ _ _ _ _ _ _ _ _ _ _ _ _ r k).trans (hrow_blk m c t r k)
  · have hn : t.val - 1 < cfg0.N := Nat.lt_of_le_of_lt (Nat.sub_le _ _) t.isLt
    have e : bOf (t.val - 1) hn = bOf t.val t.isLt := Fin.ext (by show (t.val - 1) / 72 = t.val / 72; omega)
    have f : row (t.val - 1) r = row t.val r := Fin.ext (by show 1088 * ((t.val - 1) / 18 % 4) + r.val = 1088 * (t.val / 18 % 4) + r.val; omega)
    have g := (held m c (t.val - 1) hn).1 r
    rw [e, f] at g
    rw [Cert.Kernel4Ideal.Value.flushed8_B m c t h, out_B]
    exact tile m c t _ r j g

/-- The array of the gates. -/
theorem array9 (c : Dev nD) :
    (dats m 0 c).arrAt 9 cfg0.N = resultG (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ covers9 fun t hf y => ?_
  obtain ⟨r, j, rfl⟩ : ∃ (r : Fin 1088) (j : Fin 128), y = ix3 0 r j := ⟨y 1, y 2, by
    funext a
    fin_cases a
    · exact Fin.ext (by have : (y 0).val < 1 := (y 0).isLt; show (y 0).val = 0; omega)
    · rfl
    · rfl⟩
  rw [place9, resultG_apply]
  change (dats m 0 c).flushed 9 t (ix3 0 r j) = _
  rw [Cert.Kernel4Ideal.Value.flushed9]
  exact (held m c t.val t.isLt).2 r j

end Cert.Kernel4Ideal.Rows
end
-- ==== Proof.ProjRef.lean ====
/- The normalising projection's reference: its two results are the same functions of its arguments. -/
module

public import proofs.«01_k».proof.Proof.ProjBlocks
public import proofs.«01_k».proof.Proof.Gen.Reference4Ideal.Run

@[expose] public section

set_option maxRecDepth 16384

noncomputable section

namespace Cert.Reference4Ideal.Rows

open Cert.Reference4Ideal Cert.Reference4Ideal.Gen Idealize.ShloMosaic Idealize.ShloMosaic.TcCoe Idealize.SL.Sem
open Cert.Kernel4Ideal.Rows (joined hid mainW gateW resultP resultG resultP_apply resultG_apply)

/-- The normalised rows of the sequence. -/
def hx (x : FVec Ideal S8x4096x2048 .f32) (v : FVec Ideal S16x12288 .f32) (g : FVec Ideal S2048 .f32) : FVec Ideal S8x4096x2048 .f32 :=
  (addf (mulf (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] v slices_S16x12288_S8x2048_0_2048))))) (broadcastInDim S8x4096x2048 ![0, 1, 2] bcast_S8x1x2048_S8x4096x2048_0_1_2 (broadcastInDim S8x1x2048 ![0, 2] bcast_S8x2048_S8x1x2048_0_2 (extractStridedSlice S8x2048 ![0, 0] v slices_S16x12288_S8x2048_0_0))))

/-- The normalised rows of the context. -/
def hc (y : FVec Ideal S8x256x2048 .f32) (v : FVec Ideal S16x12288 .f32) (g : FVec Ideal S2048 .f32) : FVec Ideal S8x256x2048 .f32 :=
  (addf (mulf (mulf (mulf y (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf y y) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 g))) (broadcastInDim S8x256x2048 ![0, 1, 2] bcast_S1x1x2048_S8x256x2048_0_1_2 (broadcastInDim S1x1x2048 ![2] bcast_S2048_S1x1x2048_2 (addf (broadcastInDim S2048 ![] bcast_S_S2048 (constant S_ .f32 0x3F800000#32)) (shapeCast S2048 (extractStridedSlice S1x2048 ![8, 2048] v slices_S16x12288_S1x2048_8_2048) shapeCasts_S1x2048_S2048))))) (broadcastInDim S8x256x2048 ![0, 1, 2] bcast_S1x1x2048_S8x256x2048_0_1_2 (broadcastInDim S1x1x2048 ![2] bcast_S2048_S1x1x2048_2 (shapeCast S2048 (extractStridedSlice S1x2048 ![8, 0] v slices_S16x12288_S1x2048_8_0) shapeCasts_S1x2048_S2048))))

/-- The projection of all rows. -/
def prod (x : FVec Ideal S8x4096x2048 .f32) (y : FVec Ideal S8x256x2048 .f32) (v : FVec Ideal S16x12288 .f32) (g : FVec Ideal S2048 .f32) (w : FVec Ideal S2048x13840 .f32) : FVec Ideal S8x4352x13840 .f32 :=
  (concatenate S8x4352x13840 1 [⟨S8x4096x13840, (Host.dotGeneral dot_S8x4096x2048_S2048x13840_S8x4096x13840_2_0_01_1_n_n none (hx x v g) w)⟩, ⟨S8x256x13840, (Host.dotGeneral dot_S8x256x2048_S2048x13840_S8x256x13840_2_0_01_1_n_n none (hc y v g) w)⟩] concatenates_S8x4096x13840_S8x256x13840_S8x4352x13840_d1)

/-- The logistic function of an array, as written. -/
def logi (u : FVec Ideal S8x4352x6144 .f32) : FVec Ideal S8x4352x6144 .f32 :=
  Host.divf (broadcastInDim S8x4352x6144 ![] bcast_S_S8x4352x6144 (constant S_ .f32 0x3F800000#32)) (addf (broadcastInDim S8x4352x6144 ![] bcast_S_S8x4352x6144 (constant S_ .f32 0x3F800000#32)) (Host.exp (Host.negf u)))

/-- Three column blocks side by side. -/
def cat3 (x : FVec Ideal S8x4352x3072 .f32) (y : FVec Ideal S8x4352x4608 .f32) (z : FVec Ideal S8x4352x6144 .f32) : FVec Ideal S8x4352x13824 .f32 :=
  concatenate S8x4352x13824 2 [⟨S8x4352x3072, x⟩, ⟨S8x4352x4608, y⟩, ⟨S8x4352x6144, z⟩] concatenates_S8x4352x3072_S8x4352x4608_S8x4352x6144_S8x4352x13824_d2

/-- Its columns without the gates', the branch gates through the logistic function. -/
def mainP (p : FVec Ideal S8x4352x13840 .f32) : FVec Ideal S8x4352x13824 .bf16 :=
  truncf .bf16 (cat3 (extractStridedSlice S8x4352x3072 ![0, 0, 0] p slices_S8x4352x13840_S8x4352x3072_0_0_0) (extractStridedSlice S8x4352x4608 ![0, 0, 3088] p slices_S8x4352x13840_S8x4352x4608_0_0_3088) (logi (extractStridedSlice S8x4352x6144 ![0, 0, 7696] p slices_S8x4352x13840_S8x4352x6144_0_0_7696))) bitsLt_bf16_f32

/-- Its gate columns, padded. -/
def padG (p : FVec Ideal S8x4352x13840 .f32) : FVec Ideal S8x4352x128 .f32 :=
  pad S8x4352x128 ![0, 0, 0] ![0, 0, 112] ![0, 0, 0] (extractStridedSlice S8x4352x16 ![0, 0, 3072] p slices_S8x4352x13840_S8x4352x16_0_0_3072) (sitofp .f32 (constantI S_ 32 0#32)) pads_S8x4352x16_S8x4352x128_000_000_01120 h_S_

theorem hx_apply (x : FVec Ideal S8x4096x2048 .f32) (v : FVec Ideal S16x12288 .f32) (g : FVec Ideal S2048 .f32) (b : Fin 8) (p : Fin 4096) (k : Fin 2048) :
    hx x v g (ix3 b p k) = Cert.Kernel4Ideal.Rows.norm (fun j => x (ix3 b p j)) (g (ix1 k)) (v (ix2 ⟨b.val, by omega⟩ ⟨2048 + k.val, by omega⟩)) (v (ix2 ⟨b.val, by omega⟩ ⟨k.val, by omega⟩)) k := by
  unfold hx Cert.Kernel4Ideal.Rows.norm
  pointwise!

theorem hc_apply (y : FVec Ideal S8x256x2048 .f32) (v : FVec Ideal S16x12288 .f32) (g : FVec Ideal S2048 .f32) (b : Fin 8) (p : Fin 256) (k : Fin 2048) :
    hc y v g (ix3 b p k) = Cert.Kernel4Ideal.Rows.norm (fun j => y (ix3 b p j)) (g (ix1 k)) (v (ix2 8 ⟨2048 + k.val, by omega⟩)) (v (ix2 8 ⟨k.val, by omega⟩)) k := by
  unfold hc Cert.Kernel4Ideal.Rows.norm
  pointwise!

theorem prod_apply (x : FVec Ideal S8x4096x2048 .f32) (y : FVec Ideal S8x256x2048 .f32) (v : FVec Ideal S16x12288 .f32) (g : FVec Ideal S2048 .f32) (w : FVec Ideal S2048x13840 .f32) (b : Fin 8) (p : Fin 4352) (q : Fin 13840) :
    prod x y v g w (ix3 b p q) = ∑ k : Fin 2048, hid x y v g b p k * w (ix2 k q) := by
  unfold prod
  pointwise!
  by_cases h : p.val < 4096
  · rw [dif_pos h]
    refine Finset.sum_congr rfl fun k _ => congrArg (· * w (ix2 k q)) ?_
    have e : joined x y b p = fun j => x (ix3 b ⟨p.val, h⟩ j) := funext fun j => dif_pos h
    rw [hx_apply]
    unfold hid
    rw [e, if_neg (Nat.not_le.mpr h), if_neg (Nat.not_le.mpr h)]
  · rw [dif_neg h]
    refine Finset.sum_congr rfl fun k _ => congrArg (· * w (ix2 k q)) ?_
    have e : joined x y b p = fun j => y (ix3 b ⟨p.val - 4096, by omega⟩ j) := funext fun j => dif_neg h
    rw [hc_apply]
    unfold hid
    rw [e, if_pos (Nat.not_lt.mp h), if_pos (Nat.not_lt.mp h)]

theorem logi_apply (u : FVec Ideal S8x4352x6144 .f32) (b : Fin 8) (r : Fin 4352) (q : Fin 6144) : logi u (ix3 b r q) = Ideal.logistic (u (ix3 b r q)) := by
  unfold logi
  pointwise!

theorem cat3_0 (x : FVec Ideal S8x4352x3072 .f32) (y : FVec Ideal S8x4352x4608 .f32) (z : FVec Ideal S8x4352x6144 .f32) (b : Fin 8) (r : Fin 4352) (q : Fin 13824) (h : q.val < 3072) :
    cat3 x y z (ix3 b r q) = x (ix3 b r ⟨q.val - 0, by omega⟩) := by
  unfold cat3
  refine concatenate_apply_piece 2 [⟨S8x4352x3072, x⟩, ⟨S8x4352x4608, y⟩, ⟨S8x4352x6144, z⟩] concatenates_S8x4352x3072_S8x4352x4608_S8x4352x6144_S8x4352x13824_d2 _ 0 (show 0 < 3 by decide) S8x4352x3072 x rfl rfl 0 rfl (ix3 b r ⟨q.val - 0, by omega⟩) (fun a ha => ?_) ?_
  · fin_cases a
    · rfl
    · rfl
    · exact absurd rfl ha
  · show 0 + (q.val - 0) = q.val
    omega

theorem cat3_1 (x : FVec Ideal S8x4352x3072 .f32) (y : FVec Ideal S8x4352x4608 .f32) (z : FVec Ideal S8x4352x6144 .f32) (b : Fin 8) (r : Fin 4352) (q : Fin 13824) (h : 3072 ≤ q.val) (h' : q.val < 7680) :
    cat3 x y z (ix3 b r q) = y (ix3 b r ⟨q.val - 3072, by omega⟩) := by
  unfold cat3
  refine concatenate_apply_piece 2 [⟨S8x4352x3072, x⟩, ⟨S8x4352x4608, y⟩, ⟨S8x4352x6144, z⟩] concatenates_S8x4352x3072_S8x4352x4608_S8x4352x6144_S8x4352x13824_d2 _ 1 (show 1 < 3 by decide) S8x4352x4608 y rfl rfl 3072 rfl (ix3 b r ⟨q.val - 3072, by omega⟩) (fun a ha => ?_) ?_
  · fin_cases a
    · rfl
    · rfl
    · exact absurd rfl ha
  · show 3072 + (q.val - 3072) = q.val
    omega

theorem cat3_2 (x : FVec Ideal S8x4352x3072 .f32) (y : FVec Ideal S8x4352x4608 .f32) (z : FVec Ideal S8x4352x6144 .f32) (b : Fin 8) (r : Fin 4352) (q : Fin 13824) (h : 7680 ≤ q.val) :
    cat3 x y z (ix3 b r q) = z (ix3 b r ⟨q.val - 7680, by omega⟩) := by
  unfold cat3
  refine concatenate_apply_piece 2 [⟨S8x4352x3072, x⟩, ⟨S8x4352x4608, y⟩, ⟨S8x4352x6144, z⟩] concatenates_S8x4352x3072_S8x4352x4608_S8x4352x6144_S8x4352x13824_d2 _ 2 (show 2 < 3 by decide) S8x4352x6144 z rfl rfl 7680 rfl (ix3 b r ⟨q.val - 7680, by omega⟩) (fun a ha => ?_) ?_
  · fin_cases a
    · rfl
    · rfl
    · exact absurd rfl ha
  · show 7680 + (q.val - 7680) = q.val
    omega

theorem slice0 (p : FVec Ideal S8x4352x13840 .f32) (b : Fin 8) (r : Fin 4352) (u : Fin 3072) :
    extractStridedSlice S8x4352x3072 ![0, 0, 0] p slices_S8x4352x13840_S8x4352x3072_0_0_0 (ix3 b r u) = p (ix3 b r ⟨u.val, by omega⟩) := by
  pointwise!

theorem slice1 (p : FVec Ideal S8x4352x13840 .f32) (b : Fin 8) (r : Fin 4352) (u : Fin 4608) :
    extractStridedSlice S8x4352x4608 ![0, 0, 3088] p slices_S8x4352x13840_S8x4352x4608_0_0_3088 (ix3 b r u) = p (ix3 b r ⟨3088 + u.val, by omega⟩) := by
  pointwise!

theorem slice2 (p : FVec Ideal S8x4352x13840 .f32) (b : Fin 8) (r : Fin 4352) (u : Fin 6144) :
    extractStridedSlice S8x4352x6144 ![0, 0, 7696] p slices_S8x4352x13840_S8x4352x6144_0_0_7696 (ix3 b r u) = p (ix3 b r ⟨7696 + u.val, by omega⟩) := by
  pointwise!

theorem mainP_apply (p : FVec Ideal S8x4352x13840 .f32) (b : Fin 8) (r : Fin 4352) (q : Fin 13824) :
    mainP p (ix3 b r q) = if 7680 ≤ q.val then Ideal.logistic (p (ix3 b r ⟨q.val + 16, by omega⟩)) else if q.val < 3072 then p (ix3 b r ⟨q.val, by omega⟩) else p (ix3 b r ⟨q.val + 16, by omega⟩) := by
  by_cases h : 7680 ≤ q.val
  · rw [if_pos h]
    refine (cat3_2 _ _ _ b r q h).trans ((logi_apply _ b r _).trans (congrArg Ideal.logistic ((slice2 p b r _).trans (congrArg (fun u => p (ix3 b r u)) (Fin.ext ?_)))))
    show 7696 + (q.val - 7680) = q.val + 16
    omega
  · rw [if_neg h]
    by_cases h' : q.val < 3072
    · rw [if_pos h']
      refine (cat3_0 _ _ _ b r q h').trans ((slice0 p b r _).trans (congrArg (fun u => p (ix3 b r u)) (Fin.ext ?_)))
      show q.val - 0 = q.val
      omega
    · rw [if_neg h']
      refine (cat3_1 _ _ _ b r q (Nat.not_lt.mp h') (Nat.not_le.mp h)).trans ((slice1 p b r _).trans (congrArg (fun u => p (ix3 b r u)) (Fin.ext ?_)))
      show 3088 + (q.val - 3072) = q.val + 16
      omega

theorem padG_apply (p : FVec Ideal S8x4352x13840 .f32) (b : Fin 8) (r : Fin 4352) (q : Fin 128) :
    padG p (ix3 b r q) = if h : q.val < 16 then p (ix3 b r ⟨3072 + q.val, by omega⟩) else 0 := by
  unfold padG
  pointwise!
  rw [show FloatOps.sitofp (F := Ideal) FTy.f32 0#32 = (0 : EReal) from by
    show (((0#32).toInt : ℝ) : EReal) = 0
    simp]

/-- The projected rows. -/
theorem main_eq (x : FVec Ideal S8x4096x2048 .f32) (y : FVec Ideal S8x256x2048 .f32) (v : FVec Ideal S16x12288 .f32) (g : FVec Ideal S2048 .f32) (w : FVec Ideal S2048x13840 .f32) :
    mainP (prod x y v g w) = resultP x y v g w := by
  funext i
  obtain ⟨b, r, q, rfl⟩ : ∃ (b : Fin 8) (r : Fin 4352) (q : Fin 13824), i = ix3 b r q := ⟨i 0, i 1, i 2, by
    funext a
    fin_cases a <;> rfl⟩
  rw [mainP_apply, resultP_apply, prod_apply]
  unfold mainW
  by_cases h : 7680 ≤ q.val
  · have hn : ¬q.val < 3072 := by omega
    simp only [if_pos h, if_neg hn]
  · simp only [if_neg h]
    by_cases h' : q.val < 3072
    · simp only [if_pos h']
      exact prod_apply x y v g w b r _
    · simp only [if_neg h']

/-- The gates. -/
theorem gate_eq (x : FVec Ideal S8x4096x2048 .f32) (y : FVec Ideal S8x256x2048 .f32) (v : FVec Ideal S16x12288 .f32) (g : FVec Ideal S2048 .f32) (w : FVec Ideal S2048x13840 .f32) :
    padG (prod x y v g w) = resultG x y v g w := by
  funext i
  obtain ⟨b, r, q, rfl⟩ : ∃ (b : Fin 8) (r : Fin 4352) (q : Fin 128), i = ix3 b r q := ⟨i 0, i 1, i 2, by
    funext a
    fin_cases a <;> rfl⟩
  rw [padG_apply, resultG_apply]
  unfold gateW
  by_cases h : q.val < 16
  · simp only [dif_pos h]
    exact prod_apply x y v g w b r _
  · simp only [dif_neg h, mul_zero, Finset.sum_const_zero]

end Cert.Reference4Ideal.Rows
end
-- ==== Proof.ProjClaim.lean ====
/- The projection's claims: its frames, and that kernel and reference leave the same two arrays. -/
module

public import proofs.«01_k».proof.Defs
public import proofs.«01_k».proof.Proof.Gen.Kernel4
public import proofs.«01_k».proof.Proof.ProjFrame
public import proofs.«01_k».proof.Proof.ProjValue
public import proofs.«01_k».proof.Proof.ProjArray
public import proofs.«01_k».proof.Proof.ProjRef
public import Idealize.ShloMosaic.Lib.Quiescent

@[expose] public section

set_option maxRecDepth 16384

noncomputable section

namespace Cert.Proof

open Idealize.ShloMosaic Idealize.SL.Sem

attribute [local instance] Cert.Kernel4.Gen.facts Cert.Kernel4Ideal.Gen.facts

/-- The two printed projections have the same bodies. -/
theorem same_body : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl
  | ⟨_ + 1, h⟩, _ => exact absurd h (Nat.not_lt.2 (Nat.le_add_left _ _))

theorem same_defs : Cert.Kernel4.defs (F := Bits) = Cert.Kernel4Ideal.defs (F := Bits) := congrArg (Pipeline.defs _) same_body

/-- The projection as printed: the run shown for its idealized twin, over any float values, is its run too. -/
theorem frame4 : quiescent_Kernel4 (hKernel4 := Cert.Kernel4.Gen.facts) := fun m ρ _ => by
  rw [same_defs]
  exact Cert.Kernel4Ideal.Gen.frame (F := Bits) m ρ

/-- The projection: its reference runs, leaves its arguments and ends with every counter at zero. -/
theorem reference_frame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2.2, sem_eq_zero_of_no_sems rfl _⟩) (Cert.Reference4Ideal.Value.run m g)

/-- The projection: kernel and reference run and leave the same two arrays. -/
theorem value4 : algebraic_Kernel4Ideal_Reference4Ideal (hKernel4Ideal := Cert.Kernel4Ideal.Gen.facts) (hReference4Ideal := Cert.Reference4Ideal.Gen.facts) := by
  intro m g m' g' hpre hagree
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, h1, h2, h3, h4⟩ := hagree c
  refine ⟨(h c).1.trans ?_, (h c).2.1.trans ?_, (h c).2.2⟩
  · refine Eq.trans ?_ (Cert.Kernel4Ideal.Rows.array8 m c).symm
    rw [← h0, ← h1, ← h2, ← h3, ← h4]
    exact Cert.Reference4Ideal.Rows.main_eq _ _ _ _ _
  · refine Eq.trans ?_ (Cert.Kernel4Ideal.Rows.array9 m c).symm
    rw [← h0, ← h1, ← h2, ← h3, ← h4]
    exact Cert.Reference4Ideal.Rows.gate_eq _ _ _ _ _

end Cert.Proof

end
-- ==== Proof.Merge.lean ====
/- The merge of the three branches: what a grid point leaves in its output block and in the held mLSTM block, and the array of
   all blocks. -/
module

public import proofs.«01_k».proof.Proof.Gen.Kernel5Ideal.Value
public import proofs.«01_k».proof.Proof.Sigmoid
public import Idealize.ShloMosaic.Lib.Pipeline.ValueKit
public import Idealize.ShloMosaic.Lib.Pipeline.Covers

@[expose] public section

set_option maxRecDepth 16384

noncomputable section

namespace Cert.Kernel5Ideal.Merge

open Cert.Kernel5Ideal Cert.Kernel5Ideal.Gen Idealize.ShloMosaic Idealize.ShloMosaic.TcCoe Idealize.SL.Sem

variable (m : (ℓ : Loc nD τ sig) → Buf (Elt Ideal) ℓ)

/-- A gated normalised entry: the gate's logistic times the entry over its head's root mean square. -/
def gated (o h : EReal) (H : Fin 256 → EReal) : EReal :=
  Ideal.logistic o * (h * Ideal.rsqrt (Ideal.div (∑ j : Fin 256, H j * H j) (Ideal.ofBits .f32 0x43800000#32) + Ideal.ofBits .f32 0x358637BD#32))

/-- The same head's entry number `j` of a row. -/
def peer (k : Fin 1024) (j : Fin 256) : Fin 1024 := ⟨256 * (k.val / 256) + j.val, by omega⟩

/-- A row of the mLSTM branch from the two directions' rows and the gate's row. -/
def branch (a b o : Fin 1024 → EReal) (k : Fin 1024) : EReal :=
  gated (o k) (a k + b k) (fun j => a (peer k j) + b (peer k j))

/-- One head's columns of a block, gated. -/
theorem piece_apply (o : Vec Ideal S1024x256 .bf16) (h : FVec Ideal S1024x256 .f32) (p : Fin 1024) (j : Fin 256) :
    k0_pay5 (k0_pay3 o) h (ix2 p j) = gated (o (ix2 p j)) (h (ix2 p j)) (fun x => h (ix2 p x)) := by
  unfold_payloads
  pointwise!
  rw [Cert.Sigmoid.eq_logistic]
  rfl

theorem cols0 (x : Vec Ideal S1024x1024 .bf16) (p : Fin 1024) (j : Fin 256) (k : Fin 1024) (e : k.val = 0 + j.val) :
    View.ld x (Rect.unit ![0, 0] ![1024, 256] inb_S1024x1024_S1024x256_0_0) (ix2 p j) = x (ix2 p k) := by
  obtain rfl : k = ⟨j.val, by clear e; omega⟩ := Fin.ext (e.trans (Nat.zero_add _))
  pointwise!

theorem sums0 (x0 x1 : Vec Ideal S1024x1024 .bf16) (p : Fin 1024) (j : Fin 256) (k : Fin 1024) (e : k.val = 0 + j.val) :
    extractStridedSlice S1024x256 ![0, 0] (k0_pay1 x0 x1) slices_S1024x1024_o0_0_S1024x256 (ix2 p j) = x0 (ix2 p k) + x1 (ix2 p k) := by
  obtain rfl : k = ⟨j.val, by clear e; omega⟩ := Fin.ext (e.trans (Nat.zero_add _))
  unfold_payloads
  pointwise!

theorem rows0 (x0 x1 x2 : Vec Ideal S1024x1024 .bf16) (p : Fin 1024) (j : Fin 256) (k : Fin 1024) (e : k.val = 0 + j.val) :
    k0_pay2 x0 x1 (View.ld x2 (Rect.unit ![0, 0] ![1024, 256] inb_S1024x1024_S1024x256_0_0)) (ix2 p j) = branch (fun k => x0 (ix2 p k)) (fun k => x1 (ix2 p k)) (fun k => x2 (ix2 p k)) k := by
  have h : k0_pay2 x0 x1 (View.ld x2 (Rect.unit ![0, 0] ![1024, 256] inb_S1024x1024_S1024x256_0_0)) = k0_pay5 (k0_pay3 (View.ld x2 (Rect.unit ![0, 0] ![1024, 256] inb_S1024x1024_S1024x256_0_0))) (extractStridedSlice S1024x256 ![0, 0] (k0_pay1 x0 x1) slices_S1024x1024_o0_0_S1024x256) := rfl
  have f : ∀ l : Fin 256, (peer k l).val = 0 + l.val := fun l => by show 256 * (k.val / 256) + l.val = 0 + l.val; omega
  rw [h, piece_apply, cols0 x2 p j k e, sums0 x0 x1 p j k e]
  exact congrArg (gated _ _) (funext fun l => sums0 x0 x1 p l (peer k l) (f l))

theorem cols1 (x : Vec Ideal S1024x1024 .bf16) (p : Fin 1024) (j : Fin 256) (k : Fin 1024) (e : k.val = 256 + j.val) :
    View.ld x (Rect.unit ![0, 256] ![1024, 256] inb_S1024x1024_S1024x256_0_256) (ix2 p j) = x (ix2 p k) := by
  obtain rfl : k = ⟨256 + j.val, by clear e; omega⟩ := Fin.ext e
  pointwise!

theorem sums1 (x0 x1 : Vec Ideal S1024x1024 .bf16) (p : Fin 1024) (j : Fin 256) (k : Fin 1024) (e : k.val = 256 + j.val) :
    extractStridedSlice S1024x256 ![0, 256] (k0_pay1 x0 x1) slices_S1024x1024_o0_256_S1024x256 (ix2 p j) = x0 (ix2 p k) + x1 (ix2 p k) := by
  obtain rfl : k = ⟨256 + j.val, by clear e; omega⟩ := Fin.ext e
  unfold_payloads
  pointwise!

theorem rows1 (x0 x1 x2 : Vec Ideal S1024x1024 .bf16) (p : Fin 1024) (j : Fin 256) (k : Fin 1024) (e : k.val = 256 + j.val) :
    k0_pay5 (k0_pay3 (View.ld x2 (Rect.unit ![0, 256] ![1024, 256] inb_S1024x1024_S1024x256_0_256))) (k0_pay4 x0 x1) (ix2 p j) = branch (fun k => x0 (ix2 p k)) (fun k => x1 (ix2 p k)) (fun k => x2 (ix2 p k)) k := by
  have h : k0_pay5 (k0_pay3 (View.ld x2 (Rect.unit ![0, 256] ![1024, 256] inb_S1024x1024_S1024x256_0_256))) (k0_pay4 x0 x1) = k0_pay5 (k0_pay3 (View.ld x2 (Rect.unit ![0, 256] ![1024, 256] inb_S1024x1024_S1024x256_0_256))) (extractStridedSlice S1024x256 ![0, 256] (k0_pay1 x0 x1) slices_S1024x1024_o0_256_S1024x256) := rfl
  have f : ∀ l : Fin 256, (peer k l).val = 256 + l.val := fun l => by show 256 * (k.val / 256) + l.val = 256 + l.val; omega
  rw [h, piece_apply, cols1 x2 p j k e, sums1 x0 x1 p j k e]
  exact congrArg (gated _ _) (funext fun l => sums1 x0 x1 p l (peer k l) (f l))

theorem cols2 (x : Vec Ideal S1024x1024 .bf16) (p : Fin 1024) (j : Fin 256) (k : Fin 1024) (e : k.val = 512 + j.val) :
    View.ld x (Rect.unit ![0, 512] ![1024, 256] inb_S1024x1024_S1024x256_0_512) (ix2 p j) = x (ix2 p k) := by
  obtain rfl : k = ⟨512 + j.val, by clear e; omega⟩ := Fin.ext e
  pointwise!

theorem sums2 (x0 x1 : Vec Ideal S1024x1024 .bf16) (p : Fin 1024) (j : Fin 256) (k : Fin 1024) (e : k.val = 512 + j.val) :
    extractStridedSlice S1024x256 ![0, 512] (k0_pay1 x0 x1) slices_S1024x1024_o0_512_S1024x256 (ix2 p j) = x0 (ix2 p k) + x1 (ix2 p k) := by
  obtain rfl : k = ⟨512 + j.val, by clear e; omega⟩ := Fin.ext e
  unfold_payloads
  pointwise!

theorem rows2 (x0 x1 x2 : Vec Ideal S1024x1024 .bf16) (p : Fin 1024) (j : Fin 256) (k : Fin 1024) (e : k.val = 512 + j.val) :
    k0_pay6 (k0_pay1 x0 x1) (View.ld x2 (Rect.unit ![0, 512] ![1024, 256] inb_S1024x1024_S1024x256_0_512)) (ix2 p j) = branch (fun k => x0 (ix2 p k)) (fun k => x1 (ix2 p k)) (fun k => x2 (ix2 p k)) k := by
  have h : k0_pay6 (k0_pay1 x0 x1) (View.ld x2 (Rect.unit ![0, 512] ![1024, 256] inb_S1024x1024_S1024x256_0_512)) = k0_pay5 (k0_pay3 (View.ld x2 (Rect.unit ![0, 512] ![1024, 256] inb_S1024x1024_S1024x256_0_512))) (extractStridedSlice S1024x256 ![0, 512] (k0_pay1 x0 x1) slices_S1024x1024_o0_512_S1024x256) := rfl
  have f : ∀ l : Fin 256, (peer k l).val = 512 + l.val := fun l => by show 256 * (k.val / 256) + l.val = 512 + l.val; omega
  rw [h, piece_apply, cols2 x2 p j k e, sums2 x0 x1 p j k e]
  exact congrArg (gated _ _) (funext fun l => sums2 x0 x1 p l (peer k l) (f l))

theorem cols3 (x : Vec Ideal S1024x1024 .bf16) (p : Fin 1024) (j : Fin 256) (k : Fin 1024) (e : k.val = 768 + j.val) :
    View.ld x (Rect.unit ![0, 768] ![1024, 256] inb_S1024x1024_S1024x256_0_768) (ix2 p j) = x (ix2 p k) := by
  obtain rfl : k = ⟨768 + j.val, by clear e; omega⟩ := Fin.ext e
  pointwise!

theorem sums3 (x0 x1 : Vec Ideal S1024x1024 .bf16) (p : Fin 1024) (j : Fin 256) (k : Fin 1024) (e : k.val = 768 + j.val) :
    extractStridedSlice S1024x256 ![0, 768] (k0_pay1 x0 x1) slices_S1024x1024_o0_768_S1024x256 (ix2 p j) = x0 (ix2 p k) + x1 (ix2 p k) := by
  obtain rfl : k = ⟨768 + j.val, by clear e; omega⟩ := Fin.ext e
  unfold_payloads
  pointwise!

theorem rows3 (x0 x1 x2 : Vec Ideal S1024x1024 .bf16) (p : Fin 1024) (j : Fin 256) (k : Fin 1024) (e : k.val = 768 + j.val) :
    k0_pay7 (k0_pay1 x0 x1) (View.ld x2 (Rect.unit ![0, 768] ![1024, 256] inb_S1024x1024_S1024x256_0_768)) (ix2 p j) = branch (fun k => x0 (ix2 p k)) (fun k => x1 (ix2 p k)) (fun k => x2 (ix2 p k)) k := by
  have h : k0_pay7 (k0_pay1 x0 x1) (View.ld x2 (Rect.unit ![0, 768] ![1024, 256] inb_S1024x1024_S1024x256_0_768)) = k0_pay5 (k0_pay3 (View.ld x2 (Rect.unit ![0, 768] ![1024, 256] inb_S1024x1024_S1024x256_0_768))) (extractStridedSlice S1024x256 ![0, 768] (k0_pay1 x0 x1) slices_S1024x1024_o0_768_S1024x256) := rfl
  have f : ∀ l : Fin 256, (peer k l).val = 768 + l.val := fun l => by show 256 * (k.val / 256) + l.val = 768 + l.val; omega
  rw [h, piece_apply, cols3 x2 p j k e, sums3 x0 x1 p j k e]
  exact congrArg (gated _ _) (funext fun l => sums3 x0 x1 p l (peer k l) (f l))

/-- What a point that computes the mLSTM branch holds afterwards. -/
theorem held_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S3x1024x512 .bf16) (harg10 : arg10.IsWhole) (arg11 : Memref sig .tc .vmem S1024x512 .bf16) (harg11 : arg11.IsWhole) (arg12 : Memref sig .tc .vmem S1024x1024 .bf16) (harg12 : arg12.IsWhole) (hc0 : cond0_0 i) (x0 x1 x2 x3 x4 : Vec Ideal S1024x1024 .bf16) (x5 x6 x7 : Vec Ideal S1024x512 .bf16) (x8 : Vec Ideal S3x1024x512 .bf16) (p : Fin 1024) (k : Fin 1024) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 (ix2 p k) = branch (fun k => x0 (ix2 p k)) (fun k => x1 (ix2 p k)) (fun k => x2 (ix2 p k)) k := by
  frame_open
  frame_out
  canon_tiles x h
  · have e : x = ix2 p (x 1) := by
      funext a
      fin_cases a
      · exact Fin.ext h0.symm
      · rfl
    rw [e]
    exact rows3 x0 x1 x2 p (x 1) k h1
  · have e : x = ix2 p (x 1) := by
      funext a
      fin_cases a
      · exact Fin.ext h0.symm
      · rfl
    rw [e]
    exact rows2 x0 x1 x2 p (x 1) k h1
  · have e : x = ix2 p (x 1) := by
      funext a
      fin_cases a
      · exact Fin.ext h0.symm
      · rfl
    rw [e]
    exact rows1 x0 x1 x2 p (x 1) k h1
  · have e : x = ix2 p (x 1) := by
      funext a
      fin_cases a
      · exact Fin.ext h0.symm
      · rfl
    rw [e]
    exact rows0 x0 x1 x2 p (x 1) k (h1.trans (Nat.zero_add _).symm)

/-- One branch's weights out of a block of all three. -/
def slab (x : Vec Ideal S3x1024x512 .bf16) (n : Fin 3) : Vec Ideal S1x1024x512 .bf16 := fun i => x (ix3 n (i 1) (i 2))

theorem first (i : S1x1024x512.Idx) : ∃ (k : Fin 1024) (j : Fin 512), i = ix3 0 k j := ⟨i 1, i 2, by
  funext a
  fin_cases a
  · exact Fin.ext (by have : (i 0).val < 1 := (i 0).isLt; show (i 0).val = 0; omega)
  · rfl
  · rfl⟩

theorem ld_slab0 (x : Vec Ideal S3x1024x512 .bf16) : View.ld x (Rect.unit ![0, 0, 0] ![1, 1024, 512] inb_S3x1024x512_S1x1024x512_0_0_0) = slab x 0 := by
  funext i
  obtain ⟨k, j, rfl⟩ := first i
  change _ = x (ix3 0 k j)
  pointwise!

theorem ld_slab1 (x : Vec Ideal S3x1024x512 .bf16) : View.ld x (Rect.unit ![1, 0, 0] ![1, 1024, 512] inb_S3x1024x512_S1x1024x512_1_0_0) = slab x 1 := by
  funext i
  obtain ⟨k, j, rfl⟩ := first i
  change _ = x (ix3 1 k j)
  pointwise!

theorem ld_slab2 (x : Vec Ideal S3x1024x512 .bf16) : View.ld x (Rect.unit ![2, 0, 0] ![1, 1024, 512] inb_S3x1024x512_S1x1024x512_2_0_0) = slab x 2 := by
  funext i
  obtain ⟨k, j, rfl⟩ := first i
  change _ = x (ix3 2 k j)
  pointwise!

/-- A point that computes the mLSTM branch multiplies by it. -/
theorem out_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S3x1024x512 .bf16) (harg10 : arg10.IsWhole) (arg11 : Memref sig .tc .vmem S1024x512 .bf16) (harg11 : arg11.IsWhole) (arg12 : Memref sig .tc .vmem S1024x1024 .bf16) (harg12 : arg12.IsWhole) (hc0 : cond0_0 i) (x0 x1 x2 x3 x4 : Vec Ideal S1024x1024 .bf16) (x5 x6 x7 : Vec Ideal S1024x512 .bf16) (x8 : Vec Ideal S3x1024x512 .bf16) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay8 x5 (sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8) (slab x8 0) x6 x3 (slab x8 1) x7 x4 (slab x8 2) := by
  rw [← ld_slab0, ← ld_slab1, ← ld_slab2]
  frame_open
  frame_out
  refine congrArg (fun h => k0_pay8 x5 h _ x6 x3 _ x7 x4 _) ?_
  refine Eq.trans (View.readCov_eq_canon_ld _ _ _ ?_) ?_
  · exact View.cover_of_tiledL _ S1024x256.size (by sl_kernel_rfl)
  · exact View.ld_unit_zero (S := S1024x1024) (show (![0, 0] : Fin 2 → ℕ) = fun _ => 0 by decide) _ _

/-- A point that does not multiplies by the one held. -/
theorem out_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S3x1024x512 .bf16) (harg10 : arg10.IsWhole) (arg11 : Memref sig .tc .vmem S1024x512 .bf16) (harg11 : arg11.IsWhole) (arg12 : Memref sig .tc .vmem S1024x1024 .bf16) (harg12 : arg12.IsWhole) (hc0 : ¬cond0_0 i) (x0 x1 x2 x3 x4 : Vec Ideal S1024x1024 .bf16) (x5 x6 x7 : Vec Ideal S1024x512 .bf16) (x8 : Vec Ideal S3x1024x512 .bf16) (s0 : Vec Ideal S1024x1024 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 s0 = k0_pay8 x5 s0 (slab x8 0) x6 x3 (slab x8 1) x7 x4 (slab x8 2) := by
  rw [← ld_slab0, ← ld_slab1, ← ld_slab2]
  frame_open
  frame_out

/-- A block of the merged branches. -/
theorem pay8_apply (u v w : Vec Ideal S1024x512 .bf16) (y yg yn : Vec Ideal S1024x1024 .bf16) (a b d : Vec Ideal S1x1024x512 .bf16) (p : Fin 1024) (j : Fin 512) :
    k0_pay8 u y a v yg b w yn d (ix2 p j) = u (ix2 p j) * (∑ k : Fin 1024, y (ix2 p k) * a (ix3 0 k j)) + v (ix2 p j) * (∑ k : Fin 1024, yg (ix2 p k) * b (ix3 0 k j)) + w (ix2 p j) * (∑ k : Fin 1024, yn (ix2 p k) * d (ix3 0 k j)) := by
  unfold_payloads
  pointwise!

theorem entry0 (c : Dev nD) : V m c main_arg0 = m ((c : Thread nD τ).loc main_arg0) := by
  unfold_abbrev_sides
  after_results

theorem entry1 (c : Dev nD) : V m c main_arg1 = m ((c : Thread nD τ).loc main_arg1) := by
  unfold_abbrev_sides
  after_results

theorem entry2 (c : Dev nD) : V m c main_arg2 = m ((c : Thread nD τ).loc main_arg2) := by
  unfold_abbrev_sides
  after_results

theorem entry3 (c : Dev nD) : V m c main_arg3 = m ((c : Thread nD τ).loc main_arg3) := by
  unfold_abbrev_sides
  after_results

theorem entry4 (c : Dev nD) : V m c main_arg4 = m ((c : Thread nD τ).loc main_arg4) := by
  unfold_abbrev_sides
  after_results

theorem entry_w (c : Dev nD) : V m c main_v0 = m ((c : Thread nD τ).loc main_arg5) := by
  unfold_abbrev_sides
  after_results
  rfl

theorem idx0 : ∀ t : Fin cfg0.N, (cfg0.win 0).index t = ![t.val / 4, 0] := by decide +kernel
theorem idx1 : ∀ t : Fin cfg0.N, (cfg0.win 1).index t = ![t.val / 4, 0] := by decide +kernel
theorem idx2 : ∀ t : Fin cfg0.N, (cfg0.win 2).index t = ![t.val / 4, 2] := by decide +kernel
theorem idx3 : ∀ t : Fin cfg0.N, (cfg0.win 3).index t = ![t.val / 4, 0] := by decide +kernel
theorem idx4 : ∀ t : Fin cfg0.N, (cfg0.win 4).index t = ![t.val / 4, 0] := by decide +kernel
theorem idx5 : ∀ t : Fin cfg0.N, (cfg0.win 5).index t = ![t.val / 4, 15 + t.val % 4] := by decide +kernel
theorem idx6 : ∀ t : Fin cfg0.N, (cfg0.win 6).index t = ![t.val / 4, 19 + t.val % 4] := by decide +kernel
theorem idx7 : ∀ t : Fin cfg0.N, (cfg0.win 7).index t = ![t.val / 4, 23 + t.val % 4] := by decide +kernel
theorem idx8 : ∀ t : Fin cfg0.N, (cfg0.win 8).index t = ![0, 0, t.val % 4] := by decide +kernel
theorem idx9 : ∀ t : Fin cfg0.N, (cfg0.win 9).index t = ![t.val / 4, t.val % 4] := by decide +kernel

/-- A point's rows and columns of the result. -/
def row (n : ℕ) (h : n < cfg0.N) (p : Fin 1024) : Fin 34816 := ⟨1024 * (n / 4) + p.val, by have := lt_of_lt_of_eq h N_0; omega⟩
def col (n : ℕ) (j : Fin 512) : Fin 2048 := ⟨512 * (n % 4) + j.val, by omega⟩

/-- Where the output gate's and the three branch gates' columns lie in the projection. -/
def oCol (k : Fin 1024) : Fin 13824 := ⟨2048 + k.val, by omega⟩
def gCol (b : Fin 3) (j : Fin 2048) : Fin 13824 := ⟨7680 + 2048 * b.val + j.val, by omega⟩

theorem blk0 (c : Dev nD) (t : Fin cfg0.N) (p k : Fin 1024) :
    iblk m c 0 t (ix2 p k) = m ((c : Thread nD τ).loc main_arg0) (ix2 (row t.val t.isLt p) k) := by
  rw [← entry0 m c]
  blk_ext [iblk, idx0 t, row]

theorem blk1 (c : Dev nD) (t : Fin cfg0.N) (p k : Fin 1024) :
    iblk m c 1 t (ix2 p k) = m ((c : Thread nD τ).loc main_arg1) (ix2 (row t.val t.isLt p) k) := by
  rw [← entry1 m c]
  blk_ext [iblk, idx1 t, row]

theorem blk3 (c : Dev nD) (t : Fin cfg0.N) (p k : Fin 1024) :
    iblk m c 3 t (ix2 p k) = m ((c : Thread nD τ).loc main_arg3) (ix2 (row t.val t.isLt p) k) := by
  rw [← entry3 m c]
  blk_ext [iblk, idx3 t, row]

theorem blk4 (c : Dev nD) (t : Fin cfg0.N) (p k : Fin 1024) :
    iblk m c 4 t (ix2 p k) = m ((c : Thread nD τ).loc main_arg4) (ix2 (row t.val t.isLt p) k) := by
  rw [← entry4 m c]
  blk_ext [iblk, idx4 t, row]

theorem blk2 (c : Dev nD) (t : Fin cfg0.N) (p k : Fin 1024) :
    X0_2 m c t (ix2 p k) = m ((c : Thread nD τ).loc main_arg2) (ix2 (row t.val t.isLt p) (oCol k)) := by
  rw [← entry2 m c]
  unfold X0_2 Pipeline.Window.fill
  rw [dif_pos (moved0_2 t (ix2 p k))]
  blk_ext [iblk, idx2 t, row, oCol]

theorem blk5 (c : Dev nD) (t : Fin cfg0.N) (p : Fin 1024) (j : Fin 512) :
    iblk m c 5 t (ix2 p j) = m ((c : Thread nD τ).loc main_arg2) (ix2 (row t.val t.isLt p) (gCol 0 (col t.val j))) := by
  rw [← entry2 m c]
  blk_ext [iblk, idx5 t, row, col, gCol]

theorem blk6 (c : Dev nD) (t : Fin cfg0.N) (p : Fin 1024) (j : Fin 512) :
    iblk m c 6 t (ix2 p j) = m ((c : Thread nD τ).loc main_arg2) (ix2 (row t.val t.isLt p) (gCol 1 (col t.val j))) := by
  rw [← entry2 m c]
  blk_ext [iblk, idx6 t, row, col, gCol]

theorem blk7 (c : Dev nD) (t : Fin cfg0.N) (p : Fin 1024) (j : Fin 512) :
    iblk m c 7 t (ix2 p j) = m ((c : Thread nD τ).loc main_arg2) (ix2 (row t.val t.isLt p) (gCol 2 (col t.val j))) := by
  rw [← entry2 m c]
  blk_ext [iblk, idx7 t, row, col, gCol]

theorem blk8 (c : Dev nD) (t : Fin cfg0.N) (b : Fin 3) (k : Fin 1024) (j : Fin 512) :
    slab (iblk m c 8 t) b (ix3 0 k j) = m ((c : Thread nD τ).loc main_arg5) (ix3 b k (col t.val j)) := by
  rw [← entry_w m c]
  change iblk m c 8 t (ix3 b k j) = _
  blk_ext [iblk, idx8 t, col]

/-- The mLSTM branch's row number `r`. -/
def mixed (a b : S34816x1024.Idx → EReal) (P : S34816x13824.Idx → EReal) (r : Fin 34816) (k : Fin 1024) : EReal :=
  branch (fun k => a (ix2 r k)) (fun k => b (ix2 r k)) (fun k => P (ix2 r (oCol k))) k

/-- The block held after every point is the mLSTM branch at its rows. -/
theorem held (c : Dev nD) : ∀ (n : ℕ) (h : n < cfg0.N) (p k : Fin 1024),
    (outsAt0 m c n h).2 (ix2 p k) = mixed (m ((c : Thread nD τ).loc main_arg0)) (m ((c : Thread nD τ).loc main_arg1)) (m ((c : Thread nD τ).loc main_arg2)) (row n h p) k := by
  have first : ∀ (t : Fin cfg0.N), t.val % 4 = 0 → ∀ (p k : Fin 1024),
      (outsAt0 m c t.val t.isLt).2 (ix2 p k) = mixed (m ((c : Thread nD τ).loc main_arg0)) (m ((c : Thread nD τ).loc main_arg1)) (m ((c : Thread nD τ).loc main_arg2)) (row t.val t.isLt p) k := fun t h0 p k => by
    rw [outsAt0_A m c t h0]
    dsimp only
    rw [held_A]
    simp only [blk0, blk1, blk2]
    rfl
  intro n
  induction n with
  | zero => exact fun h => first ⟨0, h⟩ rfl
  | succ n ih =>
    intro h p k
    by_cases h0 : (n + 1) % 4 = 0
    · exact first ⟨n + 1, h⟩ h0 p k
    · have e : row (n + 1) h p = row n (Nat.lt_of_succ_lt h) p := Fin.ext (by show 1024 * ((n + 1) / 4) + p.val = 1024 * (n / 4) + p.val; omega)
      rw [outsAt0_B m c ⟨n + 1, h⟩ h0, e]
      exact ih (Nat.lt_of_succ_lt h) p k

/-- The three branches, each projected by its weights and gated, added. -/
def result (a b : S34816x1024.Idx → EReal) (P : S34816x13824.Idx → EReal) (yg yn : S34816x1024.Idx → EReal) (w : S3x1024x2048.Idx → EReal) : S34816x2048.Idx → EReal := fun i =>
  P (ix2 (i 0) (gCol 0 (i 1))) * (∑ k : Fin 1024, mixed a b P (i 0) k * w (ix3 0 k (i 1)))
    + P (ix2 (i 0) (gCol 1 (i 1))) * (∑ k : Fin 1024, yg (ix2 (i 0) k) * w (ix3 1 k (i 1)))
    + P (ix2 (i 0) (gCol 2 (i 1))) * (∑ k : Fin 1024, yn (ix2 (i 0) k) * w (ix3 2 k (i 1)))

theorem result_apply (a b : S34816x1024.Idx → EReal) (P : S34816x13824.Idx → EReal) (yg yn : S34816x1024.Idx → EReal) (w : S3x1024x2048.Idx → EReal) (r : Fin 34816) (j : Fin 2048) :
    result a b P yg yn w (ix2 r j) = P (ix2 r (gCol 0 j)) * (∑ k : Fin 1024, mixed a b P r k * w (ix3 0 k j))
      + P (ix2 r (gCol 1 j)) * (∑ k : Fin 1024, yg (ix2 r k) * w (ix3 1 k j))
      + P (ix2 r (gCol 2 j)) * (∑ k : Fin 1024, yn (ix2 r k) * w (ix3 2 k j)) := rfl

theorem covers9 : (cfg0.win 9).Covers :=
  (cfg0.win 9).covers_of_indexMap_surj rfl (by decide) fun β => by
    have h0 : (β 0).val < 34 := (β 0).isLt
    have h1 : (β 1).val < 4 := (β 1).isLt
    refine ⟨fun | 0 => β 0 | 1 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega

/-- Where a point's output block lies in the array. -/
theorem place9 (t : Fin cfg0.N) (p : Fin 1024) (q : Fin 512) :
    (((cfg0.win 9).blk t).view.emb (ix2 p q) : S34816x2048.Idx) = ix2 (row t.val t.isLt p) (col t.val q) := by
  blk_ext [idx9 t, row, col]

/-- A point's block, from the block of the mLSTM branch it multiplies by. -/
theorem block (c : Dev nD) (t : Fin cfg0.N) (y : Vec Ideal S1024x1024 .bf16) (p : Fin 1024) (q : Fin 512)
    (hy : ∀ k, y (ix2 p k) = mixed (m ((c : Thread nD τ).loc main_arg0)) (m ((c : Thread nD τ).loc main_arg1)) (m ((c : Thread nD τ).loc main_arg2)) (row t.val t.isLt p) k) :
    k0_pay8 (iblk m c 5 t) y (slab (iblk m c 8 t) 0) (iblk m c 6 t) (iblk m c 3 t) (slab (iblk m c 8 t) 1) (iblk m c 7 t) (iblk m c 4 t) (slab (iblk m c 8 t) 2) (ix2 p q)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t.val t.isLt p) (col t.val q)) := by
  rw [result_apply]
  refine (pay8_apply _ _ _ _ _ _ _ _ _ p q).trans (congrArg₂ (· + ·) (congrArg₂ (· + ·) ?_ ?_) ?_)
  · exact congrArg₂ (· * ·) (blk5 m c t p q) (Finset.sum_congr rfl fun k _ => congrArg₂ (· * ·) (hy k) (blk8 m c t 0 k q))
  · exact congrArg₂ (· * ·) (blk6 m c t p q) (Finset.sum_congr rfl fun k _ => congrArg₂ (· * ·) (blk3 m c t p k) (blk8 m c t 1 k q))
  · exact congrArg₂ (· * ·) (blk7 m c t p q) (Finset.sum_congr rfl fun k _ => congrArg₂ (· * ·) (blk4 m c t p k) (blk8 m c t 2 k q))

/-- The array the kernel leaves is the merged branches. -/
theorem array (c : Dev nD) :
    (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ covers9 fun t hf y => ?_
  obtain ⟨p, q, rfl⟩ : ∃ (p : Fin 1024) (q : Fin 512), y = ix2 p q := ⟨y 0, y 1, by
    funext a
    fin_cases a <;> rfl⟩
  rw [place9]
  change (dats m 0 c).flushed 9 t (ix2 p q) = _
  by_cases h : t.val % 4 = 0
  · rw [Cert.Kernel5Ideal.Value.flushed9_A m c t h, out_A]
    refine block m c t _ p q fun k => ?_
    rw [held_A]
    simp only [blk0, blk1, blk2]
    rfl
  · have hn : t.val - 1 < cfg0.N := Nat.lt_of_le_of_lt (Nat.sub_le _ _) t.isLt
    have e : row (t.val - 1) hn p = row t.val t.isLt p := Fin.ext (by show 1024 * ((t.val - 1) / 4) + p.val = 1024 * (t.val / 4) + p.val; omega)
    have g := fun k => held m c (t.val - 1) hn p k
    rw [e] at g
    rw [Cert.Kernel5Ideal.Value.flushed9_B m c t h, out_B]
    exact block m c t _ p q g

end Cert.Kernel5Ideal.Merge
end
-- ==== Proof.MergeRef.lean ====
/- The merge's reference: its array, operation by operation, is the merged branches. -/
module

public import proofs.«01_k».proof.Proof.Gen.Reference5Ideal.Run
public import proofs.«01_k».proof.Proof.Merge

@[expose] public section

set_option maxRecDepth 16384

noncomputable section

namespace Cert.Reference5Ideal.Merge

open Cert.Reference5Ideal Cert.Reference5Ideal.Gen Idealize.ShloMosaic Idealize.ShloMosaic.TcCoe Idealize.SL.Sem Cert.Kernel5Ideal.Merge

/-- The sum of the two directions, by head. -/
def heads (a b : FVec Ideal S34816x1024 .bf16) : FVec Ideal S34816x4x256 .f32 :=
  shapeCast _ (addf (extf .f32 a bitsLt_bf16_f32) (extf .f32 b bitsLt_bf16_f32)) shapeCasts_S34816x1024_S34816x4x256

/-- Each head over its root mean square. -/
def normed (h : FVec Ideal S34816x4x256 .f32) : FVec Ideal S34816x4x256 .f32 :=
  mulf h (broadcastInDim S34816x4x256 ![0, 1, 2] bcast_S34816x4x1_S34816x4x256_0_1_2 (Host.rsqrt (addf (Host.divf (broadcastInDim S34816x4x1 ![0, 1] bcast_S34816x4_S34816x4x1_0_1 (Host.reduceAdd (mulf h h) (constant S_ .f32 0x00000000#32) reducesTo_S34816x4x256_S34816x4_d2 h_S_)) (broadcastInDim S34816x4x1 ![] bcast_S_S34816x4x1 (constant S_ .f32 0x43800000#32))) (broadcastInDim S34816x4x1 ![] bcast_S_S34816x4x1 (constant S_ .f32 0x358637BD#32)))))

/-- The output gate. -/
def opened (P : FVec Ideal S34816x13824 .bf16) : FVec Ideal S34816x1024 .f32 :=
  Host.divf (broadcastInDim S34816x1024 ![] bcast_S_S34816x1024 (constant S_ .f32 0x3F800000#32)) (addf (broadcastInDim S34816x1024 ![] bcast_S_S34816x1024 (constant S_ .f32 0x3F800000#32)) (Host.exp (Host.negf (extractStridedSlice S34816x1024 ![0, 2048] (extf .f32 P bitsLt_bf16_f32) slices_S34816x13824_S34816x1024_0_2048))))

/-- The mLSTM branch. -/
def own (a b : FVec Ideal S34816x1024 .bf16) (P : FVec Ideal S34816x13824 .bf16) : FVec Ideal S34816x1024 .f32 :=
  mulf (opened P) (shapeCast _ (normed (heads a b)) shapeCasts_S34816x4x256_S34816x1024)

/-- The three branches' gates. -/
def gates (P : FVec Ideal S34816x13824 .bf16) : FVec Ideal S34816x3x2048 .f32 :=
  shapeCast _ (extractStridedSlice S34816x6144 ![0, 7680] (extf .f32 P bitsLt_bf16_f32) slices_S34816x13824_S34816x6144_0_7680) shapeCasts_S34816x6144_S34816x3x2048

/-- The reference's array, as composed. -/
def composed (a b : FVec Ideal S34816x1024 .bf16) (P : FVec Ideal S34816x13824 .bf16) (yg yn : FVec Ideal S34816x1024 .bf16) (w : FVec Ideal S3x1024x2048 .f32) : FVec Ideal S34816x2048 .bf16 :=
  truncf .bf16 (addf (addf (mulf (shapeCast _ (extractStridedSlice S34816x1x2048 ![0, 0, 0] (gates P) slices_S34816x3x2048_S34816x1x2048_0_0_0) shapeCasts_S34816x1x2048_S34816x2048) (Host.dotGeneral dot_S34816x1024_S1024x2048_S34816x2048_1_0_0_1_n_n none (own a b P) (shapeCast _ (extractStridedSlice S1x1024x2048 ![0, 0, 0] w slices_S3x1024x2048_S1x1024x2048_0_0_0) shapeCasts_S1x1024x2048_S1024x2048))) (mulf (shapeCast _ (extractStridedSlice S34816x1x2048 ![0, 1, 0] (gates P) slices_S34816x3x2048_S34816x1x2048_0_1_0) shapeCasts_S34816x1x2048_S34816x2048) (Host.dotGeneral dot_S34816x1024_S1024x2048_S34816x2048_1_0_0_1_n_n none (extf .f32 yg bitsLt_bf16_f32) (shapeCast _ (extractStridedSlice S1x1024x2048 ![1, 0, 0] w slices_S3x1024x2048_S1x1024x2048_1_0_0) shapeCasts_S1x1024x2048_S1024x2048)))) (mulf (shapeCast _ (extractStridedSlice S34816x1x2048 ![0, 2, 0] (gates P) slices_S34816x3x2048_S34816x1x2048_0_2_0) shapeCasts_S34816x1x2048_S34816x2048) (Host.dotGeneral dot_S34816x1024_S1024x2048_S34816x2048_1_0_0_1_n_n none (extf .f32 yn bitsLt_bf16_f32) (shapeCast _ (extractStridedSlice S1x1024x2048 ![2, 0, 0] w slices_S3x1024x2048_S1x1024x2048_2_0_0) shapeCasts_S1x1024x2048_S1024x2048)))) bitsLt_bf16_f32

/-- Splitting a row into four heads, and joining them. -/
theorem split_apply {α : Type} (x : S34816x1024.Idx → α) (p : Fin 34816) (q : Fin 4) (j : Fin 256) (k : Fin 1024) (e : k.val = 256 * q.val + j.val) :
    shapeCast S34816x4x256 x shapeCasts_S34816x1024_S34816x4x256 (ix3 p q j) = x (ix2 p k) := by
  refine congrArg x (Shape.reshapeEquiv_eq_of_vals _ _ _ (p.val * 1024 + k.val) (p.val * 1024 + q.val * 256 + j.val) ?_ ?_ (by omega))
  · refine (rowMajor_val2 _ 1024 (by decide)).trans ?_
    rfl
  · refine (rowMajor_val3 _ 1024 256 (by decide) (by decide)).trans ?_
    rfl

theorem join_apply {α : Type} (x : S34816x4x256.Idx → α) (p : Fin 34816) (k : Fin 1024) :
    shapeCast S34816x1024 x shapeCasts_S34816x4x256_S34816x1024 (ix2 p k) = x (ix3 p ⟨k.val / 256, by omega⟩ ⟨k.val % 256, by omega⟩) := by
  refine congrArg x (Shape.reshapeEquiv_eq_of_vals _ _ _ (p.val * 1024 + k.val / 256 * 256 + k.val % 256) (p.val * 1024 + k.val) ?_ ?_ (by omega))
  · refine (rowMajor_val3 _ 1024 256 (by decide) (by decide)).trans ?_
    rfl
  · refine (rowMajor_val2 _ 1024 (by decide)).trans ?_
    rfl

/-- Splitting the gates' columns into the three branches'. -/
theorem thirds_apply {α : Type} (x : S34816x6144.Idx → α) (p : Fin 34816) (q : Fin 3) (j : Fin 2048) :
    shapeCast S34816x3x2048 x shapeCasts_S34816x6144_S34816x3x2048 (ix3 p q j) = x (ix2 p ⟨2048 * q.val + j.val, by omega⟩) := by
  refine congrArg x (Shape.reshapeEquiv_eq_of_vals _ _ _ (p.val * 6144 + (2048 * q.val + j.val)) (p.val * 6144 + q.val * 2048 + j.val) ?_ ?_ (by omega))
  · refine (rowMajor_val2 _ 6144 (by decide)).trans ?_
    rfl
  · refine (rowMajor_val3 _ 6144 2048 (by decide) (by decide)).trans ?_
    rfl

theorem heads_apply (a b : FVec Ideal S34816x1024 .bf16) (p : Fin 34816) (q : Fin 4) (j : Fin 256) (k : Fin 1024) (e : k.val = 256 * q.val + j.val) :
    heads a b (ix3 p q j) = a (ix2 p k) + b (ix2 p k) :=
  (split_apply _ p q j k e).trans rfl

theorem normed_apply (h : FVec Ideal S34816x4x256 .f32) (p : Fin 34816) (q : Fin 4) (j : Fin 256) :
    normed h (ix3 p q j) = h (ix3 p q j) * Ideal.rsqrt (Ideal.div (∑ l : Fin 256, h (ix3 p q l) * h (ix3 p q l)) (Ideal.ofBits .f32 0x43800000#32) + Ideal.ofBits .f32 0x358637BD#32) := by
  unfold normed
  pointwise!

theorem open_apply (P : FVec Ideal S34816x13824 .bf16) (p : Fin 34816) (k : Fin 1024) : opened P (ix2 p k) = Ideal.logistic (P (ix2 p (oCol k))) := by
  unfold opened oCol
  pointwise!

theorem own_apply (a b : FVec Ideal S34816x1024 .bf16) (P : FVec Ideal S34816x13824 .bf16) (p : Fin 34816) (k : Fin 1024) : own a b P (ix2 p k) = mixed a b P p k := by
  change opened P (ix2 p k) * _ = _
  rw [open_apply, join_apply, normed_apply, heads_apply a b p _ _ k (by show k.val = 256 * (k.val / 256) + k.val % 256; omega)]
  simp only [fun l => heads_apply a b p ⟨k.val / 256, by omega⟩ l (peer k l) rfl]
  rfl

theorem gates_apply (P : FVec Ideal S34816x13824 .bf16) (p : Fin 34816) (q : Fin 3) (j : Fin 2048) : gates P (ix3 p q j) = P (ix2 p (gCol q j)) := by
  refine (thirds_apply _ p q j).trans ?_
  have e : gCol q j = ⟨7680 + (2048 * q.val + j.val), by omega⟩ := Fin.ext (Nat.add_assoc _ _ _)
  rw [e]
  pointwise!

theorem gate0 (g : FVec Ideal S34816x3x2048 .f32) (p : Fin 34816) (j : Fin 2048) :
    shapeCast S34816x2048 (extractStridedSlice S34816x1x2048 ![0, 0, 0] g slices_S34816x3x2048_S34816x1x2048_0_0_0) shapeCasts_S34816x1x2048_S34816x2048 (ix2 p j) = g (ix3 p 0 j) := by
  pointwise!

theorem dot0 (y : FVec Ideal S34816x1024 .f32) (w : FVec Ideal S3x1024x2048 .f32) (p : Fin 34816) (j : Fin 2048) :
    Host.dotGeneral dot_S34816x1024_S1024x2048_S34816x2048_1_0_0_1_n_n none y (shapeCast _ (extractStridedSlice S1x1024x2048 ![0, 0, 0] w slices_S3x1024x2048_S1x1024x2048_0_0_0) shapeCasts_S1x1024x2048_S1024x2048) (ix2 p j) = ∑ k : Fin 1024, y (ix2 p k) * w (ix3 0 k j) := by
  pointwise!

theorem gate1 (g : FVec Ideal S34816x3x2048 .f32) (p : Fin 34816) (j : Fin 2048) :
    shapeCast S34816x2048 (extractStridedSlice S34816x1x2048 ![0, 1, 0] g slices_S34816x3x2048_S34816x1x2048_0_1_0) shapeCasts_S34816x1x2048_S34816x2048 (ix2 p j) = g (ix3 p 1 j) := by
  pointwise!

theorem dot1 (y : FVec Ideal S34816x1024 .f32) (w : FVec Ideal S3x1024x2048 .f32) (p : Fin 34816) (j : Fin 2048) :
    Host.dotGeneral dot_S34816x1024_S1024x2048_S34816x2048_1_0_0_1_n_n none y (shapeCast _ (extractStridedSlice S1x1024x2048 ![1, 0, 0] w slices_S3x1024x2048_S1x1024x2048_1_0_0) shapeCasts_S1x1024x2048_S1024x2048) (ix2 p j) = ∑ k : Fin 1024, y (ix2 p k) * w (ix3 1 k j) := by
  pointwise!

theorem gate2 (g : FVec Ideal S34816x3x2048 .f32) (p : Fin 34816) (j : Fin 2048) :
    shapeCast S34816x2048 (extractStridedSlice S34816x1x2048 ![0, 2, 0] g slices_S34816x3x2048_S34816x1x2048_0_2_0) shapeCasts_S34816x1x2048_S34816x2048 (ix2 p j) = g (ix3 p 2 j) := by
  pointwise!

theorem dot2 (y : FVec Ideal S34816x1024 .f32) (w : FVec Ideal S3x1024x2048 .f32) (p : Fin 34816) (j : Fin 2048) :
    Host.dotGeneral dot_S34816x1024_S1024x2048_S34816x2048_1_0_0_1_n_n none y (shapeCast _ (extractStridedSlice S1x1024x2048 ![2, 0, 0] w slices_S3x1024x2048_S1x1024x2048_2_0_0) shapeCasts_S1x1024x2048_S1024x2048) (ix2 p j) = ∑ k : Fin 1024, y (ix2 p k) * w (ix3 2 k j) := by
  pointwise!

/-- It is the merged branches. -/
theorem merged (a b : FVec Ideal S34816x1024 .bf16) (P : FVec Ideal S34816x13824 .bf16) (yg yn : FVec Ideal S34816x1024 .bf16) (w : FVec Ideal S3x1024x2048 .f32) :
    composed a b P yg yn w = result a b P yg yn w := by
  funext i
  obtain ⟨p, j, rfl⟩ : ∃ (p : Fin 34816) (j : Fin 2048), i = ix2 p j := ⟨i 0, i 1, by
    funext a
    fin_cases a <;> rfl⟩
  rw [result_apply]
  refine congrArg₂ (fun u v : EReal => u + v) (congrArg₂ (fun u v : EReal => u + v) ?_ ?_) ?_
  · exact congrArg₂ (fun u v : EReal => u * v) ((gate0 _ p j).trans (gates_apply P p 0 j)) ((dot0 _ w p j).trans (Finset.sum_congr rfl fun k _ => congrArg (fun u : EReal => u * _) (own_apply a b P p k)))
  · exact congrArg₂ (fun u v : EReal => u * v) ((gate1 _ p j).trans (gates_apply P p 1 j)) ((dot1 _ w p j).trans rfl)
  · exact congrArg₂ (fun u v : EReal => u * v) ((gate2 _ p j).trans (gates_apply P p 2 j)) ((dot2 _ w p j).trans rfl)

end Cert.Reference5Ideal.Merge
end
-- ==== Proof.MergeClaim.lean ====
/- The merge's claims: its reference's frame, and that kernel and reference leave the same array. -/
module

public import proofs.«01_k».proof.Defs
public import proofs.«01_k».proof.Proof.Merge
public import proofs.«01_k».proof.Proof.MergeRef
public import Idealize.ShloMosaic.Lib.Quiescent

@[expose] public section

set_option maxRecDepth 16384

noncomputable section

namespace Cert.Proof

open Idealize.ShloMosaic Idealize.SL.Sem

/-- The merge: its reference runs, leaves its arguments and ends with every counter at zero. -/
theorem reference_frame5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run Cert.Reference5Ideal.defs _ _).mono (fun r h => ⟨fun c => (h c).2, sem_eq_zero_of_no_sems rfl _⟩) (Cert.Reference5Ideal.Value.run m g)

/-- The merge: kernel and reference run and leave the same array. -/
theorem value5 : algebraic_Kernel5Ideal_Reference5Ideal (hKernel5Ideal := Cert.Kernel5Ideal.Gen.facts) (hReference5Ideal := Cert.Reference5Ideal.Gen.facts) := by
  intro m g m' g' hpre hagree
  refine ⟨fun c => (Cert.Kernel5Ideal.Gen.dats m 0 c).arrAt 9 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, h1, h2, h3, h4, h5⟩ := hagree c
  refine ⟨(h c).1.trans ?_, (h c).2⟩
  refine Eq.trans ?_ (Cert.Kernel5Ideal.Merge.array m c).symm
  rw [← h0, ← h1, ← h2, ← h3, ← h4, ← h5]
  exact Cert.Reference5Ideal.Merge.merged _ _ _ _ _ _

end Cert.Proof

end
-- ==== Proof.WoutMath.lean ====
/- Mathematics for the output projection's call: normalised rows are real, and a softmax of 16 scores in 128 lanes. -/
module

public import proofs.«01_k».proof.Proof.RefValues

@[expose] public section

noncomputable section

namespace Cert.Wout

open Idealize.ShloMosaic Cert.Softmax

/-- A row over its root mean square. -/
def unit (x : Fin 2048 → EReal) (k : Fin 2048) : EReal :=
  x k * Ideal.rsqrt (Ideal.div (∑ j : Fin 2048, x j * x j) (Ideal.ofBits .f32 0x45000000#32) + Ideal.ofBits .f32 0x358637BD#32)

/-- A normalised row, modulated. -/
def norm (x : Fin 2048 → EReal) (g sc sh : EReal) (k : Fin 2048) : EReal := unit x k * g * (1 + sc) + sh

theorem mul_self_nonneg (x : EReal) : 0 ≤ x * x := by
  induction x using EReal.rec with
  | bot => simp
  | top => simp
  | coe x => exact_mod_cast _root_.mul_self_nonneg x

theorem count_bits : Ideal.ofBits .f32 0x45000000#32 = ((2048 : ℝ) : EReal) := by
  simp [Ideal.ofBits, Ideal.ieee]
  rw [← EReal.coe_mul]
  norm_num

theorem eps_bits : ∃ e : ℝ, 0 < e ∧ Ideal.ofBits .f32 0x358637BD#32 = (e : EReal) := by
  refine ⟨_, ?_, by simp [Ideal.ofBits, Ideal.ieee]; rfl⟩
  norm_num

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- An entry over its row's root mean square is real, whatever the row. -/
theorem isReal_unit (x : Fin 2048 → EReal) (k : Fin 2048) : IsReal (unit x k) := by
  unfold unit
  obtain ⟨e, he, hb⟩ := eps_bits
  rw [count_bits, hb, Ideal.div_coe (by norm_num)]
  have hs : x k * x k ≤ ∑ j : Fin 2048, x j * x j := Finset.single_le_sum (f := fun j => x j * x j) (fun j _ => mul_self_nonneg (x j)) (Finset.mem_univ k)
  have h0 : 0 ≤ ∑ j : Fin 2048, x j * x j := Finset.sum_nonneg fun j _ => mul_self_nonneg (x j)
  generalize (∑ j : Fin 2048, x j * x j) = S at hs h0
  induction S using EReal.rec with
  | bot => exact absurd h0 (by simp)
  | top =>
    rw [EReal.top_mul_coe_of_pos (by norm_num), EReal.top_add_coe, Ideal.rsqrt_top, mul_zero]
    exact ⟨0, rfl⟩
  | coe S =>
    have hS : 0 ≤ S := by exact_mod_cast h0
    have hp : 0 < S * (1 / 2048) + e := by positivity
    rw [← EReal.coe_mul, ← EReal.coe_add, Ideal.rsqrt_coe, if_neg (not_lt.mpr hp.le), if_neg hp.ne']
    refine isReal_mul ?_ (isReal_coe _)
    generalize x k = u at hs
    induction u using EReal.rec with
    | bot => simp at hs
    | top => simp at hs
    | coe u => exact isReal_coe u

theorem isReal_norm (x : Fin 2048 → EReal) {g sc sh : EReal} (hg : IsReal g) (hc : IsReal sc) (hh : IsReal sh) (k : Fin 2048) : IsReal (norm x g sc sh k) :=
  isReal_add (isReal_mul (isReal_mul (isReal_unit x k) hg) (isReal_add ⟨1, rfl⟩ hc)) hh

theorem sub_self_real {x : EReal} (h : IsReal x) : x - x = 0 := by
  obtain ⟨a, rfl⟩ := h
  rw [← EReal.coe_sub, sub_self]
  rfl

/-- A product of a row by weights, the row in two parts and the weights in two parts, each second part zero. -/
theorem three_sums {n : ℕ} (h w v : Fin n → EReal) (hh : ∀ k, IsReal (h k)) (hv : ∀ k, v k = 0) :
    (∑ k, h k * w k) + (∑ k, (h k - h k) * w k) + (∑ k, h k * v k) = ∑ k, h k * w k := by
  simp only [fun k => sub_self_real (hh k), hv, zero_mul, mul_zero, Finset.sum_const_zero, add_zero]

/-- A sum over 128 lanes of which all but the first 16 are zero. -/
theorem sum_lanes (f : Fin 16 → EReal) : (∑ l : Fin 128, if h : l.val < 16 then f ⟨l.val, h⟩ else 0) = ∑ e, f e := by
  rw [show (128 : ℕ) = 16 + 112 from rfl, Fin.sum_univ_add]
  have h2 : ∀ l : Fin 112, (if h : (Fin.natAdd 16 l).val < 16 then f ⟨(Fin.natAdd 16 l).val, h⟩ else 0) = 0 := fun l => dif_neg (by simp)
  have h1 : ∀ l : Fin 16, (if h : (Fin.castAdd 112 l).val < 16 then f ⟨(Fin.castAdd 112 l).val, h⟩ else 0) = f l := fun l => dif_pos (by simp)
  simp only [h1, h2, Finset.sum_const_zero, add_zero]

/-- The share of one of 16 real scores, relative to any real. -/
theorem share (s : Fin 16 → ℝ) (M : ℝ) (e : Fin 16) :
    Ideal.div (Ideal.exp ((s e : EReal) - (M : EReal))) (∑ i, Ideal.exp ((s i : EReal) - (M : EReal))) = ((weight s e : ℝ) : EReal) := by
  have hp := sum_exp_pos s M
  simp only [exp_sub]
  rw [← coe_sum, Ideal.div_coe hp.ne', ← EReal.coe_mul, ← weight_shift s M e, mul_one_div]

/-- The shares laid out in 128 lanes. -/
def lanes (s : Fin 16 → ℝ) (l : Fin 128) : EReal := if h : l.val < 16 then ((weight s ⟨l.val, h⟩ : ℝ) : EReal) else 0

theorem zero_div_sum (s : Fin 16 → ℝ) (M : ℝ) : Ideal.div 0 (∑ i, Ideal.exp ((s i : EReal) - (M : EReal))) = 0 := by
  have hp := sum_exp_pos s M
  simp only [exp_sub]
  rw [← coe_sum, Ideal.div_coe hp.ne', zero_mul]

end Cert.Wout
end
-- ==== Proof.WoutGoal.lean ====
/- The output projection's call: its results as functions of its arguments. -/
module

public import proofs.«01_k».proof.Kernel6Ideal
public import proofs.«01_k».proof.Proof.WoutMath
public import Idealize.ShloMosaic.Lib.Pointwise

@[expose] public section

noncomputable section

namespace Cert.Wout

open Cert.Kernel6Ideal Idealize.ShloMosaic Idealize.ShloMosaic.TcCoe Cert.Softmax

/-- The arguments: merged branches, output weights, latents, context, modulation, the two gains, router weights. -/
structure In where
  a : FVec Ideal S8x4352x2048 .bf16
  w : FVec Ideal S2048x2048 .f32
  x : FVec Ideal S8x4096x2048 .f32
  y : FVec Ideal S8x256x2048 .f32
  v : FVec Ideal S16x12288 .f32
  g : FVec Ideal S2048 .f32
  f : FVec Ideal S2048 .f32
  r : FVec Ideal S2048x16 .f32

/-- The modulation's row of a token. -/
def mrow (b : Fin 8) (p : Fin 4352) : Fin 16 := if 4096 ≤ p.val then 8 else ⟨b.val, by omega⟩

/-- Latents and context, one after the other. -/
def joined (x : FVec Ideal S8x4096x2048 .f32) (y : FVec Ideal S8x256x2048 .f32) (b : Fin 8) (p : Fin 4352) (j : Fin 2048) : EReal :=
  if h : p.val < 4096 then x (ix3 b ⟨p.val, h⟩ j) else y (ix3 b ⟨p.val - 4096, by omega⟩ j)

/-- A token's row after the output projection. -/
def proj (I : In) (b : Fin 8) (p : Fin 4352) (j : Fin 2048) : EReal := ∑ l : Fin 2048, I.a (ix3 b p l) * I.w (ix2 l j)

/-- A token's new row. -/
def new (I : In) (b : Fin 8) (p : Fin 4352) (k : Fin 2048) : EReal :=
  joined I.x I.y b p k + I.v (ix2 (mrow b p) ⟨4096 + k.val, by omega⟩) * (unit (proj I b p) k * I.g (ix1 k))

/-- A token's normalised and modulated row. -/
def hid (I : In) (b : Fin 8) (p : Fin 4352) (k : Fin 2048) : EReal :=
  norm (new I b p) (I.f (ix1 k)) (I.v (ix2 (mrow b p) ⟨8192 + k.val, by omega⟩)) (I.v (ix2 (mrow b p) ⟨6144 + k.val, by omega⟩)) k

/-- A token's score for an expert. -/
def score (I : In) (b : Fin 8) (p : Fin 4352) (e : Fin 16) : EReal := ∑ k : Fin 2048, hid I b p k * I.r (ix2 k e)

def resX (I : In) : FVec Ideal S8x4352x2048 .f32 := fun i => new I (i 0) (i 1) (i 2)
def resH (I : In) : FVec Ideal S8x4352x2048 .bf16 := fun i => hid I (i 0) (i 1) (i 2)
def resA (s : Fin 8 → Fin 4352 → Fin 16 → ℝ) : FVec Ideal S8x4352x128 .f32 := fun i => lanes (s (i 0) (i 1)) (i 2)
def resT (s : Fin 8 → Fin 4352 → Fin 16 → ℝ) : FVec Ideal S8x16x4352 .f32 := fun i => ((weight (s (i 0) (i 2)) (i 1) : ℝ) : EReal)

theorem resX_apply (I : In) (b : Fin 8) (p : Fin 4352) (k : Fin 2048) : resX I (ix3 b p k) = new I b p k := rfl
theorem resH_apply (I : In) (b : Fin 8) (p : Fin 4352) (k : Fin 2048) : resH I (ix3 b p k) = hid I b p k := rfl
theorem resA_apply (s : Fin 8 → Fin 4352 → Fin 16 → ℝ) (b : Fin 8) (p : Fin 4352) (l : Fin 128) : resA s (ix3 b p l) = lanes (s b p) l := rfl
theorem resT_apply (s : Fin 8 → Fin 4352 → Fin 16 → ℝ) (b : Fin 8) (e : Fin 16) (p : Fin 4352) : resT s (ix3 b e p) = ((weight (s b p) e : ℝ) : EReal) := rfl

/-- With real gains, modulation and router weights the normalised rows are real. -/
theorem isReal_hid (I : In) (hf : ∀ k, IsReal (I.f (ix1 k))) (hc : ∀ b p (k : Fin 2048), IsReal (I.v (ix2 (mrow b p) ⟨8192 + k.val, by omega⟩)))
    (hs : ∀ b p (k : Fin 2048), IsReal (I.v (ix2 (mrow b p) ⟨6144 + k.val, by omega⟩))) (b : Fin 8) (p : Fin 4352) (k : Fin 2048) : IsReal (hid I b p k) :=
  isReal_norm _ (hf k) (hc b p k) (hs b p k) k

end Cert.Wout
end
-- ==== Proof.Wout.lean ====
/- The output projection's call: what a grid point leaves in its blocks. -/
module

public import proofs.«01_k».proof.Proof.Gen.Kernel6Ideal.Value
public import proofs.«01_k».proof.Proof.WoutGoal
public import Idealize.ShloMosaic.Lib.Pipeline.ValueKit
public import Idealize.ShloMosaic.Lib.Pipeline.Covers

@[expose] public section

set_option maxRecDepth 16384

noncomputable section

namespace Cert.Kernel6Ideal.Wout

open Cert.Kernel6Ideal Cert.Kernel6Ideal.Gen Idealize.ShloMosaic Idealize.ShloMosaic.TcCoe Idealize.SL.Sem Cert.Wout Cert.Softmax

/-- The new row of a tile. -/
theorem pay4_apply (v0 : Vec Ideal S1x256x2048 .bf16) (v2 : Vec Ideal S2048x2048 .bf16) (v5 : Vec Ideal S1x256x2048 .f32) (v7 : Vec Ideal S1x1x2048 .f32) (v19 : Vec Ideal S1x2048 .f32) (p : Fin 256) (k : Fin 2048) :
    k0_pay4 v0 v2 v5 v7 v19 (ix2 p k) = v5 (ix3 0 p k) + v7 (ix3 0 0 k) * (unit (fun j => ∑ l : Fin 2048, v0 (ix3 0 p l) * v2 (ix2 l j)) k * v19 (ix2 0 k)) := by
  unfold unit
  unfold_payloads
  pointwise!

/-- The normalised row of a tile. -/
theorem pay7_apply (v0 : Vec Ideal S1x256x2048 .bf16) (v2 : Vec Ideal S2048x2048 .bf16) (v5 : Vec Ideal S1x256x2048 .f32) (v7 : Vec Ideal S1x1x2048 .f32) (v19 : Vec Ideal S1x2048 .f32) (v39 : Vec Ideal S1x2048 .f32) (v43 v49 : Vec Ideal S1x1x2048 .f32) (p : Fin 256) (k : Fin 2048) :
    k0_pay7 (k0_pay4 v0 v2 v5 v7 v19) (k0_pay6 v0 v2 v5 v7 v19) (Scalar.ofBits .f32 0x358637BD#32) v39 v43 v49 (ix2 p k)
      = Cert.Wout.norm (fun j => k0_pay4 v0 v2 v5 v7 v19 (ix2 p j)) (v39 (ix2 0 k)) (v43 (ix3 0 0 k)) (v49 (ix3 0 0 k)) k := by
  unfold Cert.Wout.norm unit k0_pay7 k0_pay6
  generalize k0_pay4 v0 v2 v5 v7 v19 = x
  pointwise!

/-- The scores of a tile in 128 lanes. -/
theorem pay10_apply (v25 : FVec Ideal S256x2048 .f32) (v33 : FVec Ideal S256x1 .f32) (e : Ideal .f32) (v39 : Vec Ideal S1x2048 .f32) (v43 v49 : Vec Ideal S1x1x2048 .f32) (v60 v63 v67 : Vec Ideal S2048x128 .bf16) (p : Fin 256) (l : Fin 128) :
    k0_pay10 v25 v33 e v39 v43 v49 v60 v63 v67 (ix2 p l)
      = (∑ k : Fin 2048, k0_pay7 v25 v33 e v39 v43 v49 (ix2 p k) * v60 (ix2 k l))
        + (∑ k : Fin 2048, (k0_pay7 v25 v33 e v39 v43 v49 (ix2 p k) - k0_pay7 v25 v33 e v39 v43 v49 (ix2 p k)) * v63 (ix2 k l))
        + (∑ k : Fin 2048, k0_pay7 v25 v33 e v39 v43 v49 (ix2 p k) * v67 (ix2 k l)) := by
  unfold k0_pay10 k0_pay8
  generalize k0_pay7 v25 v33 e v39 v43 v49 = x
  pointwise!

/-- Which lanes hold a score. -/
theorem lane (l : Fin 128) : IntOp.cmpi .slt (BitVec.ofNat 32 l.val) 16#32 = BitVec.ofBool (decide (l.val < 16)) := by
  revert l
  decide

theorem pick (l : Fin 128) (u v : EReal) : Scalar.select (IntOp.cmpi .slt (BitVec.ofNat 32 l.val) 16#32) u v = if l.val < 16 then u else v := by
  rw [lane]
  by_cases h : l.val < 16 <;> simp [h, Scalar.select]

theorem low_bits : IsReal (Ideal.ofBits FTy.f32 4048155338#32) := by
  refine ⟨-(13234890 * 2 ^ 76), ?_⟩
  simp [Ideal.ofBits, Ideal.ieee]

/-- The softmax of the lanes that hold a score; the other lanes zero. -/
theorem pay1_apply (v70 : FVec Ideal S256x128 .f32) (p : Fin 256) (s : Fin 16 → ℝ) (hs : ∀ (l : Fin 128) (h : l.val < 16), v70 (ix2 p l) = ((s ⟨l.val, h⟩ : ℝ) : EReal)) (l : Fin 128) :
    k0_pay1 v70 (iota .tc S256x128 32 [1] iota_S256x128_d1_w32) (ix2 p l) = lanes s l := by
  unfold_payloads
  pointwise!
  simp only [pick]
  obtain ⟨M, hM⟩ : IsReal (Finset.fold max (Ideal.ofBits FTy.f32 4286578688#32) (fun x : Fin 128 => if x.val < 16 then v70 (ix2 p x) else Ideal.ofBits FTy.f32 4048155338#32) Finset.univ) := by
    refine isReal_fold _ (by simp [Ideal.ofBits, Ideal.ieee]) _ fun x => ?_
    by_cases h : x.val < 16
    · rw [if_pos h, hs x h]
      exact isReal_coe _
    · rw [if_neg h]
      exact low_bits
  rw [hM]
  have hsum : (∑ x : Fin 128, if x.val < 16 then Ideal.exp ((if x.val < 16 then v70 (ix2 p x) else Ideal.ofBits FTy.f32 4048155338#32) - (M : EReal)) else 0)
      = ∑ e, Ideal.exp ((s e : EReal) - (M : EReal)) := by
    rw [← sum_lanes]
    refine Finset.sum_congr rfl fun x _ => ?_
    by_cases h : x.val < 16
    · rw [if_pos h, if_pos h, dif_pos h, hs x h]
    · rw [if_neg h, dif_neg h]
  unfold lanes
  by_cases h : l.val < 16
  · rw [if_pos h, if_pos h, dif_pos h, hs l h]
    exact (congrArg (Ideal.div _) hsum).trans (share s M ⟨l.val, h⟩)
  · rw [if_neg h, dif_neg h]
    exact (congrArg (Ideal.div 0) hsum).trans (zero_div_sum s M)

/-! ## What a grid point leaves in its four blocks -/

theorem out10 (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    out0_10 x0 x1 x2 x3 x4 x5 x6 x7 x8 x9 = k0_pay5 x0 x1 x2 x4 x3 := by
  frame_open
  frame_out

theorem pay11_eq (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    k0_pay11 x0 x1 x2 x3 x4 x5 x6 x7 x8 x9 = k0_pay4 x0 x1 x2 x4 x3 := by
  unfold k0_pay11
  congr 1
  · exact View.ld_unit_zero (by decide) _ _
  · exact View.ld_unit_zero (by decide) _ _
  · exact View.ld_unit_zero (by decide) _ _
  · exact View.ld_unit_zero (by decide) _ _
  · exact View.ld_unit_zero (by decide) _ _

theorem pay12_eq (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    k0_pay12 x0 x1 x2 x3 x4 x5 x6 x7 x8 x9 = k0_pay6 x0 x1 x2 x4 x3 := by
  unfold k0_pay12
  congr 1
  · exact View.ld_unit_zero (by decide) _ _
  · exact View.ld_unit_zero (by decide) _ _
  · exact View.ld_unit_zero (by decide) _ _
  · exact View.ld_unit_zero (by decide) _ _
  · exact View.ld_unit_zero (by decide) _ _

theorem pay14_eq (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    k0_pay14 x0 x1 x2 x3 x4 x5 x6 x7 x8 x9 = k0_pay10 (k0_pay4 x0 x1 x2 x4 x3) (k0_pay6 x0 x1 x2 x4 x3) (Scalar.ofBits .f32 0x358637BD#32) x5 x7 x6 x8 x8 x9 := by
  unfold k0_pay14
  rw [pay11_eq, pay12_eq]
  congr 1
  · exact View.ld_unit_zero (by decide) _ _
  · exact View.ld_unit_zero (by decide) _ _
  · exact View.ld_unit_zero (by decide) _ _
  · exact View.ld_unit_zero (by decide) _ _
  · exact View.ld_unit_zero (by decide) _ _
  · exact View.ld_unit_zero (by decide) _ _

theorem out11 (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    out0_11 x0 x1 x2 x3 x4 x5 x6 x7 x8 x9 = k0_pay9 (k0_pay4 x0 x1 x2 x4 x3) (k0_pay6 x0 x1 x2 x4 x3) (Scalar.ofBits .f32 0x358637BD#32) x5 x7 x6 := by
  frame_open
  frame_out
  rw [pay11_eq, pay12_eq]

theorem out12 (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    out0_12 x0 x1 x2 x3 x4 x5 x6 x7 x8 x9 = k0_pay2 (k0_pay10 (k0_pay4 x0 x1 x2 x4 x3) (k0_pay6 x0 x1 x2 x4 x3) (Scalar.ofBits .f32 0x358637BD#32) x5 x7 x6 x8 x8 x9) (iota .tc S256x128 32 [1] iota_S256x128_d1_w32) := by
  frame_open
  frame_out
  rw [pay14_eq]
  rfl

theorem out13 (x0 : Vec Ideal S1x256x2048 .bf16) (x1 : Vec Ideal S2048x2048 .bf16) (x2 : Vec Ideal S1x256x2048 .f32) (x3 : Vec Ideal S1x2048 .f32) (x4 : Vec Ideal S1x1x2048 .f32) (x5 : Vec Ideal S1x2048 .f32) (x6 x7 : Vec Ideal S1x1x2048 .f32) (x8 x9 : Vec Ideal S2048x128 .bf16) :
    out0_13 x0 x1 x2 x3 x4 x5 x6 x7 x8 x9 = k0_pay3 (k0_pay10 (k0_pay4 x0 x1 x2 x4 x3) (k0_pay6 x0 x1 x2 x4 x3) (Scalar.ofBits .f32 0x358637BD#32) x5 x7 x6 x8 x8 x9) (iota .tc S256x128 32 [1] iota_S256x128_d1_w32) := by
  frame_open
  frame_out
  rw [pay14_eq]
  rfl

theorem pay5_apply (v0 : Vec Ideal S1x256x2048 .bf16) (v2 : Vec Ideal S2048x2048 .bf16) (v5 : Vec Ideal S1x256x2048 .f32) (v7 : Vec Ideal S1x1x2048 .f32) (v19 : Vec Ideal S1x2048 .f32) (p : Fin 256) (k : Fin 2048) :
    k0_pay5 v0 v2 v5 v7 v19 (ix3 0 p k) = k0_pay4 v0 v2 v5 v7 v19 (ix2 p k) := by
  unfold k0_pay5
  generalize k0_pay4 v0 v2 v5 v7 v19 = x
  pointwise!

theorem pay9_apply (v25 : FVec Ideal S256x2048 .f32) (v33 : FVec Ideal S256x1 .f32) (e : Ideal .f32) (v39 : Vec Ideal S1x2048 .f32) (v43 v49 : Vec Ideal S1x1x2048 .f32) (p : Fin 256) (k : Fin 2048) :
    k0_pay9 v25 v33 e v39 v43 v49 (ix3 0 p k) = k0_pay7 v25 v33 e v39 v43 v49 (ix2 p k) := by
  unfold k0_pay9 k0_pay8
  generalize k0_pay7 v25 v33 e v39 v43 v49 = x
  pointwise!

theorem pay2_apply (v70 : FVec Ideal S256x128 .f32) (v71 : IVec S256x128 32) (p : Fin 256) (l : Fin 128) : k0_pay2 v70 v71 (ix3 0 p l) = k0_pay1 v70 v71 (ix2 p l) := by
  unfold k0_pay2
  generalize k0_pay1 v70 v71 = x
  pointwise!

theorem pay3_apply (v70 : FVec Ideal S256x128 .f32) (v71 : IVec S256x128 32) (e : Fin 16) (p : Fin 256) : k0_pay3 v70 v71 (ix3 0 e p) = k0_pay1 v70 v71 (ix2 p ⟨e.val, by omega⟩) := by
  unfold k0_pay3
  generalize k0_pay1 v70 v71 = x
  pointwise!

/-! ## The arrays the windows read -/

variable (m : (ℓ : Loc nD τ sig) → Buf (Elt Ideal) ℓ)

/-- The call's arguments. -/
def inOf (c : Dev nD) : In where
  a := m ((c : Thread nD τ).loc main_arg0)
  w := m ((c : Thread nD τ).loc main_arg1)
  x := m ((c : Thread nD τ).loc main_arg2)
  y := m ((c : Thread nD τ).loc main_arg3)
  v := m ((c : Thread nD τ).loc main_arg4)
  g := m ((c : Thread nD τ).loc main_arg5)
  f := m ((c : Thread nD τ).loc main_arg6)
  r := m ((c : Thread nD τ).loc main_arg7)

def catRows (x : FVec Ideal S8x4096x2048 .f32) (y : FVec Ideal S8x256x2048 .f32) : FVec Ideal S8x4352x2048 .f32 :=
  concatenate S8x4352x2048 1 [⟨S8x4096x2048, x⟩, ⟨S8x256x2048, y⟩] concatenates_S8x4096x2048_S8x256x2048_S8x4352x2048_d1

/-- The router's weights in 128 lanes: rounded, and what rounding drops. -/
def padR (r : FVec Ideal S2048x16 .f32) : FVec Ideal S2048x128 .f32 :=
  pad S2048x128 ![0, 0] ![0, 112] ![0, 0] r (sitofp .f32 (constantI S_ 32 0#32)) pads_S2048x16_S2048x128_000_01120 h_S_
def highR (r : FVec Ideal S2048x16 .f32) : FVec Ideal S2048x128 .bf16 := truncf .bf16 (padR r) bitsLt_bf16_f32
def lowR (r : FVec Ideal S2048x16 .f32) : FVec Ideal S2048x128 .bf16 := truncf .bf16 (subf (padR r) (extf .f32 (highR r) bitsLt_bf16_f32)) bitsLt_bf16_f32

/-- The output weights, rounded. -/
def roundW (w : FVec Ideal S2048x2048 .f32) : FVec Ideal S2048x2048 .bf16 := truncf .bf16 w bitsLt_bf16_f32

theorem catRows_apply (x : FVec Ideal S8x4096x2048 .f32) (y : FVec Ideal S8x256x2048 .f32) (b : Fin 8) (p : Fin 4352) (j : Fin 2048) :
    catRows x y (ix3 b p j) = joined x y b p j := by
  unfold catRows joined
  pointwise!

theorem padR_apply (r : FVec Ideal S2048x16 .f32) (k : Fin 2048) (l : Fin 128) : padR r (ix2 k l) = if h : l.val < 16 then r (ix2 k ⟨l.val, h⟩) else 0 := by
  unfold padR
  pointwise!
  rw [show FloatOps.sitofp (F := Ideal) FTy.f32 0#32 = (0 : EReal) from by
    show (((0#32).toInt : ℝ) : EReal) = 0
    simp]

theorem flat_apply {α : Type} (v : S16x12288.Idx → α) (b : Fin 16) (k : Fin 12288) :
    shapeCast S16x1x12288 v shapeCasts_S16x12288_S16x1x12288 (ix3 b 0 k) = v (ix2 b k) := by
  pointwise!

theorem line_apply {α : Type} (g : S2048.Idx → α) (k : Fin 2048) : shapeCast S1x2048 g shapeCasts_S2048_S1x2048 (ix2 0 k) = g (ix1 k) := by
  pointwise!

theorem entryA (c : Dev nD) : V m c main_arg0 = m ((c : Thread nD τ).loc main_arg0) := by
  unfold_abbrev_sides
  simp only [hostOps0, hostOps0_1, hostOps0_2, List.flatten_cons, List.flatten_nil, List.append_nil, List.cons_append, List.nil_append]
  after_results

theorem entry0 (c : Dev nD) : V m c main_v0 = catRows (m ((c : Thread nD τ).loc main_arg2)) (m ((c : Thread nD τ).loc main_arg3)) := by
  unfold_abbrev_sides
  simp only [hostOps0, hostOps0_1, hostOps0_2, List.flatten_cons, List.flatten_nil, List.append_nil, List.cons_append, List.nil_append]
  after_results
  rfl

theorem entry1 (c : Dev nD) : V m c main_v1 = shapeCast S16x1x12288 (m ((c : Thread nD τ).loc main_arg4)) shapeCasts_S16x12288_S16x1x12288 := by
  unfold_abbrev_sides
  simp only [hostOps0, hostOps0_1, hostOps0_2, List.flatten_cons, List.flatten_nil, List.append_nil, List.cons_append, List.nil_append]
  after_results
  rfl

theorem entry3 (c : Dev nD) : V m c main_v3 = roundW (m ((c : Thread nD τ).loc main_arg1)) := by
  unfold_abbrev_sides
  simp only [hostOps0, hostOps0_1, hostOps0_2, List.flatten_cons, List.flatten_nil, List.append_nil, List.cons_append, List.nil_append]
  after_results
  rfl

theorem entry4 (c : Dev nD) : V m c main_v4 = highR (m ((c : Thread nD τ).loc main_arg7)) := by
  unfold_abbrev_sides
  simp only [hostOps0, hostOps0_1, hostOps0_2, List.flatten_cons, List.flatten_nil, List.append_nil, List.cons_append, List.nil_append]
  after_results
  rfl

theorem entry7 (c : Dev nD) : V m c main_v7 = lowR (m ((c : Thread nD τ).loc main_arg7)) := by
  unfold_abbrev_sides
  simp only [hostOps0, hostOps0_1, hostOps0_2, List.flatten_cons, List.flatten_nil, List.append_nil, List.cons_append, List.nil_append]
  after_results
  rfl

theorem entry8 (c : Dev nD) : V m c main_v8 = shapeCast S1x2048 (m ((c : Thread nD τ).loc main_arg5)) shapeCasts_S2048_S1x2048 := by
  unfold_abbrev_sides
  simp only [hostOps0, hostOps0_1, hostOps0_2, List.flatten_cons, List.flatten_nil, List.append_nil, List.cons_append, List.nil_append]
  after_results
  rfl

theorem entry9 (c : Dev nD) : V m c main_v9 = shapeCast S1x2048 (m ((c : Thread nD τ).loc main_arg6)) shapeCasts_S2048_S1x2048 := by
  unfold_abbrev_sides
  simp only [hostOps0, hostOps0_1, hostOps0_2, List.flatten_cons, List.flatten_nil, List.append_nil, List.cons_append, List.nil_append]
  after_results
  rfl

theorem idx0 : ∀ t : Fin cfg0.N, (cfg0.win 0).index t = ![t.val / 17, t.val % 17, 0] := by decide +kernel
theorem idx1 : ∀ t : Fin cfg0.N, (cfg0.win 1).index t = ![0, 0] := by decide +kernel
theorem idx2 : ∀ t : Fin cfg0.N, (cfg0.win 2).index t = ![t.val / 17, t.val % 17, 0] := by decide +kernel
theorem idx3 : ∀ t : Fin cfg0.N, (cfg0.win 3).index t = ![0, 0] := by decide +kernel
theorem idx4 : ∀ t : Fin cfg0.N, (cfg0.win 4).index t = ![if t.val % 17 = 16 then 8 else t.val / 17, 0, 2] := by decide +kernel
theorem idx5 : ∀ t : Fin cfg0.N, (cfg0.win 5).index t = ![0, 0] := by decide +kernel
theorem idx6 : ∀ t : Fin cfg0.N, (cfg0.win 6).index t = ![if t.val % 17 = 16 then 8 else t.val / 17, 0, 3] := by decide +kernel
theorem idx7 : ∀ t : Fin cfg0.N, (cfg0.win 7).index t = ![if t.val % 17 = 16 then 8 else t.val / 17, 0, 4] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val / 17, t.val % 17, 0] := by decide +kernel
theorem idx11 : ∀ t : Fin cfg0.N, (cfg0.win 11).index t = ![t.val / 17, t.val % 17, 0] := by decide +kernel
theorem idx12 : ∀ t : Fin cfg0.N, (cfg0.win 12).index t = ![t.val / 17, t.val % 17, 0] := by decide +kernel
theorem idx13 : ∀ t : Fin cfg0.N, (cfg0.win 13).index t = ![t.val / 17, 0, t.val % 17] := by decide +kernel

/-- A point's batch and row. -/
def bOf (n : ℕ) (h : n < cfg0.N) : Fin 8 := ⟨n / 17, by have := lt_of_lt_of_eq h N_0; omega⟩
def row (n : ℕ) (r : Fin 256) : Fin 4352 := ⟨256 * (n % 17) + r.val, by omega⟩

/-- A point's row of the modulation. -/
theorem mrow_eq (t : Fin cfg0.N) (r : Fin 256) : (mrow (bOf t.val t.isLt) (row t.val r)).val = if t.val % 17 = 16 then 8 else t.val / 17 := by
  unfold mrow
  by_cases h : t.val % 17 = 16
  · rw [if_pos (by show 4096 ≤ 256 * (t.val % 17) + r.val; omega), if_pos h]
    rfl
  · rw [if_neg (by show ¬4096 ≤ 256 * (t.val % 17) + r.val; omega), if_neg h]
    rfl

theorem blk0 (c : Dev nD) (t : Fin cfg0.N) (r : Fin 256) (j : Fin 2048) : iblk m c 0 t (ix3 0 r j) = (inOf m c).a (ix3 (bOf t.val t.isLt) (row t.val r) j) := by
  refine Eq.trans ?_ (congrFun (entryA m c) _)
  blk_ext [iblk, idx0 t, bOf, row]

theorem blk1 (c : Dev nD) (t : Fin cfg0.N) (k j : Fin 2048) : iblk m c 1 t (ix2 k j) = (inOf m c).w (ix2 k j) := by
  refine Eq.trans ?_ (congrFun (entry3 m c) (ix2 k j))
  blk_ext [iblk, idx1 t]

theorem blk2 (c : Dev nD) (t : Fin cfg0.N) (r : Fin 256) (j : Fin 2048) : iblk m c 2 t (ix3 0 r j) = joined (inOf m c).x (inOf m c).y (bOf t.val t.isLt) (row t.val r) j := by
  refine Eq.trans ?_ ((congrFun (entry0 m c) _).trans (catRows_apply _ _ (bOf t.val t.isLt) (row t.val r) j))
  blk_ext [iblk, idx2 t, bOf, row]

theorem blk3 (c : Dev nD) (t : Fin cfg0.N) (k : Fin 2048) : iblk m c 3 t (ix2 0 k) = (inOf m c).g (ix1 k) := by
  refine Eq.trans ?_ ((congrFun (entry8 m c) _).trans (line_apply _ k))
  blk_ext [iblk, idx3 t]

theorem blk4 (c : Dev nD) (t : Fin cfg0.N) (r : Fin 256) (k : Fin 2048) : iblk m c 4 t (ix3 0 0 k) = (inOf m c).v (ix2 (mrow (bOf t.val t.isLt) (row t.val r)) ⟨4096 + k.val, by omega⟩) := by
  refine Eq.trans ?_ ((congrFun (entry1 m c) _).trans (flat_apply _ (mrow (bOf t.val t.isLt) (row t.val r)) ⟨4096 + k.val, by omega⟩))
  blk_ext [iblk, idx4 t, mrow_eq t r]

theorem blk5 (c : Dev nD) (t : Fin cfg0.N) (k : Fin 2048) : iblk m c 5 t (ix2 0 k) = (inOf m c).f (ix1 k) := by
  refine Eq.trans ?_ ((congrFun (entry9 m c) _).trans (line_apply _ k))
  blk_ext [iblk, idx5 t]

theorem blk6 (c : Dev nD) (t : Fin cfg0.N) (r : Fin 256) (k : Fin 2048) : iblk m c 6 t (ix3 0 0 k) = (inOf m c).v (ix2 (mrow (bOf t.val t.isLt) (row t.val r)) ⟨6144 + k.val, by omega⟩) := by
  refine Eq.trans ?_ ((congrFun (entry1 m c) _).trans (flat_apply _ (mrow (bOf t.val t.isLt) (row t.val r)) ⟨6144 + k.val, by omega⟩))
  blk_ext [iblk, idx6 t, mrow_eq t r]

theorem blk7 (c : Dev nD) (t : Fin cfg0.N) (r : Fin 256) (k : Fin 2048) : iblk m c 7 t (ix3 0 0 k) = (inOf m c).v (ix2 (mrow (bOf t.val t.isLt) (row t.val r)) ⟨8192 + k.val, by omega⟩) := by
  refine Eq.trans ?_ ((congrFun (entry1 m c) _).trans (flat_apply _ (mrow (bOf t.val t.isLt) (row t.val r)) ⟨8192 + k.val, by omega⟩))
  blk_ext [iblk, idx7 t, mrow_eq t r]

theorem blk8 (c : Dev nD) (t : Fin cfg0.N) (k : Fin 2048) (l : Fin 128) : iblk m c 8 t (ix2 k l) = padR (inOf m c).r (ix2 k l) := by
  refine Eq.trans ?_ (congrFun (entry4 m c) (ix2 k l))
  blk_ext [iblk, idx8 t]

theorem blk9 (c : Dev nD) (t : Fin cfg0.N) (k : Fin 2048) (l : Fin 128) : iblk m c 9 t (ix2 k l) = padR (inOf m c).r (ix2 k l) - padR (inOf m c).r (ix2 k l) := by
  refine Eq.trans ?_ (congrFun (entry7 m c) (ix2 k l))
  blk_ext [iblk, idx9 t]

/-! ## The rows of a grid point's tile -/

/-- The tile of new rows. -/
def tileX (c : Dev nD) (t : Fin cfg0.N) : FVec Ideal S256x2048 .f32 :=
  k0_pay4 (iblk m c 0 t) (iblk m c 1 t) (iblk m c 2 t) (iblk m c 4 t) (iblk m c 3 t)

/-- The tile of normalised rows. -/
def tileH (c : Dev nD) (t : Fin cfg0.N) : FVec Ideal S256x2048 .f32 :=
  k0_pay7 (k0_pay4 (iblk m c 0 t) (iblk m c 1 t) (iblk m c 2 t) (iblk m c 4 t) (iblk m c 3 t)) (k0_pay6 (iblk m c 0 t) (iblk m c 1 t) (iblk m c 2 t) (iblk m c 4 t) (iblk m c 3 t)) (Scalar.ofBits .f32 0x358637BD#32) (iblk m c 5 t) (iblk m c 7 t) (iblk m c 6 t)

/-- The tile of scores. -/
def tileS (c : Dev nD) (t : Fin cfg0.N) : FVec Ideal S256x128 .f32 :=
  k0_pay10 (k0_pay4 (iblk m c 0 t) (iblk m c 1 t) (iblk m c 2 t) (iblk m c 4 t) (iblk m c 3 t)) (k0_pay6 (iblk m c 0 t) (iblk m c 1 t) (iblk m c 2 t) (iblk m c 4 t) (iblk m c 3 t)) (Scalar.ofBits .f32 0x358637BD#32) (iblk m c 5 t) (iblk m c 7 t) (iblk m c 6 t) (iblk m c 8 t) (iblk m c 8 t) (iblk m c 9 t)

theorem tileX_apply (c : Dev nD) (t : Fin cfg0.N) (p : Fin 256) (k : Fin 2048) : tileX m c t (ix2 p k) = new (inOf m c) (bOf t.val t.isLt) (row t.val p) k := by
  unfold tileX
  rw [pay4_apply, blk2, blk3, blk4 m c t p k]
  simp only [blk0, blk1]
  rfl

theorem tileH_apply (c : Dev nD) (t : Fin cfg0.N) (p : Fin 256) (k : Fin 2048) : tileH m c t (ix2 p k) = hid (inOf m c) (bOf t.val t.isLt) (row t.val p) k := by
  unfold tileH hid
  rw [pay7_apply, blk5, blk6 m c t p k, blk7 m c t p k, show (fun j => k0_pay4 (iblk m c 0 t) (iblk m c 1 t) (iblk m c 2 t) (iblk m c 4 t) (iblk m c 3 t) (ix2 p j)) = new (inOf m c) (bOf t.val t.isLt) (row t.val p) from funext fun j => tileX_apply m c t p j]

/-- With real rows and weights the lanes below sixteen hold the scores. -/
theorem tileS_apply (c : Dev nD) (hh : ∀ b p k, IsReal (hid (inOf m c) b p k)) (hr : ∀ k e, IsReal ((inOf m c).r (ix2 k e))) (t : Fin cfg0.N) (p : Fin 256) (l : Fin 128) (h : l.val < 16) :
    tileS m c t (ix2 p l) = Cert.Wout.score (inOf m c) (bOf t.val t.isLt) (row t.val p) ⟨l.val, h⟩ := by
  unfold tileS
  rw [pay10_apply]
  have e : ∀ k, k0_pay7 (k0_pay4 (iblk m c 0 t) (iblk m c 1 t) (iblk m c 2 t) (iblk m c 4 t) (iblk m c 3 t)) (k0_pay6 (iblk m c 0 t) (iblk m c 1 t) (iblk m c 2 t) (iblk m c 4 t) (iblk m c 3 t)) (Scalar.ofBits .f32 0x358637BD#32) (iblk m c 5 t) (iblk m c 7 t) (iblk m c 6 t) (ix2 p k) = hid (inOf m c) (bOf t.val t.isLt) (row t.val p) k := tileH_apply m c t p
  have w : ∀ k, padR (inOf m c).r (ix2 k l) = (inOf m c).r (ix2 k ⟨l.val, h⟩) := fun k => (padR_apply _ k l).trans (dif_pos h)
  simp only [e, blk8, blk9, w]
  exact three_sums _ _ _ (fun k => hh _ _ k) (fun k => sub_self_real (hr k _))

theorem covers10 : (cfg0.win 10).Covers :=
  (cfg0.win 10).covers_of_indexMap_surj rfl (by decide) fun β => by
    have h0 : (β 0).val < 8 := (β 0).isLt
    have h1 : (β 1).val < 17 := (β 1).isLt
    have h2 : (β 2).val < 1 := (β 2).isLt
    refine ⟨fun | 0 => β 0 | 1 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (0#32).toNat = (β 2).val
      simp only [BitVec.toNat_ofNat]; omega

theorem covers11 : (cfg0.win 11).Covers :=
  (cfg0.win 11).covers_of_indexMap_surj rfl (by decide) fun β => by
    have h0 : (β 0).val < 8 := (β 0).isLt
    have h1 : (β 1).val < 17 := (β 1).isLt
    have h2 : (β 2).val < 1 := (β 2).isLt
    refine ⟨fun | 0 => β 0 | 1 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (0#32).toNat = (β 2).val
      simp only [BitVec.toNat_ofNat]; omega

theorem covers12 : (cfg0.win 12).Covers :=
  (cfg0.win 12).covers_of_indexMap_surj rfl (by decide) fun β => by
    have h0 : (β 0).val < 8 := (β 0).isLt
    have h1 : (β 1).val < 17 := (β 1).isLt
    have h2 : (β 2).val < 1 := (β 2).isLt
    refine ⟨fun | 0 => β 0 | 1 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show (0#32).toNat = (β 2).val
      simp only [BitVec.toNat_ofNat]; omega

theorem covers13 : (cfg0.win 13).Covers :=
  (cfg0.win 13).covers_of_indexMap_surj rfl (by decide) fun β => by
    have h0 : (β 0).val < 8 := (β 0).isLt
    have h1 : (β 1).val < 1 := (β 1).isLt
    have h2 : (β 2).val < 17 := (β 2).isLt
    refine ⟨fun | 0 => β 0 | 1 => β 2, fun a => ?_⟩
    fin_cases a
    · show (BitVec.ofNat 32 (β 0).val).toNat = (β 0).val
      simp only [BitVec.toNat_ofNat]; omega
    · show (0#32).toNat = (β 1).val
      simp only [BitVec.toNat_ofNat]; omega
    · show (BitVec.ofNat 32 (β 2).val).toNat = (β 2).val
      simp only [BitVec.toNat_ofNat]; omega

/-- Where a point's output blocks lie in their arrays. -/
theorem place10 (t : Fin cfg0.N) (r : Fin 256) (j : Fin 2048) :
    (((cfg0.win 10).blk t).view.emb (ix3 0 r j) : S8x4352x2048.Idx) = ix3 (bOf t.val t.isLt) (row t.val r) j := by
  blk_ext [idx10 t, bOf, row]
theorem place11 (t : Fin cfg0.N) (r : Fin 256) (j : Fin 2048) :
    (((cfg0.win 11).blk t).view.emb (ix3 0 r j) : S8x4352x2048.Idx) = ix3 (bOf t.val t.isLt) (row t.val r) j := by
  blk_ext [idx11 t, bOf, row]
theorem place12 (t : Fin cfg0.N) (r : Fin 256) (j : Fin 128) :
    (((cfg0.win 12).blk t).view.emb (ix3 0 r j) : S8x4352x128.Idx) = ix3 (bOf t.val t.isLt) (row t.val r) j := by
  blk_ext [idx12 t, bOf, row]
theorem place13 (t : Fin cfg0.N) (e : Fin 16) (r : Fin 256) :
    (((cfg0.win 13).blk t).view.emb (ix3 0 e r) : S8x16x4352.Idx) = ix3 (bOf t.val t.isLt) e (row t.val r) := by
  blk_ext [idx13 t, bOf, row]

theorem first {n1 n2 : ℕ} (y : (⟨3, ![1, n1, n2]⟩ : Shape).Idx) : ∃ (r : Fin n1) (j : Fin n2), y = ix3 0 r j := ⟨y 1, y 2, by
  funext a
  fin_cases a
  · exact Fin.ext (by have : (y 0).val < 1 := (y 0).isLt; show (y 0).val = 0; omega)
  · rfl
  · rfl⟩

/-! ## The four arrays -/

theorem array10 (c : Dev nD) : (dats m 0 c).arrAt 10 cfg0.N = resX (inOf m c) := by
  refine (dats m 0 c).arrAt_eq_of_covers 10 _ covers10 fun t hf y => ?_
  obtain ⟨r, j, rfl⟩ := first y
  rw [place10, resX_apply]
  change (dats m 0 c).flushed 10 t (ix3 0 r j) = _
  rw [Cert.Kernel6Ideal.Value.flushed10, out10]
  exact (pay5_apply _ _ _ _ _ r j).trans (tileX_apply m c t r j)

theorem array11 (c : Dev nD) : (dats m 0 c).arrAt 11 cfg0.N = resH (inOf m c) := by
  refine (dats m 0 c).arrAt_eq_of_covers 11 _ covers11 fun t hf y => ?_
  obtain ⟨r, j, rfl⟩ := first y
  rw [place11, resH_apply]
  change (dats m 0 c).flushed 11 t (ix3 0 r j) = _
  rw [Cert.Kernel6Ideal.Value.flushed11, out11]
  exact (pay9_apply _ _ _ _ _ _ r j).trans (tileH_apply m c t r j)

variable (c : Dev nD) (hh : ∀ b p k, IsReal (hid (inOf m c) b p k)) (hr : ∀ k e, IsReal ((inOf m c).r (ix2 k e)))
  (s : Fin 8 → Fin 4352 → Fin 16 → ℝ) (hs : ∀ b p e, Cert.Wout.score (inOf m c) b p e = ((s b p e : ℝ) : EReal))
include hh hr hs

theorem soft (t : Fin cfg0.N) (r : Fin 256) (l : Fin 128) :
    k0_pay1 (tileS m c t) (iota .tc S256x128 32 [1] iota_S256x128_d1_w32) (ix2 r l) = lanes (s (bOf t.val t.isLt) (row t.val r)) l :=
  pay1_apply _ r _ (fun l h => (tileS_apply m c hh hr t r l h).trans (hs _ _ _)) l

theorem array12 : (dats m 0 c).arrAt 12 cfg0.N = resA s := by
  refine (dats m 0 c).arrAt_eq_of_covers 12 _ covers12 fun t hf y => ?_
  obtain ⟨r, j, rfl⟩ := first y
  rw [place12, resA_apply]
  change (dats m 0 c).flushed 12 t (ix3 0 r j) = _
  rw [Cert.Kernel6Ideal.Value.flushed12, out12]
  exact (pay2_apply _ _ r j).trans (soft m c hh hr s hs t r j)

theorem array13 : (dats m 0 c).arrAt 13 cfg0.N = resT s := by
  refine (dats m 0 c).arrAt_eq_of_covers 13 _ covers13 fun t hf y => ?_
  obtain ⟨e, r, rfl⟩ := first y
  rw [place13, resT_apply]
  change (dats m 0 c).flushed 13 t (ix3 0 e r) = _
  rw [Cert.Kernel6Ideal.Value.flushed13, out13]
  exact (pay3_apply _ _ e r).trans ((soft m c hh hr s hs t r ⟨e.val, by omega⟩).trans (dif_pos e.isLt))

end Cert.Kernel6Ideal.Wout
end
-- ==== Proof.WoutRef.lean ====
/- The output projection's reference: its four results are the same functions of its arguments. -/
module

public import proofs.«01_k».proof.Proof.WoutGoal
public import proofs.«01_k».proof.Proof.Gen.Reference6Ideal.Run
public import proofs.«01_k».proof.Proof.RefValues

@[expose] public section

set_option maxRecDepth 16384

noncomputable section

namespace Cert.Reference6Ideal.Wout

open Cert.Reference6Ideal Cert.Reference6Ideal.Gen Idealize.ShloMosaic Idealize.ShloMosaic.TcCoe Idealize.SL.Sem Cert.Softmax
open Cert.Wout (In unit norm mrow proj new hid score resX resH resA resT lanes share)

/-- Rows over their root mean squares. -/
def unitL (x : FVec Ideal S8x4096x2048 .f32) : FVec Ideal S8x4096x2048 .f32 :=
  mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))

def unitC (x : FVec Ideal S8x256x2048 .f32) : FVec Ideal S8x256x2048 .f32 :=
  mulf x (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf x x) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))

/-- A vector along the columns. -/
def gainL (g : FVec Ideal S2048 .f32) : FVec Ideal S8x4096x2048 .f32 :=
  broadcastInDim S8x4096x2048 ![0, 1, 2] bcast_S1x1x2048_S8x4096x2048_0_1_2 (broadcastInDim S1x1x2048 ![2] bcast_S2048_S1x1x2048_2 g)
def gainC (g : FVec Ideal S2048 .f32) : FVec Ideal S8x256x2048 .f32 :=
  broadcastInDim S8x256x2048 ![0, 1, 2] bcast_S1x1x2048_S8x256x2048_0_1_2 (broadcastInDim S1x1x2048 ![2] bcast_S2048_S1x1x2048_2 g)

/-- The modulation's parts: for the samples and for the context. -/
def gateL (v : FVec Ideal S16x12288 .f32) : FVec Ideal S8x1x2048 .f32 :=
  broadcastInDim S8x1x2048 ![0, 2] bcast_S8x2048_S8x1x2048_0_2 (extractStridedSlice S8x2048 ![0, 4096] v slices_S16x12288_S8x2048_0_4096)
def shiftL (v : FVec Ideal S16x12288 .f32) : FVec Ideal S8x1x2048 .f32 :=
  broadcastInDim S8x1x2048 ![0, 2] bcast_S8x2048_S8x1x2048_0_2 (extractStridedSlice S8x2048 ![0, 6144] v slices_S16x12288_S8x2048_0_6144)
def scaleL (v : FVec Ideal S16x12288 .f32) : FVec Ideal S8x1x2048 .f32 :=
  broadcastInDim S8x1x2048 ![0, 2] bcast_S8x2048_S8x1x2048_0_2 (extractStridedSlice S8x2048 ![0, 8192] v slices_S16x12288_S8x2048_0_8192)
def gateC (v : FVec Ideal S16x12288 .f32) : FVec Ideal S2048 .f32 :=
  shapeCast S2048 (extractStridedSlice S1x2048 ![8, 4096] v slices_S16x12288_S1x2048_8_4096) shapeCasts_S1x2048_S2048
def shiftC (v : FVec Ideal S16x12288 .f32) : FVec Ideal S2048 .f32 :=
  shapeCast S2048 (extractStridedSlice S1x2048 ![8, 6144] v slices_S16x12288_S1x2048_8_6144) shapeCasts_S1x2048_S2048
def scaleC (v : FVec Ideal S16x12288 .f32) : FVec Ideal S2048 .f32 :=
  shapeCast S2048 (extractStridedSlice S1x2048 ![8, 8192] v slices_S16x12288_S1x2048_8_8192) shapeCasts_S1x2048_S2048

/-- A row per sample along its tokens. -/
def alongL (u : FVec Ideal S8x1x2048 .f32) : FVec Ideal S8x4096x2048 .f32 :=
  broadcastInDim S8x4096x2048 ![0, 1, 2] bcast_S8x1x2048_S8x4096x2048_0_1_2 u

/-- The projected rows. -/
def yv (a : FVec Ideal S8x4352x2048 .bf16) (w : FVec Ideal S2048x2048 .f32) : FVec Ideal S8x4352x2048 .f32 :=
  Host.dotGeneral dot_S8x4352x2048_S2048x2048_S8x4352x2048_2_0_01_1_n_n none (extf .f32 a bitsLt_bf16_f32) w

/-- The new rows of the samples and of the context. -/
def newL (I : In) : FVec Ideal S8x4096x2048 .f32 :=
  addf I.x (mulf (alongL (gateL I.v)) (mulf (unitL (extractStridedSlice S8x4096x2048 ![0, 0, 0] (yv I.a I.w) slices_S8x4352x2048_S8x4096x2048_0_0_0)) (gainL I.g)))
def newC (I : In) : FVec Ideal S8x256x2048 .f32 :=
  addf I.y (mulf (gainC (gateC I.v)) (mulf (unitC (extractStridedSlice S8x256x2048 ![0, 4096, 0] (yv I.a I.w) slices_S8x4352x2048_S8x256x2048_0_4096_0)) (gainC I.g)))

/-- Their normalised rows. -/
def hidL (I : In) : FVec Ideal S8x4096x2048 .f32 :=
  addf (mulf (mulf (unitL (newL I)) (gainL I.f)) (alongL (addf (broadcastInDim S8x1x2048 ![] bcast_S_S8x1x2048 (constant S_ .f32 0x3F800000#32)) (scaleL I.v)))) (alongL (shiftL I.v))
def hidC (I : In) : FVec Ideal S8x256x2048 .f32 :=
  addf (mulf (mulf (unitC (newC I)) (gainC I.f)) (gainC (addf (broadcastInDim S2048 ![] bcast_S_S2048 (constant S_ .f32 0x3F800000#32)) (scaleC I.v)))) (gainC (shiftC I.v))

/-- Samples' rows and context rows, one after the other. -/
def cat (x : FVec Ideal S8x4096x2048 .f32) (y : FVec Ideal S8x256x2048 .f32) : FVec Ideal S8x4352x2048 .f32 :=
  concatenate S8x4352x2048 1 [⟨S8x4096x2048, x⟩, ⟨S8x256x2048, y⟩] concatenates_S8x4096x2048_S8x256x2048_S8x4352x2048_d1

/-- The scores, what is subtracted from them, and the softmax. -/
def scores (I : In) : FVec Ideal S8x4352x16 .f32 :=
  Host.dotGeneral dot_S8x4352x2048_S2048x16_S8x4352x16_2_0_01_1_n_n none (cat (hidL I) (hidC I)) I.r
def top (s : FVec Ideal S8x4352x16 .f32) : FVec Ideal S8x4352 .f32 :=
  maximumf (broadcastInDim S8x4352 ![] bcast_S_S8x4352 (constant S_ .f32 0xFF800000#32)) (Host.reduce FloatOps.maximumf s (constant S_ .f32 0xFF800000#32) reducesTo_S8x4352x16_S8x4352_d2 h_S_)
def expo (s : FVec Ideal S8x4352x16 .f32) (u : FVec Ideal S8x4352 .f32) : FVec Ideal S8x4352x16 .f32 :=
  Host.exp (subf s (broadcastInDim S8x4352x16 ![0, 1, 2] bcast_S8x4352x1_S8x4352x16_0_1_2 (broadcastInDim S8x4352x1 ![0, 1] bcast_S8x4352_S8x4352x1_0_1 u)))
def prob (e : FVec Ideal S8x4352x16 .f32) : FVec Ideal S8x4352x16 .f32 :=
  Host.divf e (broadcastInDim S8x4352x16 ![0, 1, 2] bcast_S8x4352x1_S8x4352x16_0_1_2 (broadcastInDim S8x4352x1 ![0, 1] bcast_S8x4352_S8x4352x1_0_1 (Host.reduceAdd e (constant S_ .f32 0x00000000#32) reducesTo_S8x4352x16_S8x4352_d2 h_S_)))
def aff (s : FVec Ideal S8x4352x16 .f32) : FVec Ideal S8x4352x16 .f32 := prob (expo s (top s))

/-- The softmax in 128 lanes, and turned. -/
def wide (s : FVec Ideal S8x4352x16 .f32) : FVec Ideal S8x4352x128 .f32 :=
  pad S8x4352x128 ![0, 0, 0] ![0, 0, 112] ![0, 0, 0] s (sitofp .f32 (constantI S_ 32 0#32)) pads_S8x4352x16_S8x4352x128_000_000_01120 h_S_
def turned (s : FVec Ideal S8x4352x16 .f32) : FVec Ideal S8x16x4352 .f32 := transpose S8x16x4352 [0, 2, 1] s transposes_S8x4352x16_S8x16x4352_0_2_1

theorem unitL_apply (x : FVec Ideal S8x4096x2048 .f32) (b : Fin 8) (p : Fin 4096) (k : Fin 2048) : unitL x (ix3 b p k) = unit (fun j => x (ix3 b p j)) k := by
  unfold unitL unit
  pointwise!
theorem unitC_apply (x : FVec Ideal S8x256x2048 .f32) (b : Fin 8) (p : Fin 256) (k : Fin 2048) : unitC x (ix3 b p k) = unit (fun j => x (ix3 b p j)) k := by
  unfold unitC unit
  pointwise!
theorem gainL_apply (g : FVec Ideal S2048 .f32) (b : Fin 8) (p : Fin 4096) (k : Fin 2048) : gainL g (ix3 b p k) = g (ix1 k) := by
  unfold gainL
  pointwise!
theorem gainC_apply (g : FVec Ideal S2048 .f32) (b : Fin 8) (p : Fin 256) (k : Fin 2048) : gainC g (ix3 b p k) = g (ix1 k) := by
  unfold gainC
  pointwise!
theorem alongL_apply (u : FVec Ideal S8x1x2048 .f32) (b : Fin 8) (p : Fin 4096) (k : Fin 2048) : alongL u (ix3 b p k) = u (ix3 b 0 k) := by
  unfold alongL
  pointwise!
theorem gateL_apply (v : FVec Ideal S16x12288 .f32) (b : Fin 8) (k : Fin 2048) : gateL v (ix3 b 0 k) = v (ix2 ⟨b.val, by omega⟩ ⟨4096 + k.val, by omega⟩) := by
  unfold gateL
  pointwise!
theorem shiftL_apply (v : FVec Ideal S16x12288 .f32) (b : Fin 8) (k : Fin 2048) : shiftL v (ix3 b 0 k) = v (ix2 ⟨b.val, by omega⟩ ⟨6144 + k.val, by omega⟩) := by
  unfold shiftL
  pointwise!
theorem scaleL_apply (v : FVec Ideal S16x12288 .f32) (b : Fin 8) (k : Fin 2048) : scaleL v (ix3 b 0 k) = v (ix2 ⟨b.val, by omega⟩ ⟨8192 + k.val, by omega⟩) := by
  unfold scaleL
  pointwise!
theorem gateC_apply (v : FVec Ideal S16x12288 .f32) (k : Fin 2048) : gateC v (ix1 k) = v (ix2 8 ⟨4096 + k.val, by omega⟩) := by
  unfold gateC
  pointwise!
theorem shiftC_apply (v : FVec Ideal S16x12288 .f32) (k : Fin 2048) : shiftC v (ix1 k) = v (ix2 8 ⟨6144 + k.val, by omega⟩) := by
  unfold shiftC
  pointwise!
theorem scaleC_apply (v : FVec Ideal S16x12288 .f32) (k : Fin 2048) : scaleC v (ix1 k) = v (ix2 8 ⟨8192 + k.val, by omega⟩) := by
  unfold scaleC
  pointwise!
theorem yv_apply (a : FVec Ideal S8x4352x2048 .bf16) (w : FVec Ideal S2048x2048 .f32) (b : Fin 8) (p : Fin 4352) (k : Fin 2048) :
    yv a w (ix3 b p k) = ∑ l : Fin 2048, a (ix3 b p l) * w (ix2 l k) := by
  unfold yv
  pointwise!
theorem cutL_apply (y : FVec Ideal S8x4352x2048 .f32) (b : Fin 8) (p : Fin 4096) (k : Fin 2048) :
    extractStridedSlice S8x4096x2048 ![0, 0, 0] y slices_S8x4352x2048_S8x4096x2048_0_0_0 (ix3 b p k) = y (ix3 b ⟨p.val, by omega⟩ k) := by
  pointwise!
theorem cutC_apply (y : FVec Ideal S8x4352x2048 .f32) (b : Fin 8) (p : Fin 256) (k : Fin 2048) :
    extractStridedSlice S8x256x2048 ![0, 4096, 0] y slices_S8x4352x2048_S8x256x2048_0_4096_0 (ix3 b p k) = y (ix3 b ⟨4096 + p.val, by omega⟩ k) := by
  pointwise!

theorem newL_apply (I : In) (b : Fin 8) (p : Fin 4096) (k : Fin 2048) : newL I (ix3 b p k) = new I b ⟨p.val, by omega⟩ k := by
  have hm : mrow b ⟨p.val, by omega⟩ = ⟨b.val, by omega⟩ := if_neg (by show ¬4096 ≤ p.val; omega)
  have hj : Cert.Wout.joined I.x I.y b ⟨p.val, by omega⟩ k = I.x (ix3 b p k) := dif_pos p.isLt
  have hy : (fun j => extractStridedSlice S8x4096x2048 ![0, 0, 0] (yv I.a I.w) slices_S8x4352x2048_S8x4096x2048_0_0_0 (ix3 b p j)) = proj I b ⟨p.val, by omega⟩ :=
    funext fun j => (cutL_apply _ b p j).trans (yv_apply _ _ b _ j)
  unfold new
  rw [hm, hj, ← hy, ← unitL_apply, ← gainL_apply I.g b p k, ← gateL_apply I.v, ← alongL_apply (gateL I.v) b p k]
  rfl
theorem newC_apply (I : In) (b : Fin 8) (p : Fin 256) (k : Fin 2048) : newC I (ix3 b p k) = new I b ⟨4096 + p.val, by omega⟩ k := by
  have hm : mrow b ⟨4096 + p.val, by omega⟩ = 8 := if_pos (by show 4096 ≤ 4096 + p.val; omega)
  have hj : Cert.Wout.joined I.x I.y b ⟨4096 + p.val, by omega⟩ k = I.y (ix3 b p k) := (dif_neg (by show ¬4096 + p.val < 4096; omega)).trans
    (congrArg (fun i => I.y (ix3 b i k)) (Fin.ext (by show 4096 + p.val - 4096 = p.val; omega)))
  have hy : (fun j => extractStridedSlice S8x256x2048 ![0, 4096, 0] (yv I.a I.w) slices_S8x4352x2048_S8x256x2048_0_4096_0 (ix3 b p j)) = proj I b ⟨4096 + p.val, by omega⟩ :=
    funext fun j => (cutC_apply _ b p j).trans (yv_apply _ _ b _ j)
  unfold new
  rw [hm, hj, ← hy, ← unitC_apply, ← gainC_apply I.g b p k, ← gateC_apply I.v, ← gainC_apply (gateC I.v) b p k]
  rfl

theorem one_bits : Ideal.ofBits .f32 0x3F800000#32 = 1 := by
  simp [Ideal.ofBits, Ideal.ieee]
  rw [← EReal.coe_mul]
  norm_num

theorem onePlusL (u : FVec Ideal S8x1x2048 .f32) (i : S8x1x2048.Idx) :
    addf (broadcastInDim S8x1x2048 ![] bcast_S_S8x1x2048 (constant S_ .f32 0x3F800000#32)) u i = 1 + u i := congrArg (fun o : EReal => o + u i) one_bits
theorem onePlusC (u : FVec Ideal S2048 .f32) (i : S2048.Idx) :
    addf (broadcastInDim S2048 ![] bcast_S_S2048 (constant S_ .f32 0x3F800000#32)) u i = 1 + u i := congrArg (fun o : EReal => o + u i) one_bits

theorem hidL_apply (I : In) (b : Fin 8) (p : Fin 4096) (k : Fin 2048) : hidL I (ix3 b p k) = hid I b ⟨p.val, by omega⟩ k := by
  have hm : mrow b ⟨p.val, by omega⟩ = ⟨b.val, by omega⟩ := if_neg (by show ¬4096 ≤ p.val; omega)
  have hn : (fun j => newL I (ix3 b p j)) = new I b ⟨p.val, by omega⟩ := funext fun j => newL_apply I b p j
  unfold hid Cert.Wout.norm
  rw [hm, ← hn, ← unitL_apply, ← gainL_apply I.f b p k, ← scaleL_apply I.v, ← shiftL_apply I.v, ← onePlusL, ← alongL_apply (addf (broadcastInDim S8x1x2048 ![] bcast_S_S8x1x2048 (constant S_ .f32 0x3F800000#32)) (scaleL I.v)) b p k, ← alongL_apply (shiftL I.v) b p k]
  rfl
theorem hidC_apply (I : In) (b : Fin 8) (p : Fin 256) (k : Fin 2048) : hidC I (ix3 b p k) = hid I b ⟨4096 + p.val, by omega⟩ k := by
  have hm : mrow b ⟨4096 + p.val, by omega⟩ = 8 := if_pos (by show 4096 ≤ 4096 + p.val; omega)
  have hn : (fun j => newC I (ix3 b p j)) = new I b ⟨4096 + p.val, by omega⟩ := funext fun j => newC_apply I b p j
  unfold hid Cert.Wout.norm
  rw [hm, ← hn, ← unitC_apply, ← gainC_apply I.f b p k, ← scaleC_apply I.v, ← shiftC_apply I.v, ← onePlusC, ← gainC_apply (addf (broadcastInDim S2048 ![] bcast_S_S2048 (constant S_ .f32 0x3F800000#32)) (scaleC I.v)) b p k, ← gainC_apply (shiftC I.v) b p k]
  rfl

theorem cat_apply (x : FVec Ideal S8x4096x2048 .f32) (y : FVec Ideal S8x256x2048 .f32) (z : Fin 8 → Fin 4352 → Fin 2048 → EReal)
    (hx : ∀ b (p : Fin 4096) k, x (ix3 b p k) = z b ⟨p.val, by omega⟩ k) (hy : ∀ b (p : Fin 256) k, y (ix3 b p k) = z b ⟨4096 + p.val, by omega⟩ k)
    (b : Fin 8) (p : Fin 4352) (k : Fin 2048) : cat x y (ix3 b p k) = z b p k := by
  unfold cat
  pointwise!
  by_cases h : p.val < 4096
  · rw [dif_pos h]
    exact hx b ⟨p.val, h⟩ k
  · rw [dif_neg h]
    exact (hy b ⟨p.val - 4096, by omega⟩ k).trans (congrArg (fun i => z b i k) (Fin.ext (by show 4096 + (p.val - 4096) = p.val; omega)))

theorem idx3 {n0 n1 n2 : ℕ} (y : (⟨3, ![n0, n1, n2]⟩ : Shape).Idx) : ∃ (a : Fin n0) (b : Fin n1) (c : Fin n2), y = ix3 a b c :=
  ⟨y 0, y 1, y 2, by funext a; fin_cases a <;> rfl⟩

theorem rows (I : In) : cat (newL I) (newC I) = resX I := by
  funext i
  obtain ⟨b, p, k, rfl⟩ := idx3 i
  exact cat_apply _ _ (new I) (newL_apply I) (newC_apply I) b p k

theorem normed (I : In) : truncf .bf16 (cat (hidL I) (hidC I)) bitsLt_bf16_f32 = resH I := by
  funext i
  obtain ⟨b, p, k, rfl⟩ := idx3 i
  exact cat_apply _ _ (hid I) (hidL_apply I) (hidC_apply I) b p k

theorem scores_apply (I : In) (b : Fin 8) (p : Fin 4352) (e : Fin 16) : scores I (ix3 b p e) = Cert.Wout.score I b p e := by
  unfold scores Cert.Wout.score
  refine Eq.trans (b := ∑ k : Fin 2048, cat (hidL I) (hidC I) (ix3 b p k) * I.r (ix2 k e)) ?_ ?_
  · generalize cat (hidL I) (hidC I) = h
    pointwise!
  · exact Finset.sum_congr rfl fun k _ => congrArg (fun u : EReal => u * I.r (ix2 k e)) (cat_apply _ _ (hid I) (hidL_apply I) (hidC_apply I) b p k)

theorem expo_apply (s u) (b : Fin 8) (p : Fin 4352) (e : Fin 16) : expo s u (ix3 b p e) = Ideal.exp (s (ix3 b p e) - u (ix2 b p)) := by
  unfold expo
  pointwise!
theorem prob_apply (x) (b : Fin 8) (p : Fin 4352) (e : Fin 16) : prob x (ix3 b p e) = Ideal.div (x (ix3 b p e)) (∑ j, x (ix3 b p j)) := by
  unfold prob
  pointwise!

/-- The largest of a token's real scores is real. -/
theorem top_real (s : FVec Ideal S8x4352x16 .f32) (hs : ∀ x, IsReal (s x)) (y : S8x4352.Idx) : IsReal (top s y) := by
  have h := Cert.ReferenceIdeal.Attention.reduce_real s (constant S_ .f32 0xFF800000#32) reducesTo_S8x4352x16_S8x4352_d2 (by decide) h_S_ y (by decide)
    (fun _ => by show Ideal.ofBits .f32 0xFF800000#32 ≠ ⊤; simp [Ideal.ofBits, Ideal.ieee]) hs
  unfold top
  rw [ValueIdx.maximumf_apply]
  refine isReal_max_of_ne_top ?_ h
  show Ideal.ofBits .f32 0xFF800000#32 ≠ ⊤
  simp [Ideal.ofBits, Ideal.ieee]

theorem aff_apply (s : FVec Ideal S8x4352x16 .f32) (r : Fin 8 → Fin 4352 → Fin 16 → ℝ) (hr : ∀ b p e, s (ix3 b p e) = ((r b p e : ℝ) : EReal)) (b : Fin 8) (p : Fin 4352) (e : Fin 16) :
    aff s (ix3 b p e) = ((weight (r b p) e : ℝ) : EReal) := by
  obtain ⟨M, hM⟩ := top_real s (fun x => by
    obtain ⟨b, p, e, rfl⟩ := idx3 x
    exact ⟨_, hr b p e⟩) (ix2 b p)
  unfold aff
  rw [prob_apply]
  simp only [expo_apply, hM, hr]
  exact share (r b p) M e

theorem wide_apply (s : FVec Ideal S8x4352x16 .f32) (b : Fin 8) (p : Fin 4352) (l : Fin 128) : wide s (ix3 b p l) = if h : l.val < 16 then s (ix3 b p ⟨l.val, h⟩) else 0 := by
  unfold wide
  pointwise!
  rw [show FloatOps.sitofp (F := Ideal) FTy.f32 0#32 = (0 : EReal) from by
    show (((0#32).toInt : ℝ) : EReal) = 0
    simp]
theorem turned_apply (s : FVec Ideal S8x4352x16 .f32) (b : Fin 8) (e : Fin 16) (p : Fin 4352) : turned s (ix3 b e p) = s (ix3 b p e) := by
  unfold turned
  pointwise!

variable (I : In) (r : Fin 8 → Fin 4352 → Fin 16 → ℝ) (hr : ∀ b p e, Cert.Wout.score I b p e = ((r b p e : ℝ) : EReal))
include hr

theorem widened : wide (aff (scores I)) = resA r := by
  funext i
  obtain ⟨b, p, l, rfl⟩ := idx3 i
  rw [wide_apply, Cert.Wout.resA_apply]
  unfold lanes
  by_cases h : l.val < 16
  · simp only [dif_pos h]
    exact aff_apply _ r (fun b p e => (scores_apply I b p e).trans (hr b p e)) b p _
  · simp only [dif_neg h]

theorem turnedOver : turned (aff (scores I)) = resT r := by
  funext i
  obtain ⟨b, e, p, rfl⟩ := idx3 i
  rw [turned_apply, Cert.Wout.resT_apply]
  exact aff_apply _ r (fun b p e => (scores_apply I b p e).trans (hr b p e)) b p e

omit hr

/-- The reference's arguments. -/
def inOf (m : (ℓ : Loc nD τ sig) → Buf (Elt Ideal) ℓ) (c : Dev nD) : In where
  a := m ((c.tc : Thread nD τ).loc main_arg0)
  w := m ((c.tc : Thread nD τ).loc main_arg1)
  x := m ((c.tc : Thread nD τ).loc main_arg2)
  y := m ((c.tc : Thread nD τ).loc main_arg3)
  v := m ((c.tc : Thread nD τ).loc main_arg4)
  g := m ((c.tc : Thread nD τ).loc main_arg5)
  f := m ((c.tc : Thread nD τ).loc main_arg6)
  r := m ((c.tc : Thread nD τ).loc main_arg7)

theorem out1 (m : (ℓ : Loc nD τ sig) → Buf (Elt Ideal) ℓ) (c : Dev nD) : Value.res_main_v103 m c = resH (inOf m c) :=
  Eq.trans (by unfold Value.res_main_v103; rfl) (normed (inOf m c))

theorem out2 (m : (ℓ : Loc nD τ sig) → Buf (Elt Ideal) ℓ) (c : Dev nD) (r : Fin 8 → Fin 4352 → Fin 16 → ℝ) (hr : ∀ b p e, Cert.Wout.score (inOf m c) b p e = ((r b p e : ℝ) : EReal)) :
    Value.res_main_v104 m c = resA r :=
  Eq.trans (b := wide (aff (scores (inOf m c)))) (by unfold Value.res_main_v104; rfl) (widened (inOf m c) r hr)

theorem out3 (m : (ℓ : Loc nD τ sig) → Buf (Elt Ideal) ℓ) (c : Dev nD) (r : Fin 8 → Fin 4352 → Fin 16 → ℝ) (hr : ∀ b p e, Cert.Wout.score (inOf m c) b p e = ((r b p e : ℝ) : EReal)) :
    Value.res_main_v105 m c = resT r :=
  Eq.trans (b := turned (aff (scores (inOf m c)))) (by unfold Value.res_main_v105; rfl) (turnedOver (inOf m c) r hr)

end Cert.Reference6Ideal.Wout
end
-- ==== Proof.WoutClaim.lean ====
/- The output projection's claims: what its precondition says, its reference's frame, and that kernel and reference leave the
   same four arrays. -/
module

public import proofs.«01_k».proof.Defs
public import proofs.«01_k».proof.Proof.Finite
public import proofs.«01_k».proof.Proof.Wout
public import proofs.«01_k».proof.Proof.WoutRef
public import Idealize.ShloMosaic.Lib.Quiescent

@[expose] public section

set_option maxRecDepth 16384

noncomputable section

namespace Cert.Wout

open Idealize.ShloMosaic Idealize.ShloMosaic.TcCoe Idealize.SL.Sem Cert.Softmax

theorem facts : Cert.Pre_router_inputs_finite.Facts where
  slices_S16x12288_S9x2048_0_6144 := by decide
  bcast_S_S9x2048 := by decide
  slices_S16x12288_S9x2048_0_8192 := by decide
  bcast_S_S2048 := by decide
  bcast_S2048_S1x2048_1 := by decide
  bcast_S1x2048_S9x2048_0_1 := by decide
  transposes_S2048x16_S16x2048_1_0 := by decide
  bcast_S_S16x2048 := by decide
  concatenates_S9x2048_S16x2048_S25x2048_d0 := by decide

/-- A bit that says a number's absolute value is below plus infinity. -/
def small (x : EReal) : BitVec 1 := Ideal.cmp .olt (max x (-x)) (Ideal.ofBits .f32 0x7F800000#32)

theorem isReal_of_small {x : EReal} (h : small x = 1#1) : IsReal x := by
  have h' : Ideal.cmp .olt (max x (-x)) (Ideal.ofBits .f32 0x7F800000#32) = 1 := h
  rw [Ideal.cmp_olt_eq_one, Cert.Flash.top_bits] at h'
  exact Cert.Flash.isReal_of_abs_lt h'

theorem and_bits : ∀ a b : BitVec 1, a &&& b = 1#1 → a = 1#1 ∧ b = 1#1 := by decide

/-- The precondition's bits of the modulation and the gain. -/
theorem pre_low (I : In) (h : haveI := facts; Cert.Pre_router_inputs_finite.fn (F := Ideal) I.a I.w I.x I.y I.v I.g I.f I.r = fun _ => 1#1) (n : Fin 9) (k : Fin 2048) :
    (small (I.v (ix2 ⟨n.val, by omega⟩ ⟨6144 + k.val, by omega⟩)) &&& small (I.v (ix2 ⟨n.val, by omega⟩ ⟨8192 + k.val, by omega⟩))) &&& small (I.f (ix1 k)) = 1#1 := by
  refine Eq.trans ?_ (congrFun h (ix2 (⟨n.val, by omega⟩ : Fin 25) k))
  symm
  unfold Cert.Pre_router_inputs_finite.fn small
  pointwise!

/-- The precondition's bits of the router's weights. -/
theorem pre_high (I : In) (h : haveI := facts; Cert.Pre_router_inputs_finite.fn (F := Ideal) I.a I.w I.x I.y I.v I.g I.f I.r = fun _ => 1#1) (e : Fin 16) (k : Fin 2048) :
    small (I.r (ix2 k e)) = 1#1 := by
  refine Eq.trans ?_ (congrFun h (ix2 (⟨9 + e.val, by omega⟩ : Fin 25) k))
  symm
  unfold Cert.Pre_router_inputs_finite.fn small
  pointwise!

end Cert.Wout

namespace Cert.Proof

open Idealize.ShloMosaic Idealize.SL.Sem Cert.Softmax

/-- The output projection: its reference runs, leaves its arguments and ends with every counter at zero. -/
theorem reference_frame6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0) :=
  (θ_run Cert.Reference6Ideal.defs _ _).mono (fun r h => ⟨fun c => (h c).2.2.2.2, sem_eq_zero_of_no_sems rfl _⟩) (Cert.Reference6Ideal.Value.run m g)

/-- The output projection: kernel and reference run and leave the same four arrays. -/
theorem value6 : algebraic_Kernel6Ideal_Reference6Ideal_pre_router_inputs_finite (hKernel6Ideal := Cert.Kernel6Ideal.Gen.facts) (hReference6Ideal := Cert.Reference6Ideal.Gen.facts) (hPre_router_inputs_finite := Cert.Wout.facts) := by
  intro m g m' g' hpre hagree
  refine ⟨fun c => (Cert.Kernel6Ideal.Gen.dats m 0 c).arrAt 10 Cert.Kernel6Ideal.cfg0.N, fun c => (Cert.Kernel6Ideal.Gen.dats m 0 c).arrAt 11 Cert.Kernel6Ideal.cfg0.N,
    fun c => (Cert.Kernel6Ideal.Gen.dats m 0 c).arrAt 12 Cert.Kernel6Ideal.cfg0.N, fun c => (Cert.Kernel6Ideal.Gen.dats m 0 c).arrAt 13 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, h1, h2, h3, h4, h5, h6, h7⟩ := hagree c
  have hI : Cert.Reference6Ideal.Wout.inOf m' c = Cert.Kernel6Ideal.Wout.inOf m c := by
    unfold Cert.Reference6Ideal.Wout.inOf Cert.Kernel6Ideal.Wout.inOf
    rw [h0, h1, h2, h3, h4, h5, h6, h7]
  have low := Cert.Wout.pre_low (Cert.Kernel6Ideal.Wout.inOf m c) (hpre c)
  have high := Cert.Wout.pre_high (Cert.Kernel6Ideal.Wout.inOf m c) (hpre c)
  have hr : ∀ k e, IsReal ((Cert.Kernel6Ideal.Wout.inOf m c).r (ix2 k e)) := fun k e => Cert.Wout.isReal_of_small (high e k)
  have hf : ∀ k, IsReal ((Cert.Kernel6Ideal.Wout.inOf m c).f (ix1 k)) := fun k => Cert.Wout.isReal_of_small (Cert.Wout.and_bits _ _ (low 0 k)).2
  have hm : ∀ b p, (Cert.Wout.mrow b p).val < 9 := fun b p => by
    unfold Cert.Wout.mrow
    split
    · show 8 < 9
      omega
    · show b.val < 9
      omega
  have hh : ∀ b p k, IsReal (Cert.Wout.hid (Cert.Kernel6Ideal.Wout.inOf m c) b p k) := Cert.Wout.isReal_hid _ hf
    (fun b p k => Cert.Wout.isReal_of_small (Cert.Wout.and_bits _ _ (Cert.Wout.and_bits _ _ (low ⟨(Cert.Wout.mrow b p).val, hm b p⟩ k)).1).2)
    (fun b p k => Cert.Wout.isReal_of_small (Cert.Wout.and_bits _ _ (Cert.Wout.and_bits _ _ (low ⟨(Cert.Wout.mrow b p).val, hm b p⟩ k)).1).1)
  have hs : ∀ b p e, IsReal (Cert.Wout.score (Cert.Kernel6Ideal.Wout.inOf m c) b p e) := fun b p e => by
    choose H hH using hh b p
    choose R hR using fun k => hr k e
    refine ⟨∑ k, H k * R k, ?_⟩
    unfold Cert.Wout.score
    rw [coe_sum]
    exact Finset.sum_congr rfl fun k _ => by rw [hH, hR, EReal.coe_mul]
  choose s hs using hs
  refine ⟨(h c).1.trans ?_, (h c).2.1.trans ?_, (h c).2.2.1.trans ?_, (h c).2.2.2.1.trans ?_, (h c).2.2.2.2⟩
  · exact (Cert.Reference6Ideal.Wout.rows (Cert.Reference6Ideal.Wout.inOf m' c)).trans ((congrArg Cert.Wout.resX hI).trans (Cert.Kernel6Ideal.Wout.array10 m c).symm)
  · exact (Cert.Reference6Ideal.Wout.out1 m' c).trans ((congrArg Cert.Wout.resH hI).trans (Cert.Kernel6Ideal.Wout.array11 m c).symm)
  · exact (Cert.Reference6Ideal.Wout.out2 m' c s (hI ▸ hs)).trans (Cert.Kernel6Ideal.Wout.array12 m c hh hr s hs).symm
  · exact (Cert.Reference6Ideal.Wout.out3 m' c s (hI ▸ hs)).trans (Cert.Kernel6Ideal.Wout.array13 m c hh hr s hs).symm

end Cert.Proof

end
-- ==== Proof.Mod.lean ====
/- The modulation: the array of conditions that the host code builds, what a grid point leaves in its output block, the array of
   all blocks, and the reference's array. -/
module

public import proofs.«01_k».proof.Defs
public import proofs.«01_k».proof.Proof.Gen.Kernel7Ideal.Value
public import proofs.«01_k».proof.Proof.Gen.Reference7Ideal.Run
public import proofs.«01_k».proof.Proof.Sigmoid
public import Idealize.ShloMosaic.Lib.Routing.OpsOne
public import Idealize.ShloMosaic.Lib.Quiescent
public import Idealize.ShloMosaic.Lib.Pipeline.ValueKit
public import Idealize.ShloMosaic.Lib.Pipeline.Covers

@[expose] public section

set_option maxRecDepth 16384

noncomputable section

namespace Cert.Kernel7Ideal.Mod

open Cert.Kernel7Ideal Cert.Kernel7Ideal.Gen Idealize.ShloMosaic Idealize.ShloMosaic.TcCoe Idealize.SL.Sem

variable (m : (ℓ : Loc nD τ sig) → Buf (Elt Ideal) ℓ)

/-- The conditions by rows: the samples', the context's, and rows of zeros. -/
def cond (x : S8x2048.Idx → EReal) (y : S2048.Idx → EReal) (b : Fin 16) (k : Fin 2048) : EReal :=
  if h : b.val < 8 then x (ix2 ⟨b.val, h⟩ k) else if b.val = 8 then y (ix1 k) else Ideal.ofBits .f32 0x00000000#32

/-- Row `b` of the samples is written to row `b`. -/
theorem lands_samples (idx : IVec S1 32) (h : idx (ix1 0) = 0#32) (b : Fin 8) (k : Fin 2048) (b' : Fin 16) (k' : Fin 2048) :
    scatter_S16x2048_S1_S8x2048_01_n_0_0.resultIdx? (ix2 b k) idx = some (ix2 b' k') ↔ b'.val = b.val ∧ k' = k := by
  have w0 : scatter_S16x2048_S1_S8x2048_01_n_0_0.window (ix2 b k) 0 = b.val := rfl
  have w1 : scatter_S16x2048_S1_S8x2048_01_n_0_0.window (ix2 b k) 1 = k.val := rfl
  have s1 : scatter_S16x2048_S1_S8x2048_01_n_0_0.start (ix2 b k) idx 1 = 0 := rfl
  have s0 : scatter_S16x2048_S1_S8x2048_01_n_0_0.start (ix2 b k) idx 0 = 0 := by
    refine Eq.trans (congrArg BitVec.toInt ((congrArg idx ?_).trans h)) rfl
    funext a
    match a with
    | ⟨0, _⟩ => exact Subsingleton.elim (α := Fin 1) _ _
  refine (Routing.resultIdx?_ix2 scatter_S16x2048_S1_S8x2048_01_n_0_0 (ix2 b k) idx b' k').trans ?_
  change scatter_S16x2048_S1_S8x2048_01_n_0_0.start (ix2 b k) idx 0 + (scatter_S16x2048_S1_S8x2048_01_n_0_0.window (ix2 b k) 0 : Int) = (b'.val : Int) ∧ scatter_S16x2048_S1_S8x2048_01_n_0_0.start (ix2 b k) idx 1 + (scatter_S16x2048_S1_S8x2048_01_n_0_0.window (ix2 b k) 1 : Int) = (k'.val : Int) ↔ _
  rw [Fin.ext_iff, s0, w0, s1, w1]
  omega

/-- The context's row is written to row 8. -/
theorem lands_context (idx : IVec S1 32) (h : idx (ix1 0) = 8#32) (k : Fin 2048) (b' : Fin 16) (k' : Fin 2048) :
    scatter_S16x2048_S1_S2048_0_0_0_0.resultIdx? (ix1 k) idx = some (ix2 b' k') ↔ b'.val = 8 ∧ k' = k := by
  have w0 : scatter_S16x2048_S1_S2048_0_0_0_0.window (ix1 k) 0 = 0 := rfl
  have w1 : scatter_S16x2048_S1_S2048_0_0_0_0.window (ix1 k) 1 = k.val := rfl
  have s1 : scatter_S16x2048_S1_S2048_0_0_0_0.start (ix1 k) idx 1 = 0 := rfl
  have s0 : scatter_S16x2048_S1_S2048_0_0_0_0.start (ix1 k) idx 0 = 8 := by
    refine Eq.trans (congrArg BitVec.toInt ((congrArg idx ?_).trans h)) rfl
    funext a
    match a with
    | ⟨0, _⟩ => exact Subsingleton.elim (α := Fin 1) _ _
  refine (Routing.resultIdx?_ix2 scatter_S16x2048_S1_S2048_0_0_0_0 (ix1 k) idx b' k').trans ?_
  change scatter_S16x2048_S1_S2048_0_0_0_0.start (ix1 k) idx 0 + (scatter_S16x2048_S1_S2048_0_0_0_0.window (ix1 k) 0 : Int) = (b'.val : Int) ∧ scatter_S16x2048_S1_S2048_0_0_0_0.start (ix1 k) idx 1 + (scatter_S16x2048_S1_S2048_0_0_0_0.window (ix1 k) 1 : Int) = (k'.val : Int) ↔ _
  rw [Fin.ext_iff, s0, w0, s1, w1]
  omega

/-- The array of conditions as the host code builds it. -/
def built (x : FVec Ideal S8x2048 .f32) (y : FVec Ideal S2048 .f32) : FVec Ideal S16x2048 .f32 :=
  Host.scatter scatter_S16x2048_S1_S2048_0_0_0_0 (fun _ b => b)
    (Host.scatter scatter_S16x2048_S1_S8x2048_01_n_0_0 (fun _ b => b) (broadcastInDim S16x2048 ![] bcast_S_S16x2048 (constant S_ .f32 0x00000000#32))
      (broadcastInDim S1 ![] bcast_S_S1 (constantI S_ 32 0#32)) x)
    (broadcastInDim S1 ![] bcast_S_S1 (constantI S_ 32 8#32)) y

theorem eta1 (j : S2048.Idx) : j = ix1 (j 0) := by
  funext a
  fin_cases a
  rfl

theorem eta2 (j : S8x2048.Idx) : j = ix2 (j 0) (j 1) := by
  funext a
  fin_cases a <;> rfl

theorem built_apply (x : FVec Ideal S8x2048 .f32) (y : FVec Ideal S2048 .f32) (b : Fin 16) (k : Fin 2048) : built x y (ix2 b k) = cond x y b k := by
  have h0 : (broadcastInDim S1 ![] bcast_S_S1 (constantI S_ 32 0#32)) (ix1 0) = 0#32 := rfl
  have h8 : (broadcastInDim S1 ![] bcast_S_S1 (constantI S_ 32 8#32)) (ix1 0) = 8#32 := rfl
  have samples : ∀ j : S8x2048.Idx, scatter_S16x2048_S1_S8x2048_01_n_0_0.resultIdx? j (broadcastInDim S1 ![] bcast_S_S1 (constantI S_ 32 0#32)) = some (ix2 b k) → b.val = (j 0).val ∧ k = j 1 := fun j hj =>
    (lands_samples _ h0 (j 0) (j 1) b k).1 (eta2 j ▸ hj)
  have context : ∀ j : S2048.Idx, scatter_S16x2048_S1_S2048_0_0_0_0.resultIdx? j (broadcastInDim S1 ![] bcast_S_S1 (constantI S_ 32 8#32)) = some (ix2 b k) → b.val = 8 ∧ k = j 0 := fun j hj =>
    (lands_context _ h8 (j 0) b k).1 (eta1 j ▸ hj)
  unfold built cond
  by_cases e : b.val = 8
  · rw [dif_neg (by omega), if_pos e]
    exact Routing.scatter_set_hit _ _ _ _ _ _ (fun j hj => (congrArg y (eta1 j)).trans (congrArg (fun t => y (ix1 t)) (context j hj).2.symm)) (ix1 k) ((lands_context _ h8 k b k).2 ⟨e, rfl⟩)
  · rw [Routing.scatter_set_miss _ _ _ _ _ fun j hj => e (context j hj).1]
    by_cases l : b.val < 8
    · rw [dif_pos l]
      refine Routing.scatter_set_hit _ _ _ _ _ _ (fun j hj => ?_) (ix2 ⟨b.val, l⟩ k) ((lands_samples _ h0 ⟨b.val, l⟩ k b k).2 ⟨rfl, rfl⟩)
      obtain ⟨p, q⟩ := samples j hj
      have p' : (⟨b.val, l⟩ : Fin 8) = j 0 := Fin.ext p
      rw [p', q]
      exact congrArg x (eta2 j)
    · rw [dif_neg l, if_neg e]
      rw [Routing.scatter_set_miss _ _ _ _ _ fun j hj => l (by
        have h := (samples j hj).1
        have h' : (j 0).val < 8 := (j 0).isLt
        omega)]
      rfl

/-- One entry of the modulation. -/
def entry (x : S8x2048.Idx → EReal) (y : S2048.Idx → EReal) (w : S2x2048x12288.Idx → EReal) (v : S2x12288.Idx → EReal) (l : Fin 2) (b : Fin 16) (j : Fin 12288) : EReal :=
  (∑ k : Fin 2048, cond x y b k * Ideal.logistic (cond x y b k) * w (ix3 l k j)) + v (ix2 l j)

/-- The modulation of both layers. -/
def result (x : S8x2048.Idx → EReal) (y : S2048.Idx → EReal) (w : S2x2048x12288.Idx → EReal) (v : S2x12288.Idx → EReal) : S2x16x12288.Idx → EReal := fun i =>
  entry x y w v (i 0) (i 1) (i 2)

theorem result_apply (x : S8x2048.Idx → EReal) (y : S2048.Idx → EReal) (w : S2x2048x12288.Idx → EReal) (v : S2x12288.Idx → EReal) (l : Fin 2) (b : Fin 16) (j : Fin 12288) :
    result x y w v (ix3 l b j) = entry x y w v l b j := rfl

/-- A block of the modulation from the conditions, a weight block and its bias. -/
theorem pay1_apply (x : Vec Ideal S16x2048 .f32) (w : Vec Ideal S1x2048x768 .f32) (v : Vec Ideal S1x1x768 .f32) (b : Fin 16) (j : Fin 768) :
    k0_pay1 x w v (ix3 0 b j) = (∑ k : Fin 2048, x (ix2 b k) * Ideal.logistic (x (ix2 b k)) * w (ix3 0 k j)) + v (ix3 0 0 j) := by
  simp only [← Cert.Sigmoid.eq_logistic]
  unfold_payloads
  pointwise!

theorem out_eq (x : Vec Ideal S16x2048 .f32) (w : Vec Ideal S1x2048x768 .f32) (v : Vec Ideal S1x1x768 .f32) : out0_3 x w v = k0_pay1 x w v := by
  frame_open
  frame_out

theorem entry_cond (c : Dev nD) : V m c main_v4 = built (m ((c : Thread nD τ).loc main_arg0)) (m ((c : Thread nD τ).loc main_arg1)) := by
  unfold_abbrev_sides
  after_results
  rfl

theorem entry_bias (c : Dev nD) : V m c main_v5 = shapeCast S2x1x12288 (m ((c : Thread nD τ).loc main_arg3)) shapeCasts_S2x12288_S2x1x12288 := by
  unfold_abbrev_sides
  after_results
  rfl

theorem bias_apply (x : FVec Ideal S2x12288 .f32) (l : Fin 2) (j : Fin 12288) : shapeCast S2x1x12288 x shapeCasts_S2x12288_S2x1x12288 (ix3 l 0 j) = x (ix2 l j) := by
  pointwise!

theorem idx0 : ∀ t : Fin cfg0.N, (cfg0.win 0).index t = ![0, 0] := by decide +kernel
theorem idx1 : ∀ t : Fin cfg0.N, (cfg0.win 1).index t = ![t.val / 16, 0, t.val % 16] := by decide +kernel
theorem idx2 : ∀ t : Fin cfg0.N, (cfg0.win 2).index t = ![t.val / 16, 0, t.val % 16] := by decide +kernel
theorem idx3 : ∀ t : Fin cfg0.N, (cfg0.win 3).index t = ![t.val / 16, 0, t.val % 16] := by decide +kernel

/-- A point's layer and its block's columns. -/
def lOf (n : ℕ) (h : n < cfg0.N) : Fin 2 := ⟨n / 16, by have := lt_of_lt_of_eq h N_0; omega⟩
def col (n : ℕ) (j : Fin 768) : Fin 12288 := ⟨768 * (n % 16) + j.val, by omega⟩

theorem blk0 (c : Dev nD) (t : Fin cfg0.N) (b : Fin 16) (k : Fin 2048) :
    iblk m c 0 t (ix2 b k) = cond (m ((c : Thread nD τ).loc main_arg0)) (m ((c : Thread nD τ).loc main_arg1)) b k := by
  refine Eq.trans ?_ ((congrFun (entry_cond m c) _).trans (built_apply _ _ b k))
  blk_ext [iblk, idx0 t]

theorem blk1 (c : Dev nD) (t : Fin cfg0.N) (k : Fin 2048) (j : Fin 768) :
    iblk m c 1 t (ix3 0 k j) = m ((c : Thread nD τ).loc main_arg2) (ix3 (lOf t.val t.isLt) k (col t.val j)) := by
  rw [← V_main_arg2 m c]
  blk_ext [iblk, idx1 t, lOf, col]

theorem blk2 (c : Dev nD) (t : Fin cfg0.N) (j : Fin 768) :
    iblk m c 2 t (ix3 0 0 j) = m ((c : Thread nD τ).loc main_arg3) (ix2 (lOf t.val t.isLt) (col t.val j)) := by
  refine Eq.trans ?_ ((congrFun (entry_bias m c) _).trans (bias_apply _ (lOf t.val t.isLt) (col t.val j)))
  blk_ext [iblk, idx2 t, lOf, col]

theorem covers3 : (cfg0.win 3).Covers :=
  (cfg0.win 3).covers_of_indexMap_surj rfl (by decide) fun β => by
    have h0 : (β 0).val < 2 := (β 0).isLt
    have h1 : (β 1).val < 1 := (β 1).isLt
    have h2 : (β 2).val < 16 := (β 2).isLt
    refine ⟨fun | 0 => β 0 | 1 => β 2, fun a => ?_⟩
    fin_cases a
    · show (BitVec.ofNat 32 (β 0).val).toNat = (β 0).val
      simp only [BitVec.toNat_ofNat]; omega
    · show 0 = (β 1).val
      omega
    · show (BitVec.ofNat 32 (β 2).val).toNat = (β 2).val
      simp only [BitVec.toNat_ofNat]; omega

/-- Where a point's output block lies in the array. -/
theorem place3 (t : Fin cfg0.N) (b : Fin 16) (j : Fin 768) :
    (((cfg0.win 3).blk t).view.emb (ix3 0 b j) : S2x16x12288.Idx) = ix3 (lOf t.val t.isLt) b (col t.val j) := by
  blk_ext [idx3 t, lOf, col]

/-- The array the kernel leaves is the modulation. -/
theorem array (c : Dev nD) :
    (dats m 0 c).arrAt 3 cfg0.N = result (m ((c : Thread nD τ).loc main_arg0)) (m ((c : Thread nD τ).loc main_arg1)) (m ((c : Thread nD τ).loc main_arg2)) (m ((c : Thread nD τ).loc main_arg3)) := by
  refine (dats m 0 c).arrAt_eq_of_covers 3 _ covers3 fun t hf y => ?_
  obtain ⟨b, j, rfl⟩ : ∃ (b : Fin 16) (j : Fin 768), y = ix3 0 b j := ⟨y 1, y 2, by
    funext a
    fin_cases a
    · exact Fin.ext (by have : (y 0).val < 1 := (y 0).isLt; show (y 0).val = 0; omega)
    · rfl
    · rfl⟩
  rw [place3, result_apply]
  change (dats m 0 c).flushed 3 t (ix3 0 b j) = _
  rw [Cert.Kernel7Ideal.Value.flushed3 m c t, out_eq]
  refine (pay1_apply _ _ _ b j).trans (congrArg₂ (· + ·) (Finset.sum_congr rfl fun k _ => ?_) (blk2 m c t j))
  rw [blk0, blk1]

end Cert.Kernel7Ideal.Mod

namespace Cert.Reference7Ideal.Mod

open Cert.Reference7Ideal Cert.Reference7Ideal.Gen Idealize.ShloMosaic Idealize.ShloMosaic.TcCoe Idealize.SL.Sem

/-- The context's row and the rows of zeros. -/
def line (y : FVec Ideal S2048 .f32) : FVec Ideal S1x2048 .f32 := broadcastInDim S1x2048 ![1] bcast_S2048_S1x2048_1 y
def zeros : FVec Ideal S7x2048 .f32 := broadcastInDim S7x2048 ![] bcast_S_S7x2048 (constant S_ .f32 0x00000000#32)

/-- The reference's array of conditions. -/
def joined (x : FVec Ideal S8x2048 .f32) (y : FVec Ideal S2048 .f32) : FVec Ideal S16x2048 .f32 :=
  concatenate S16x2048 0 [⟨S8x2048, x⟩, ⟨S1x2048, line y⟩, ⟨S7x2048, zeros⟩] concatenates_S8x2048_S1x2048_S7x2048_S16x2048_d0

/-- Its activation, by the logistic function as written. -/
def act (u : FVec Ideal S16x2048 .f32) : FVec Ideal S16x2048 .f32 :=
  mulf u (Host.divf (broadcastInDim S16x2048 ![] bcast_S_S16x2048 (constant S_ .f32 0x3F800000#32)) (addf (broadcastInDim S16x2048 ![] bcast_S_S16x2048 (constant S_ .f32 0x3F800000#32)) (Host.exp (Host.negf u))))

/-- The first and the second layer's modulation. -/
def first (u : FVec Ideal S16x2048 .f32) (w : FVec Ideal S2x2048x12288 .f32) (v : FVec Ideal S2x12288 .f32) : FVec Ideal S1x16x12288 .f32 :=
  broadcastInDim S1x16x12288 ![1, 2] bcast_S16x12288_S1x16x12288_1_2 (addf (Host.dotGeneral dot_S16x2048_S2048x12288_S16x12288_1_0_0_1_n_n none u (shapeCast S2048x12288 (extractStridedSlice S1x2048x12288 ![0, 0, 0] w slices_S2x2048x12288_S1x2048x12288_0_0_0) shapeCasts_S1x2048x12288_S2048x12288)) (broadcastInDim S16x12288 ![0, 1] bcast_S1x12288_S16x12288_0_1 (broadcastInDim S1x12288 ![1] bcast_S12288_S1x12288_1 (shapeCast S12288 (extractStridedSlice S1x12288 ![0, 0] v slices_S2x12288_S1x12288_0_0) shapeCasts_S1x12288_S12288))))

def second (u : FVec Ideal S16x2048 .f32) (w : FVec Ideal S2x2048x12288 .f32) (v : FVec Ideal S2x12288 .f32) : FVec Ideal S1x16x12288 .f32 :=
  broadcastInDim S1x16x12288 ![1, 2] bcast_S16x12288_S1x16x12288_1_2 (addf (Host.dotGeneral dot_S16x2048_S2048x12288_S16x12288_1_0_0_1_n_n none u (shapeCast S2048x12288 (extractStridedSlice S1x2048x12288 ![1, 0, 0] w slices_S2x2048x12288_S1x2048x12288_1_0_0) shapeCasts_S1x2048x12288_S2048x12288)) (broadcastInDim S16x12288 ![0, 1] bcast_S1x12288_S16x12288_0_1 (broadcastInDim S1x12288 ![1] bcast_S12288_S1x12288_1 (shapeCast S12288 (extractStridedSlice S1x12288 ![1, 0] v slices_S2x12288_S1x12288_1_0) shapeCasts_S1x12288_S12288))))

def both (a b : FVec Ideal S1x16x12288 .f32) : FVec Ideal S2x16x12288 .f32 :=
  concatenate S2x16x12288 0 [⟨S1x16x12288, a⟩, ⟨S1x16x12288, b⟩] concatenates_S1x16x12288_S1x16x12288_S2x16x12288_d0

theorem joined_apply (x : FVec Ideal S8x2048 .f32) (y : FVec Ideal S2048 .f32) (b : Fin 16) (k : Fin 2048) :
    joined x y (ix2 b k) = Cert.Kernel7Ideal.Mod.cond x y b k := by
  unfold joined Cert.Kernel7Ideal.Mod.cond
  by_cases l : b.val < 8
  · rw [dif_pos l]
    refine concatenate_apply_piece 0 [⟨S8x2048, x⟩, ⟨S1x2048, line y⟩, ⟨S7x2048, zeros⟩] concatenates_S8x2048_S1x2048_S7x2048_S16x2048_d0 _ 0 (show 0 < 3 by decide) S8x2048 x rfl rfl 0 rfl (ix2 ⟨b.val, l⟩ k) (fun a ha => ?_) ?_
    · fin_cases a
      · exact absurd rfl ha
      · rfl
    · show 0 + b.val = b.val
      omega
  · rw [dif_neg l]
    by_cases e : b.val = 8
    · rw [if_pos e]
      refine (concatenate_apply_piece 0 [⟨S8x2048, x⟩, ⟨S1x2048, line y⟩, ⟨S7x2048, zeros⟩] concatenates_S8x2048_S1x2048_S7x2048_S16x2048_d0 _ 1 (show 1 < 3 by decide) S1x2048 (line y) rfl rfl 8 rfl (ix2 0 k) (fun a ha => ?_) ?_).trans ?_
      · fin_cases a
        · exact absurd rfl ha
        · rfl
      · exact e.symm
      · unfold line
        pointwise!
    · rw [if_neg e]
      refine (concatenate_apply_piece 0 [⟨S8x2048, x⟩, ⟨S1x2048, line y⟩, ⟨S7x2048, zeros⟩] concatenates_S8x2048_S1x2048_S7x2048_S16x2048_d0 _ 2 (show 2 < 3 by decide) S7x2048 zeros rfl rfl 9 rfl (ix2 ⟨b.val - 9, by omega⟩ k) (fun a ha => ?_) ?_).trans rfl
      · fin_cases a
        · exact absurd rfl ha
        · rfl
      · show 9 + (b.val - 9) = b.val
        omega

theorem act_apply (u : FVec Ideal S16x2048 .f32) (b : Fin 16) (k : Fin 2048) : act u (ix2 b k) = u (ix2 b k) * Ideal.logistic (u (ix2 b k)) := by
  unfold act
  pointwise!

theorem first_apply (u : FVec Ideal S16x2048 .f32) (w : FVec Ideal S2x2048x12288 .f32) (v : FVec Ideal S2x12288 .f32) (b : Fin 16) (j : Fin 12288) :
    first u w v (ix3 0 b j) = (∑ k : Fin 2048, u (ix2 b k) * w (ix3 0 k j)) + v (ix2 0 j) := by
  unfold first
  pointwise!

theorem second_apply (u : FVec Ideal S16x2048 .f32) (w : FVec Ideal S2x2048x12288 .f32) (v : FVec Ideal S2x12288 .f32) (b : Fin 16) (j : Fin 12288) :
    second u w v (ix3 0 b j) = (∑ k : Fin 2048, u (ix2 b k) * w (ix3 1 k j)) + v (ix2 1 j) := by
  unfold second
  pointwise!

theorem both_0 (p q : FVec Ideal S1x16x12288 .f32) (b : Fin 16) (j : Fin 12288) : both p q (ix3 0 b j) = p (ix3 0 b j) := by
  unfold both
  pointwise!

theorem both_1 (p q : FVec Ideal S1x16x12288 .f32) (b : Fin 16) (j : Fin 12288) : both p q (ix3 1 b j) = q (ix3 0 b j) := by
  unfold both
  pointwise!

/-- The reference's array is the modulation. -/
theorem modulated (x : FVec Ideal S8x2048 .f32) (y : FVec Ideal S2048 .f32) (w : FVec Ideal S2x2048x12288 .f32) (v : FVec Ideal S2x12288 .f32) :
    both (first (act (joined x y)) w v) (second (act (joined x y)) w v) = Cert.Kernel7Ideal.Mod.result x y w v := by
  funext i
  obtain ⟨l, b, j, rfl⟩ : ∃ (l : Fin 2) (b : Fin 16) (j : Fin 12288), i = ix3 l b j := ⟨i 0, i 1, i 2, by
    funext a
    fin_cases a <;> rfl⟩
  rw [Cert.Kernel7Ideal.Mod.result_apply]
  unfold Cert.Kernel7Ideal.Mod.entry
  fin_cases l
  · refine (both_0 _ _ b j).trans ((first_apply _ w v b j).trans (congrArg (· + _) (Finset.sum_congr rfl fun k _ => ?_)))
    rw [act_apply, joined_apply]
    rfl
  · refine (both_1 _ _ b j).trans ((second_apply _ w v b j).trans (congrArg (· + _) (Finset.sum_congr rfl fun k _ => ?_)))
    rw [act_apply, joined_apply]
    rfl

end Cert.Reference7Ideal.Mod

namespace Cert.Proof

open Idealize.ShloMosaic Idealize.SL.Sem

/-- The modulation: its reference runs, leaves its arguments and ends with every counter at zero. -/
theorem reference_frame7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run Cert.Reference7Ideal.defs _ _).mono (fun r h => ⟨fun c => (h c).2, sem_eq_zero_of_no_sems rfl _⟩) (Cert.Reference7Ideal.Value.run m g)

/-- The modulation: kernel and reference run and leave the same array. -/
theorem value7 : algebraic_Kernel7Ideal_Reference7Ideal (hKernel7Ideal := Cert.Kernel7Ideal.Gen.facts) (hReference7Ideal := Cert.Reference7Ideal.Gen.facts) := by
  intro m g m' g' hpre hagree
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨h0, h1, h2, h3⟩ := hagree c
  refine ⟨(h c).1.trans ?_, (h c).2⟩
  refine Eq.trans ?_ (Cert.Kernel7Ideal.Mod.array m c).symm
  rw [h0, h1, h2, h3]
  exact Cert.Reference7Ideal.Mod.modulated _ _ _ _

end Cert.Proof
end
-- ==== Proof.RopeK.lean ====
/- The query and key norms with the rotary embedding: what a grid point leaves in its output block. -/
module

public import proofs.«01_k».proof.Proof.Gen.Kernel8Ideal.Value
public import Idealize.ShloMosaic.Lib.Pipeline.ValueKit
public import Idealize.ShloMosaic.Lib.Pipeline.Covers
public import Idealize.ShloMosaic.Lib.KernelVsHost

@[expose] public section

set_option maxRecDepth 16384

noncomputable section

namespace Cert.Kernel8Ideal.Rope

open Cert.Kernel8Ideal Cert.Kernel8Ideal.Gen Idealize.ShloMosaic Idealize.ShloMosaic.TcCoe Idealize.SL.Sem

/-- A head's RMS norm by its gain. -/
def nrm (x g : Fin 128 → EReal) (l : Fin 128) : EReal :=
  x l * Ideal.rsqrt (Ideal.div (∑ k : Fin 128, x k * x k) (Ideal.ofBits .f32 0x43000000#32) + Ideal.ofBits .f32 0x358637BD#32) * g l

/-- The lane that turns with a lane. -/
def peer (l : Fin 128) : Fin 128 := if h : l.val % 64 < 32 then ⟨l.val + 32, by omega⟩ else ⟨l.val - 32, by omega⟩

/-- A head's norm, turned. -/
def turn (x g c s : Fin 128 → EReal) (l : Fin 128) : EReal := nrm x g l * c l + nrm x g (peer l) * s l

def bit (l : Fin 128) : BitVec 1 := if l.val % 64 < 32 then 1#1 else 0#1

theorem pay2_apply (p : Fin 544) (l : Fin 128) : k0_pay2 (ix2 p l) = bit l := by
  have h : ∀ l : Fin 128, k0_pay2 (ix2 0 l) = bit l := by decide +kernel
  exact Eq.trans rfl (h l)

def normed (X : Vec Ideal S1x544x128 .bf16) (G : Vec Ideal S1x128 .f32) : FVec Ideal S544x128 .f32 := mulf (k0_pay5 X) (k0_pay6 G)

theorem normed_apply (X : Vec Ideal S1x544x128 .bf16) (G : Vec Ideal S1x128 .f32) (p : Fin 544) (l : Fin 128) :
    normed X G (ix2 p l) = nrm (fun k => X (ix3 0 p k)) (fun k => G (ix2 0 k)) l := by
  unfold normed nrm
  unfold_payloads
  pointwise!

theorem select_one (a b : EReal) : Scalar.select (1#1) a b = a := rfl
theorem select_zero (a b : EReal) : Scalar.select (0#1) a b = b := rfl

theorem rot_apply (y C S : FVec Ideal S544x128 .f32) (p : Fin 544) (l : Fin 128) :
    shapeCast S1x544x128 (truncf .bf16 (addf (mulf y C) (mulf (select k0_pay2 (dynamicRotate 1 96#32 none y rotates_S544x128_d1) (dynamicRotate 1 32#32 none y rotates_S544x128_d1)) S)) bitsLt_bf16_f32) shapeCasts_S544x128_S1x544x128 (ix3 0 p l) = y (ix2 p l) * C (ix2 p l) + y (ix2 p (peer l)) * S (ix2 p l) := by
  have e1 : shapeCast S1x544x128 (truncf .bf16 (addf (mulf y C) (mulf (select k0_pay2 (dynamicRotate 1 96#32 none y rotates_S544x128_d1) (dynamicRotate 1 32#32 none y rotates_S544x128_d1)) S)) bitsLt_bf16_f32) shapeCasts_S544x128_S1x544x128 (ix3 0 p l) = y (ix2 p l) * C (ix2 p l) + (Scalar.select (k0_pay2 (ix2 p l)) (dynamicRotate 1 96#32 none y rotates_S544x128_d1 (ix2 p l)) (dynamicRotate 1 32#32 none y rotates_S544x128_d1 (ix2 p l))) * S (ix2 p l) := by
    generalize k0_pay2 = b
    generalize dynamicRotate 1 96#32 none y rotates_S544x128_d1 = u
    generalize dynamicRotate 1 32#32 none y rotates_S544x128_d1 = v
    pointwise!
  rw [e1, pay2_apply]
  unfold bit
  by_cases h : l.val % 64 < 32
  · rw [if_pos h]
    rw [select_one]
    refine congrArg (fun t => y (ix2 p l) * C (ix2 p l) + t * S (ix2 p l)) ?_
    refine (dynamicRotate_apply (1 : Fin 2) 96#32 y rotates_S544x128_d1 (ix2 p l) (ix2 p (peer l)) fun b => ?_)
    fin_cases b
    · rfl
    · show (peer l).val = (l.val + 128 - 96 % 128) % 128
      unfold peer
      rw [dif_pos h]
      show l.val + 32 = _
      omega
  · rw [if_neg h]
    rw [select_zero]
    refine congrArg (fun t => y (ix2 p l) * C (ix2 p l) + t * S (ix2 p l)) ?_
    refine (dynamicRotate_apply (1 : Fin 2) 32#32 y rotates_S544x128_d1 (ix2 p l) (ix2 p (peer l)) fun b => ?_)
    fin_cases b
    · rfl
    · show (peer l).val = (l.val + 128 - 32 % 128) % 128
      unfold peer
      rw [dif_neg h]
      show l.val - 32 = _
      omega

theorem pay8_apply (X : Vec Ideal S1x544x128 .bf16) (G : Vec Ideal S1x128 .f32) (C S : Vec Ideal S544x128 .f32) (p : Fin 544) (l : Fin 128) :
    k0_pay8 k0_pay2 (k0_pay3 C) (k0_pay4 S) X G (ix3 0 p l) = turn (fun k => X (ix3 0 p k)) (fun k => G (ix2 0 k)) (fun k => C (ix2 p k)) (fun k => S (ix2 p k)) l := by
  refine Eq.trans (rfl.trans (rot_apply (normed X G) (k0_pay3 C) (k0_pay4 S) p l)) ?_
  unfold turn
  rw [normed_apply, normed_apply]
  have c : k0_pay3 C = C := shapeCast_self C _
  have s : k0_pay4 S = S := shapeCast_self S _
  rw [c, s]

/-- The heads of a block: eight of the queries, then two of the keys. -/
def headOf (x0 : Vec Ideal S1x544x1024 .bf16) (x1 : Vec Ideal S1x544x256 .bf16) (p : Fin 544) (h : Fin 10) (k : Fin 128) : EReal :=
  if e : h.val < 8 then x0 (ix3 0 p ⟨128 * h.val + k.val, by omega⟩) else x1 (ix3 0 p ⟨128 * (h.val - 8) + k.val, by omega⟩)

def headAt (j : Fin 1280) : Fin 10 := ⟨j.val / 128, by omega⟩
def laneAt (j : Fin 1280) : Fin 128 := ⟨j.val % 128, by omega⟩

/-- A point's output block. -/
def blockOf (x0 : Vec Ideal S1x544x1024 .bf16) (x1 : Vec Ideal S1x544x256 .bf16) (x2 : Vec Ideal S1x1280 .f32) (x3 x4 : Vec Ideal S544x128 .f32) (p : Fin 544) (j : Fin 1280) : EReal :=
  turn (headOf x0 x1 p (headAt j)) (fun k => x2 (ix2 0 ⟨128 * (j.val / 128) + k.val, by omega⟩)) (fun k => x3 (ix2 p k)) (fun k => x4 (ix2 p k)) (laneAt j)

/-- A query head's piece of the block. -/
theorem piece_Q (x0 : Vec Ideal S1x544x1024 .bf16) (x1 : Vec Ideal S1x544x256 .bf16) (x2 : Vec Ideal S1x1280 .f32) (x3 x4 : Vec Ideal S544x128 .f32) (p : Fin 544) (j : Fin 1280)
    (X : Vec Ideal S1x544x128 .bf16) (G : Vec Ideal S1x128 .f32) (x : S1x544x128.Idx) (n : Fin 8)
    (hX : ∀ k : Fin 128, X (ix3 0 p k) = x0 (ix3 0 p ⟨128 * n.val + k.val, by omega⟩)) (hG : ∀ k : Fin 128, G (ix2 0 k) = x2 (ix2 0 ⟨128 * n.val + k.val, by omega⟩))
    (h1 : p.val = (x 1).val) (h2 : j.val = 128 * n.val + (x 2).val) :
    k0_pay8 k0_pay2 (k0_pay3 x3) (k0_pay4 x4) X G x = blockOf x0 x1 x2 x3 x4 p j := by
  have b : (x 2).val < 128 := (x 2).isLt
  have e : x = ix3 0 p (x 2) := by
    funext a
    fin_cases a
    · exact Fin.ext (by have : (x 0).val < 1 := (x 0).isLt; show (x 0).val = 0; omega)
    · exact Fin.ext h1.symm
    · rfl
  have d : j.val / 128 = n.val := by omega
  have l : laneAt j = x 2 := Fin.ext (by show j.val % 128 = (x 2).val; omega)
  rw [e]
  refine (pay8_apply X G x3 x4 p (x 2)).trans ?_
  unfold blockOf
  rw [l]
  refine congrArg₂ (fun u v => turn u v _ _ _) (funext fun k => ?_) (funext fun k => ?_)
  · unfold headOf
    rw [dif_pos (by show j.val / 128 < 8; omega), hX k]
    exact congrArg (fun t => x0 (ix3 0 p t)) (Fin.ext (by show 128 * n.val + k.val = 128 * (j.val / 128) + k.val; rw [d]))
  · rw [hG k]
    exact congrArg (fun t => x2 (ix2 0 t)) (Fin.ext (by show 128 * n.val + k.val = 128 * (j.val / 128) + k.val; rw [d]))

/-- A key head's piece of the block. -/
theorem piece_K (x0 : Vec Ideal S1x544x1024 .bf16) (x1 : Vec Ideal S1x544x256 .bf16) (x2 : Vec Ideal S1x1280 .f32) (x3 x4 : Vec Ideal S544x128 .f32) (p : Fin 544) (j : Fin 1280)
    (X : Vec Ideal S1x544x128 .bf16) (G : Vec Ideal S1x128 .f32) (x : S1x544x128.Idx) (n : Fin 2)
    (hX : ∀ k : Fin 128, X (ix3 0 p k) = x1 (ix3 0 p ⟨128 * n.val + k.val, by omega⟩)) (hG : ∀ k : Fin 128, G (ix2 0 k) = x2 (ix2 0 ⟨128 * (8 + n.val) + k.val, by omega⟩))
    (h1 : p.val = (x 1).val) (h2 : j.val = 128 * (8 + n.val) + (x 2).val) :
    k0_pay8 k0_pay2 (k0_pay3 x3) (k0_pay4 x4) X G x = blockOf x0 x1 x2 x3 x4 p j := by
  have b : (x 2).val < 128 := (x 2).isLt
  have e : x = ix3 0 p (x 2) := by
    funext a
    fin_cases a
    · exact Fin.ext (by have : (x 0).val < 1 := (x 0).isLt; show (x 0).val = 0; omega)
    · exact Fin.ext h1.symm
    · rfl
  have d : j.val / 128 = 8 + n.val := by omega
  have l : laneAt j = x 2 := Fin.ext (by show j.val % 128 = (x 2).val; omega)
  rw [e]
  refine (pay8_apply X G x3 x4 p (x 2)).trans ?_
  unfold blockOf
  rw [l]
  refine congrArg₂ (fun u v => turn u v _ _ _) (funext fun k => ?_) (funext fun k => ?_)
  · unfold headOf
    rw [dif_neg (by show ¬ j.val / 128 < 8; omega), hX k]
    exact congrArg (fun t => x1 (ix3 0 p t)) (Fin.ext (by show 128 * n.val + k.val = 128 * (j.val / 128 - 8) + k.val; omega))
  · rw [hG k]
    exact congrArg (fun t => x2 (ix2 0 t)) (Fin.ext (by show 128 * (8 + n.val) + k.val = 128 * (j.val / 128) + k.val; rw [d]))

theorem out_eq (c : Dev nD) (i : grid0.Coords) (arg2 : Memref sig .tc .vmem S1x544x1024 .bf16) (harg2 : arg2.IsWhole) (arg3 : Memref sig .tc .vmem S1x544x256 .bf16) (harg3 : arg3.IsWhole) (arg4 : Memref sig .tc .vmem S1x1280 .f32) (harg4 : arg4.IsWhole) (arg5 : Memref sig .tc .vmem S544x128 .f32) (harg5 : arg5.IsWhole) (arg6 : Memref sig .tc .vmem S544x128 .f32) (harg6 : arg6.IsWhole) (arg7 : Memref sig .tc .vmem S1x544x1280 .bf16) (harg7 : arg7.IsWhole)
    (x0 : Vec Ideal S1x544x1024 .bf16) (x1 : Vec Ideal S1x544x256 .bf16) (x2 : Vec Ideal S1x1280 .f32) (x3 x4 : Vec Ideal S544x128 .f32) (p : Fin 544) (j : Fin 1280) :
    out0_A_5 c i arg2 harg2 arg3 harg3 arg4 harg4 arg5 harg5 arg6 harg6 arg7 harg7 x0 x1 x2 x3 x4 (ix3 0 p j) = blockOf x0 x1 x2 x3 x4 p j := by
  frame_open
  frame_out
  canon_tiles x h
  · exact Eq.trans rfl (piece_K x0 x1 x2 x3 x4 p j _ _ x 1 (fun k => by pointwise!) (fun k => by pointwise!) h1 h2)
  · exact Eq.trans rfl (piece_K x0 x1 x2 x3 x4 p j _ _ x 0 (fun k => by pointwise!) (fun k => by pointwise!) h1 h2)
  · exact Eq.trans rfl (piece_Q x0 x1 x2 x3 x4 p j _ _ x 7 (fun k => by pointwise!) (fun k => by pointwise!) h1 h2)
  · exact Eq.trans rfl (piece_Q x0 x1 x2 x3 x4 p j _ _ x 6 (fun k => by pointwise!) (fun k => by pointwise!) h1 h2)
  · exact Eq.trans rfl (piece_Q x0 x1 x2 x3 x4 p j _ _ x 5 (fun k => by pointwise!) (fun k => by pointwise!) h1 h2)
  · exact Eq.trans rfl (piece_Q x0 x1 x2 x3 x4 p j _ _ x 4 (fun k => by pointwise!) (fun k => by pointwise!) h1 h2)
  · exact Eq.trans rfl (piece_Q x0 x1 x2 x3 x4 p j _ _ x 3 (fun k => by pointwise!) (fun k => by pointwise!) h1 h2)
  · exact Eq.trans rfl (piece_Q x0 x1 x2 x3 x4 p j _ _ x 2 (fun k => by pointwise!) (fun k => by pointwise!) h1 h2)
  · exact Eq.trans rfl (piece_Q x0 x1 x2 x3 x4 p j _ _ x 1 (fun k => by pointwise!) (fun k => by pointwise!) h1 h2)
  · exact Eq.trans rfl (piece_Q x0 x1 x2 x3 x4 p j _ _ x 0 (fun k => by pointwise!) (fun k => by pointwise!) h1 (h2.trans (Nat.zero_add _).symm))

end Cert.Kernel8Ideal.Rope
end
-- ==== Proof.RopeT.lean ====
/- The tables of the rotary embedding and the gains, as the host code builds them. -/
module

public import proofs.«01_k».proof.Proof.Gen.Kernel8Ideal.Value
public import Idealize.ShloMosaic.Lib.Pipeline.ValueKit

@[expose] public section

set_option maxRecDepth 16384

noncomputable section

namespace Cert.Kernel8Ideal.Rope

open Cert.Kernel8Ideal Cert.Kernel8Ideal.Gen Idealize.ShloMosaic Idealize.ShloMosaic.TcCoe Idealize.SL.Sem

variable (m : (ℓ : Loc nD τ sig) → Buf (Elt Ideal) ℓ)

/-- The tokens' rows and columns, and the signs of the lanes. -/
def rows : FVec Ideal S4096 .f32 := fun i => FloatOps.ofBits .f32 (lit0 (S4096.rowMajor i))
def cols : FVec Ideal S4096 .f32 := fun i => FloatOps.ofBits .f32 (lit1 (S4096.rowMajor i))
def signs : FVec Ideal S128 .f32 := fun i => FloatOps.ofBits .f32 (lit2 (S128.rowMajor i))

/-- The frequencies. -/
def freqs : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

def scaled (x : FVec Ideal S4096 .f32) (w : FVec Ideal S32 .f32) : FVec Ideal S4096x1x32 .f32 :=
  broadcastInDim S4096x1x32 ![0, 2] bcast_S4096x32_S4096x1x32_0_2 (mulf (broadcastInDim S4096x32 ![0, 1] bcast_S4096x1_S4096x32_0_1 (broadcastInDim S4096x1 ![0] bcast_S4096_S4096x1_0 x)) (broadcastInDim S4096x32 ![0, 1] bcast_S1x32_S4096x32_0_1 (broadcastInDim S1x32 ![1] bcast_S32_S1x32_1 w)))

/-- The angles. -/
def angles : FVec Ideal S4096x2x32 .f32 :=
  concatenate S4096x2x32 1 [⟨S4096x1x32, scaled rows freqs⟩, ⟨S4096x1x32, scaled cols freqs⟩] concatenates_S4096x1x32_S4096x1x32_S4096x2x32_d1

def spread (x : FVec Ideal S4096x2x32 .f32) : FVec Ideal S4096x128 .f32 :=
  shapeCast S4096x128 (broadcastInDim S4096x2x2x32 ![0, 1, 2, 3] bcast_S4096x2x1x32_S4096x2x2x32_0_1_2_3 (broadcastInDim S4096x2x1x32 ![0, 1, 3] bcast_S4096x2x32_S4096x2x1x32_0_1_3 x)) shapeCasts_S4096x2x2x32_S4096x128

def signed (x : FVec Ideal S4096x128 .f32) (s : FVec Ideal S128 .f32) : FVec Ideal S4096x128 .f32 :=
  mulf x (broadcastInDim S4096x128 ![0, 1] bcast_S1x128_S4096x128_0_1 (broadcastInDim S1x128 ![1] bcast_S128_S1x128_1 s))

def under (x : FVec Ideal S4096x128 .f32) (v : BitVec 32) : FVec Ideal S4352x128 .f32 :=
  concatenate S4352x128 0 [⟨S4096x128, x⟩, ⟨S256x128, broadcastInDim S256x128 ![] bcast_S_S256x128 (constant S_ .f32 v)⟩] concatenates_S4096x128_S256x128_S4352x128_d0

theorem entry_cos (c : Dev nD) : V m c main_v28 = under (spread (Host.cos angles)) 0x3F800000#32 := by
  unfold_abbrev_sides
  after_results
  rfl

theorem entry_sin (c : Dev nD) : V m c main_v33 = under (signed (spread (Host.sin angles)) signs) 0x00000000#32 := by
  unfold_abbrev_sides
  after_results
  rfl

/-- The gains: the queries' by the scale, and the keys'. -/
def gainQ (x : FVec Ideal S128 .f32) : FVec Ideal S8x128 .f32 :=
  shapeCast S8x128 (broadcastInDim S8x1x1x128 ![0, 1, 2, 3] bcast_S1x1x1x128_S8x1x1x128_0_1_2_3 (shapeCast S1x1x1x128 (mulf (broadcastInDim S1x128 ![1] bcast_S128_S1x128_1 x) (broadcastInDim S1x128 ![] bcast_S_S1x128 (constant S_ .f32 0x3DB504F3#32))) shapeCasts_S1x128_S1x1x1x128)) shapeCasts_S8x1x1x128_S8x128

def gainK (x : FVec Ideal S128 .f32) : FVec Ideal S2x128 .f32 :=
  shapeCast S2x128 (broadcastInDim S2x1x1x128 ![0, 1, 2, 3] bcast_S1x1x1x128_S2x1x1x128_0_1_2_3 (shapeCast S1x1x1x128 (broadcastInDim S1x128 ![1] bcast_S128_S1x128_1 x) shapeCasts_S1x128_S1x1x1x128)) shapeCasts_S2x1x1x128_S2x128

def gains (x y : FVec Ideal S128 .f32) : FVec Ideal S1x1280 .f32 :=
  shapeCast S1x1280 (broadcastInDim S10x1x128 ![0, 2] bcast_S10x128_S10x1x128_0_2 (concatenate S10x128 0 [⟨S8x128, gainQ x⟩, ⟨S2x128, gainK y⟩] concatenates_S8x128_S2x128_S10x128_d0)) shapeCasts_S10x1x128_S1x1280

theorem entry_gains (c : Dev nD) : V m c main_v46 = gains (m ((c : Thread nD τ).loc main_arg1)) (m ((c : Thread nD τ).loc main_arg2)) := by
  unfold_abbrev_sides
  after_results
  rfl

/-- A lane's half and its place in its quarter. -/
def half (l : Fin 128) : Fin 2 := ⟨l.val / 64, by omega⟩
def place (l : Fin 128) : Fin 32 := ⟨l.val % 32, by omega⟩

theorem spread_apply (x : FVec Ideal S4096x2x32 .f32) (r : Fin 4096) (l : Fin 128) : spread x (ix2 r l) = x (ix3 r (half l) (place l)) := by
  unfold spread
  pointwise! [half, place]

theorem under_latent (x : FVec Ideal S4096x128 .f32) (v : BitVec 32) (r : Fin 4096) (l : Fin 128) : under x v (ix2 ⟨r.val, by omega⟩ l) = x (ix2 r l) := by
  unfold under
  pointwise!

theorem under_context (x : FVec Ideal S4096x128 .f32) (v : BitVec 32) (r : Fin 256) (l : Fin 128) : under x v (ix2 ⟨4096 + r.val, by omega⟩ l) = Ideal.ofBits .f32 v := by
  unfold under
  pointwise!

theorem signed_apply (x : FVec Ideal S4096x128 .f32) (s : FVec Ideal S128 .f32) (r : Fin 4096) (l : Fin 128) : signed x s (ix2 r l) = x (ix2 r l) * s (ix1 l) := by
  unfold signed
  pointwise!

theorem rowMajor_one (l : Fin 128) : (S128.rowMajor (ix1 l)).val = l.val := by
  have q : ∀ l : Fin 128, (S128.rowMajor (ix1 l)).val = l.val := fun l => by fin_cases l <;> rfl
  exact q l

theorem signs_apply (l : Fin 128) : signs (ix1 l) = if l.val % 64 < 32 then -1 else 1 := by
  have h : ∀ l : Fin 128, lit2 l = if l.val % 64 < 32 then 0xBF800000#32 else 0x3F800000#32 := by decide +kernel
  have e : S128.rowMajor (ix1 l) = l := by
    apply Fin.ext
    exact rowMajor_one l
  have n : Ideal.ofBits .f32 0xBF800000#32 = -1 := by
    rw [show (-1 : EReal) = ((-1 : ℝ) : EReal) by rw [EReal.coe_neg, EReal.coe_one]]
    simp [Ideal.ofBits, Ideal.ieee, -EReal.coe_mul]; norm_num
  show Ideal.ofBits .f32 (lit2 (S128.rowMajor (ix1 l))) = _
  rw [e, h]
  split
  · exact n
  · exact Ideal.ofBits_one_f32

theorem gains_Q (x y : FVec Ideal S128 .f32) (h : Fin 8) (l : Fin 128) : gains x y (ix2 0 ⟨128 * h.val + l.val, by omega⟩) = x (ix1 l) * Ideal.ofBits .f32 0x3DB504F3#32 := by
  have e : gains x y (ix2 0 ⟨128 * h.val + l.val, by omega⟩) = gainQ x (ix2 h l) := by
    unfold gains
    generalize gainQ x = u
    generalize gainK y = v
    pointwise!
    have d : (128 * h.val + l.val) / 128 = h.val := by omega
    rw [dif_pos (by omega)]
    exact congrArg (fun t => u (ix2 t l)) (Fin.ext d)
  rw [e]
  unfold gainQ
  pointwise!

theorem gains_K (x y : FVec Ideal S128 .f32) (h : Fin 2) (l : Fin 128) : gains x y (ix2 0 ⟨128 * (8 + h.val) + l.val, by omega⟩) = y (ix1 l) := by
  have e : gains x y (ix2 0 ⟨128 * (8 + h.val) + l.val, by omega⟩) = gainK y (ix2 h l) := by
    unfold gains
    generalize gainQ x = u
    generalize gainK y = v
    pointwise!
    have d : (128 * (8 + h.val) + l.val) / 128 - 8 = h.val := by omega
    rw [dif_neg (by omega)]
    exact congrArg (fun t => v (ix2 t l)) (Fin.ext d)
  rw [e]
  unfold gainK
  pointwise!

end Cert.Kernel8Ideal.Rope
end
-- ==== Proof.RopeA.lean ====
/- The query and key norms with the rotary embedding: the array of all blocks. -/
module

public import proofs.«01_k».proof.Proof.RopeK
public import proofs.«01_k».proof.Proof.RopeT

@[expose] public section

set_option maxRecDepth 16384

noncomputable section

namespace Cert.Kernel8Ideal.Rope

open Cert.Kernel8Ideal Cert.Kernel8Ideal.Gen Idealize.ShloMosaic Idealize.ShloMosaic.TcCoe Idealize.SL.Sem

variable (m : (ℓ : Loc nD τ sig) → Buf (Elt Ideal) ℓ)

/-- The head a column of the array comes from, out of the projections. -/
def head (P : S8x4352x13824.Idx → EReal) (b : Fin 8) (r : Fin 4352) (h : Fin 10) (k : Fin 128) : EReal :=
  P (ix3 b r ⟨3072 + (128 * h.val + k.val), by omega⟩)

/-- One entry of the array. -/
def entry (P : S8x4352x13824.Idx → EReal) (x y : FVec Ideal S128 .f32) (b : Fin 8) (r : Fin 4352) (j : Fin 1280) : EReal :=
  turn (head P b r (headAt j)) (fun k => gains x y (ix2 0 ⟨128 * (j.val / 128) + k.val, by omega⟩))
    (fun k => under (spread (Host.cos angles)) 0x3F800000#32 (ix2 r k)) (fun k => under (signed (spread (Host.sin angles)) signs) 0x00000000#32 (ix2 r k)) (laneAt j)

def result (P : S8x4352x13824.Idx → EReal) (x y : FVec Ideal S128 .f32) : S8x4352x1280.Idx → EReal := fun i => entry P x y (i 0) (i 1) (i 2)

theorem result_apply (P : S8x4352x13824.Idx → EReal) (x y : FVec Ideal S128 .f32) (b : Fin 8) (r : Fin 4352) (j : Fin 1280) :
    result P x y (ix3 b r j) = entry P x y b r j := rfl

theorem idx0 : ∀ t : Fin cfg0.N, (cfg0.win 0).index t = ![t.val / 8, t.val % 8, 3] := by decide +kernel
theorem idx1 : ∀ t : Fin cfg0.N, (cfg0.win 1).index t = ![t.val / 8, t.val % 8, 16] := by decide +kernel
theorem idx2 : ∀ t : Fin cfg0.N, (cfg0.win 2).index t = ![0, 0] := by decide +kernel
theorem idx3 : ∀ t : Fin cfg0.N, (cfg0.win 3).index t = ![t.val % 8, 0] := by decide +kernel
theorem idx4 : ∀ t : Fin cfg0.N, (cfg0.win 4).index t = ![t.val % 8, 0] := by decide +kernel
theorem idx5 : ∀ t : Fin cfg0.N, (cfg0.win 5).index t = ![t.val / 8, t.val % 8, 0] := by decide +kernel

/-- A point's sample and its block's tokens. -/
def bOf (n : ℕ) (h : n < cfg0.N) : Fin 8 := ⟨n / 8, by have := lt_of_lt_of_eq h N_0; omega⟩
def row (n : ℕ) (p : Fin 544) : Fin 4352 := ⟨544 * (n % 8) + p.val, by omega⟩

theorem blk0 (c : Dev nD) (t : Fin cfg0.N) (p : Fin 544) (k : Fin 1024) :
    X0_0 m c t (ix3 0 p k : S1x544x1024.Idx) = m ((c : Thread nD τ).loc main_arg0) (ix3 (bOf t.val t.isLt) (row t.val p) ⟨3072 + k.val, by omega⟩) := by
  rw [← V_main_arg0 m c]
  unfold X0_0 Pipeline.Window.fill
  rw [dif_pos (moved0_0 t _)]
  blk_ext [iblk, idx0 t, bOf, row]

theorem blk1 (c : Dev nD) (t : Fin cfg0.N) (p : Fin 544) (k : Fin 256) :
    iblk m c 1 t (ix3 0 p k) = m ((c : Thread nD τ).loc main_arg0) (ix3 (bOf t.val t.isLt) (row t.val p) ⟨4096 + k.val, by omega⟩) := by
  rw [← V_main_arg0 m c]
  blk_ext [iblk, idx1 t, bOf, row]

theorem blk2 (c : Dev nD) (t : Fin cfg0.N) (j : Fin 1280) :
    iblk m c 2 t (ix2 0 j) = gains (m ((c : Thread nD τ).loc main_arg1)) (m ((c : Thread nD τ).loc main_arg2)) (ix2 0 j) := by
  rw [← entry_gains m c]
  blk_ext [iblk, idx2 t]

theorem blk3 (c : Dev nD) (t : Fin cfg0.N) (p : Fin 544) (l : Fin 128) :
    iblk m c 3 t (ix2 p l) = under (spread (Host.cos angles)) 0x3F800000#32 (ix2 (row t.val p) l) := by
  rw [← entry_cos m c]
  blk_ext [iblk, idx3 t, row]

theorem blk4 (c : Dev nD) (t : Fin cfg0.N) (p : Fin 544) (l : Fin 128) :
    iblk m c 4 t (ix2 p l) = under (signed (spread (Host.sin angles)) signs) 0x00000000#32 (ix2 (row t.val p) l) := by
  rw [← entry_sin m c]
  blk_ext [iblk, idx4 t, row]

theorem covers5 : (cfg0.win 5).Covers :=
  (cfg0.win 5).covers_of_indexMap_surj rfl (by decide) fun β => by
    have h0 : (β 0).val < 8 := (β 0).isLt
    have h1 : (β 1).val < 8 := (β 1).isLt
    have h2 : (β 2).val < 1 := (β 2).isLt
    refine ⟨fun | 0 => β 0 | 1 => β 1, fun a => ?_⟩
    fin_cases a
    · show (BitVec.ofNat 32 (β 0).val).toNat = (β 0).val
      simp only [BitVec.toNat_ofNat]; omega
    · show (BitVec.ofNat 32 (β 1).val).toNat = (β 1).val
      simp only [BitVec.toNat_ofNat]; omega
    · show 0 = (β 2).val
      omega

/-- Where a point's output block lies in the array. -/
theorem place5 (t : Fin cfg0.N) (p : Fin 544) (j : Fin 1280) :
    (((cfg0.win 5).blk t).view.emb (ix3 0 p j) : S8x4352x1280.Idx) = ix3 (bOf t.val t.isLt) (row t.val p) j := by
  blk_ext [idx5 t, bOf, row]

/-- The array the kernel leaves. -/
theorem array (c : Dev nD) :
    (dats m 0 c).arrAt 5 cfg0.N = result (m ((c : Thread nD τ).loc main_arg0)) (m ((c : Thread nD τ).loc main_arg1)) (m ((c : Thread nD τ).loc main_arg2)) := by
  refine (dats m 0 c).arrAt_eq_of_covers 5 _ covers5 fun t hf y => ?_
  obtain ⟨p, j, rfl⟩ : ∃ (p : Fin 544) (j : Fin 1280), y = ix3 0 p j := ⟨y 1, y 2, by
    funext a
    fin_cases a
    · exact Fin.ext (by have : (y 0).val < 1 := (y 0).isLt; show (y 0).val = 0; omega)
    · rfl
    · rfl⟩
  rw [place5, result_apply]
  change (dats m 0 c).flushed 5 t (ix3 0 p j) = _
  rw [Cert.Kernel8Ideal.Value.flushed5_A m c t]
  refine Eq.trans rfl ((out_eq c (grid0.coords t) (ms0_0 t) (hs0_0 t) (ms0_1 t) (hs0_1 t) (ms0_2 t) (hs0_2 t) (ms0_3 t) (hs0_3 t) (ms0_4 t) (hs0_4 t) (ms0_5 t) (hs0_5 t) (X0_0 m c t) (iblk m c 1 t) (iblk m c 2 t) (iblk m c 3 t) (iblk m c 4 t) p j).trans ?_)
  unfold blockOf entry
  have eX : headOf (X0_0 m c t) (iblk m c 1 t) p (headAt j) = head (m ((c : Thread nD τ).loc main_arg0)) (bOf t.val t.isLt) (row t.val p) (headAt j) := by
    funext k
    unfold headOf head
    by_cases h : (headAt j).val < 8
    · rw [dif_pos h]
      exact blk0 m c t p _
    · rw [dif_neg h]
      refine (blk1 m c t p _).trans (congrArg (fun u => m ((c : Thread nD τ).loc main_arg0) (ix3 (bOf t.val t.isLt) (row t.val p) u)) (Fin.ext ?_))
      show 4096 + (128 * ((headAt j).val - 8) + k.val) = 3072 + (128 * (headAt j).val + k.val)
      omega
  have eG : (fun k : Fin 128 => iblk m c 2 t (ix2 0 ⟨128 * (j.val / 128) + k.val, by omega⟩)) = fun k : Fin 128 => gains (m ((c : Thread nD τ).loc main_arg1)) (m ((c : Thread nD τ).loc main_arg2)) (ix2 0 ⟨128 * (j.val / 128) + k.val, by omega⟩) := funext fun k => blk2 m c t _
  have eC : (fun k : Fin 128 => iblk m c 3 t (ix2 p k)) = _ := funext fun k => blk3 m c t p k
  have eS : (fun k : Fin 128 => iblk m c 4 t (ix2 p k)) = _ := funext fun k => blk4 m c t p k
  exact congr (congr (congr (congr (congrArg turn eX) eG) eC) eS) rfl

end Cert.Kernel8Ideal.Rope
end
-- ==== Proof.RopeB.lean ====
/- The reference of the query and key norms with the rotary embedding, the tables. -/
module

public import proofs.«01_k».proof.Proof.Gen.Reference8Ideal.Run
public import proofs.«01_k».proof.Proof.RopeK
public import proofs.«01_k».proof.Proof.RopeT

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

def rows : FVec Ideal S4096 .f32 := fun i => FloatOps.ofBits .f32 (lit0 (S4096.rowMajor i))
def cols : FVec Ideal S4096 .f32 := fun i => FloatOps.ofBits .f32 (lit1 (S4096.rowMajor i))

def freqs : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

def scaled (x : FVec Ideal S4096 .f32) (w : FVec Ideal S32 .f32) : FVec Ideal S4096x1x32 .f32 :=
  broadcastInDim S4096x1x32 ![0, 2] bcast_S4096x32_S4096x1x32_0_2 (mulf (broadcastInDim S4096x32 ![0, 1] bcast_S4096x1_S4096x32_0_1 (broadcastInDim S4096x1 ![0] bcast_S4096_S4096x1_0 x)) (broadcastInDim S4096x32 ![0, 1] bcast_S1x32_S4096x32_0_1 (broadcastInDim S1x32 ![1] bcast_S32_S1x32_1 w)))

def angles : FVec Ideal S4096x2x32 .f32 :=
  concatenate S4096x2x32 1 [⟨S4096x1x32, scaled rows freqs⟩, ⟨S4096x1x32, scaled cols freqs⟩] concatenates_S4096x1x32_S4096x1x32_S4096x2x32_d1

/-- A table at the lanes of a half. -/
def tabled (x : FVec Ideal S4096x2x32 .f32) : FVec Ideal S4096x1x2x32 .f32 :=
  broadcastInDim S4096x1x2x32 ![0, 2, 3] bcast_S4096x2x32_S4096x1x2x32_0_2_3 x

def quarter (l : Fin 128) : Fin 2 := ⟨l.val % 64 / 32, by omega⟩
def laneOf (a q : Fin 2) (f : Fin 32) : Fin 128 := ⟨64 * a.val + 32 * q.val + f.val, by omega⟩

end Cert.Reference8Ideal.Rope
end
-- ==== Proof.RopeL.lean ====
/- The reference of the query and key norms with the rotary embedding, its tables are the kernel's. -/
module

public import proofs.«01_k».proof.Proof.Gen.Reference8Ideal.Run
public import proofs.«01_k».proof.Proof.RopeK
public import proofs.«01_k».proof.Proof.RopeT
public import proofs.«01_k».proof.Proof.RopeB

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

theorem rows_eq : rows = Cert.Kernel8Ideal.Rope.rows := by
  have h : ∀ i : Fin 4096, lit0 i = Cert.Kernel8Ideal.lit0 i := by decide +kernel
  funext i
  exact congrArg (FloatOps.ofBits (F := Ideal) .f32) (h _)

theorem cols_eq : cols = Cert.Kernel8Ideal.Rope.cols := by
  have h : ∀ i : Fin 4096, lit1 i = Cert.Kernel8Ideal.lit1 i := by decide +kernel
  funext i
  exact congrArg (FloatOps.ofBits (F := Ideal) .f32) (h _)

theorem angles_eq : angles = Cert.Kernel8Ideal.Rope.angles := by
  unfold angles
  rw [rows_eq, cols_eq]
  rfl

end Cert.Reference8Ideal.Rope
end
-- ==== Proof.RopeQ.lean ====
/- The reference of the query and key norms with the rotary embedding, the queries read at an index. -/
module

public import proofs.«01_k».proof.Proof.Gen.Reference8Ideal.Run
public import proofs.«01_k».proof.Proof.RopeK
public import proofs.«01_k».proof.Proof.RopeT
public import proofs.«01_k».proof.Proof.RopeB

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

def normL8 (x : FVec Ideal S8x4096x8x128 .f32) (g : FVec Ideal S128 .f32) : FVec Ideal S8x4096x8x128 .f32 :=
  mulf (mulf x (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf x x) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 g))

theorem normL8_apply (x : FVec Ideal S8x4096x8x128 .f32) (g : FVec Ideal S128 .f32) (b : Fin 8) (r : Fin 4096) (h : Fin 8) (l : Fin 128) :
    normL8 x g (ix4 b r h l) = nrm (fun k => x (ix4 b r h k)) (fun k => g (ix1 k)) l := by
  unfold normL8 nrm
  pointwise!

def normC8 (x : FVec Ideal S8x256x8x128 .f32) (g : FVec Ideal S128 .f32) : FVec Ideal S8x256x8x128 .f32 :=
  mulf (mulf x (broadcastInDim S8x256x8x128 ![0, 1, 2, 3] bcast_S8x256x8x1_S8x256x8x128_0_1_2_3 (Host.rsqrt (addf (Host.divf (broadcastInDim S8x256x8x1 ![0, 1, 2] bcast_S8x256x8_S8x256x8x1_0_1_2 (Host.reduceAdd (mulf x x) (constant S_ .f32 0x00000000#32) reducesTo_S8x256x8x128_S8x256x8_d3 h_S_)) (broadcastInDim S8x256x8x1 ![] bcast_S_S8x256x8x1 (constant S_ .f32 0x43000000#32))) (broadcastInDim S8x256x8x1 ![] bcast_S_S8x256x8x1 (constant S_ .f32 0x358637BD#32)))))) (broadcastInDim S8x256x8x128 ![0, 1, 2, 3] bcast_S1x1x1x128_S8x256x8x128_0_1_2_3 (broadcastInDim S1x1x1x128 ![3] bcast_S128_S1x1x1x128_3 g))

theorem normC8_apply (x : FVec Ideal S8x256x8x128 .f32) (g : FVec Ideal S128 .f32) (b : Fin 8) (r : Fin 256) (h : Fin 8) (l : Fin 128) :
    normC8 x g (ix4 b r h l) = nrm (fun k => x (ix4 b r h k)) (fun k => g (ix1 k)) l := by
  unfold normC8 nrm
  pointwise!

def split8 (n : FVec Ideal S8x4096x8x128 .f32) : FVec Ideal S8x4096x8x2x2x32 .f32 := shapeCast S8x4096x8x2x2x32 n shapeCasts_S8x4096x8x128_S8x4096x8x2x2x32

def firsts8 (y : FVec Ideal S8x4096x8x2x2x32 .f32) : FVec Ideal S8x4096x8x2x32 .f32 :=
  shapeCast S8x4096x8x2x32 (extractStridedSlice S8x4096x8x2x1x32 ![0, 0, 0, 0, 0, 0] y slices_S8x4096x8x2x2x32_S8x4096x8x2x1x32_0_0_0_0_0_0) shapeCasts_S8x4096x8x2x1x32_S8x4096x8x2x32

def seconds8 (y : FVec Ideal S8x4096x8x2x2x32 .f32) : FVec Ideal S8x4096x8x2x32 .f32 :=
  shapeCast S8x4096x8x2x32 (extractStridedSlice S8x4096x8x2x1x32 ![0, 0, 0, 0, 1, 0] y slices_S8x4096x8x2x2x32_S8x4096x8x2x1x32_0_0_0_0_1_0) shapeCasts_S8x4096x8x2x1x32_S8x4096x8x2x32

def wide8 (t : FVec Ideal S4096x1x2x32 .f32) : FVec Ideal S8x4096x8x2x32 .f32 :=
  broadcastInDim S8x4096x8x2x32 ![0, 1, 2, 3, 4] bcast_S1x4096x1x2x32_S8x4096x8x2x32_0_1_2_3_4 (broadcastInDim S1x4096x1x2x32 ![1, 2, 3, 4] bcast_S4096x1x2x32_S1x4096x1x2x32_1_2_3_4 t)

def joined8 (u v : FVec Ideal S8x4096x8x2x32 .f32) : FVec Ideal S8x4096x8x128 .f32 :=
  shapeCast S8x4096x8x128 (concatenate S8x4096x8x2x2x32 4 [⟨S8x4096x8x2x1x32, broadcastInDim S8x4096x8x2x1x32 ![0, 1, 2, 3, 5] bcast_S8x4096x8x2x32_S8x4096x8x2x1x32_0_1_2_3_5 u⟩, ⟨S8x4096x8x2x1x32, broadcastInDim S8x4096x8x2x1x32 ![0, 1, 2, 3, 5] bcast_S8x4096x8x2x32_S8x4096x8x2x1x32_0_1_2_3_5 v⟩] concatenates_S8x4096x8x2x1x32_S8x4096x8x2x1x32_S8x4096x8x2x2x32_d4) shapeCasts_S8x4096x8x2x2x32_S8x4096x8x128

def rope8 (n : FVec Ideal S8x4096x8x128 .f32) (c s : FVec Ideal S4096x1x2x32 .f32) : FVec Ideal S8x4096x8x128 .f32 :=
  joined8 (subf (mulf (firsts8 (split8 n)) (wide8 c)) (mulf (seconds8 (split8 n)) (wide8 s))) (addf (mulf (firsts8 (split8 n)) (wide8 s)) (mulf (seconds8 (split8 n)) (wide8 c)))

theorem firsts8_apply (n : FVec Ideal S8x4096x8x128 .f32) (b : Fin 8) (r : Fin 4096) (h : Fin 8) (a : Fin 2) (f : Fin 32) :
    firsts8 (split8 n) (ix5 b r h a f) = n (ix4 b r h (laneOf a 0 f)) := by
  unfold firsts8 split8
  pointwise! [laneOf]

theorem seconds8_apply (n : FVec Ideal S8x4096x8x128 .f32) (b : Fin 8) (r : Fin 4096) (h : Fin 8) (a : Fin 2) (f : Fin 32) :
    seconds8 (split8 n) (ix5 b r h a f) = n (ix4 b r h (laneOf a 1 f)) := by
  unfold seconds8 split8
  pointwise! [laneOf]

theorem wide8_apply (x : FVec Ideal S4096x2x32 .f32) (b : Fin 8) (r : Fin 4096) (h : Fin 8) (a : Fin 2) (f : Fin 32) :
    wide8 (tabled x) (ix5 b r h a f) = x (ix3 r a f) := by
  unfold wide8 tabled
  pointwise!

theorem joined8_0 (u v : FVec Ideal S8x4096x8x2x32 .f32) (b : Fin 8) (r : Fin 4096) (h : Fin 8) (a : Fin 2) (f : Fin 32) :
    joined8 u v (ix4 b r h (laneOf a 0 f)) = u (ix5 b r h a f) := by
  unfold joined8
  pointwise! [laneOf]
  rw [dif_pos (by omega)]

theorem joined8_1 (u v : FVec Ideal S8x4096x8x2x32 .f32) (b : Fin 8) (r : Fin 4096) (h : Fin 8) (a : Fin 2) (f : Fin 32) :
    joined8 u v (ix4 b r h (laneOf a 1 f)) = v (ix5 b r h a f) := by
  unfold joined8
  pointwise! [laneOf]
  rw [dif_neg (by omega)]

theorem rope8_0 (n : FVec Ideal S8x4096x8x128 .f32) (c s : FVec Ideal S4096x2x32 .f32) (b : Fin 8) (r : Fin 4096) (h : Fin 8) (a : Fin 2) (f : Fin 32) :
    rope8 n (tabled c) (tabled s) (ix4 b r h (laneOf a 0 f)) = n (ix4 b r h (laneOf a 0 f)) * c (ix3 r a f) - n (ix4 b r h (laneOf a 1 f)) * s (ix3 r a f) := by
  rw [← firsts8_apply n, ← seconds8_apply n, ← wide8_apply c b r h a f, ← wide8_apply s b r h a f]
  exact joined8_0 _ _ b r h a f

theorem rope8_1 (n : FVec Ideal S8x4096x8x128 .f32) (c s : FVec Ideal S4096x2x32 .f32) (b : Fin 8) (r : Fin 4096) (h : Fin 8) (a : Fin 2) (f : Fin 32) :
    rope8 n (tabled c) (tabled s) (ix4 b r h (laneOf a 1 f)) = n (ix4 b r h (laneOf a 0 f)) * s (ix3 r a f) + n (ix4 b r h (laneOf a 1 f)) * c (ix3 r a f) := by
  rw [← firsts8_apply n, ← seconds8_apply n, ← wide8_apply c b r h a f, ← wide8_apply s b r h a f]
  exact joined8_1 _ _ b r h a f

def scaleL8 (x : FVec Ideal S8x4096x8x128 .f32) : FVec Ideal S8x4096x8x128 .f32 := mulf x (broadcastInDim S8x4096x8x128 ![] bcast_S_S8x4096x8x128 (constant S_ .f32 0x3DB504F3#32))
def scaleC8 (x : FVec Ideal S8x256x8x128 .f32) : FVec Ideal S8x256x8x128 .f32 := mulf x (broadcastInDim S8x256x8x128 ![] bcast_S_S8x256x8x128 (constant S_ .f32 0x3DB504F3#32))

/-- The heads out of the projections. -/
def part8 (P : FVec Ideal S8x4352x13824 .bf16) : FVec Ideal S8x4352x8x128 .f32 :=
  shapeCast S8x4352x8x128 (extf .f32 (extractStridedSlice S8x4352x1024 ![0, 0, 3072] P slices_S8x4352x13824_S8x4352x1024_0_0_3072) bitsLt_bf16_f32) shapeCasts_S8x4352x1024_S8x4352x8x128
def latent8 (x : FVec Ideal S8x4352x8x128 .f32) : FVec Ideal S8x4096x8x128 .f32 := extractStridedSlice S8x4096x8x128 ![0, 0, 0, 0] x slices_S8x4352x8x128_S8x4096x8x128_0_0_0_0
def context8 (x : FVec Ideal S8x4352x8x128 .f32) : FVec Ideal S8x256x8x128 .f32 := extractStridedSlice S8x256x8x128 ![0, 4096, 0, 0] x slices_S8x4352x8x128_S8x256x8x128_0_4096_0_0

theorem latent8_apply (P : FVec Ideal S8x4352x13824 .bf16) (b : Fin 8) (r : Fin 4096) (h : Fin 8) (l : Fin 128) :
    latent8 (part8 P) (ix4 b r h l) = P (ix3 b ⟨r.val, by omega⟩ ⟨3072 + (128 * h.val + l.val), by omega⟩) := by
  unfold latent8 part8
  pointwise!

theorem context8_apply (P : FVec Ideal S8x4352x13824 .bf16) (b : Fin 8) (r : Fin 256) (h : Fin 8) (l : Fin 128) :
    context8 (part8 P) (ix4 b r h l) = P (ix3 b ⟨4096 + r.val, by omega⟩ ⟨3072 + (128 * h.val + l.val), by omega⟩) := by
  unfold context8 part8
  pointwise!

def tokens8 (x : FVec Ideal S8x4096x8x128 .f32) (y : FVec Ideal S8x256x8x128 .f32) : FVec Ideal S8x4352x8x128 .f32 :=
  concatenate S8x4352x8x128 1 [⟨S8x4096x8x128, x⟩, ⟨S8x256x8x128, y⟩] concatenates_S8x4096x8x128_S8x256x8x128_S8x4352x8x128_d1

theorem tokens8_latent (x : FVec Ideal S8x4096x8x128 .f32) (y : FVec Ideal S8x256x8x128 .f32) (b : Fin 8) (r : Fin 4096) (h : Fin 8) (l : Fin 128) :
    tokens8 x y (ix4 b ⟨r.val, by omega⟩ h l) = x (ix4 b r h l) := by
  unfold tokens8
  pointwise!

theorem tokens8_context (x : FVec Ideal S8x4096x8x128 .f32) (y : FVec Ideal S8x256x8x128 .f32) (b : Fin 8) (r : Fin 256) (h : Fin 8) (l : Fin 128) :
    tokens8 x y (ix4 b ⟨4096 + r.val, by omega⟩ h l) = y (ix4 b r h l) := by
  unfold tokens8
  pointwise!

end Cert.Reference8Ideal.Rope
end
-- ==== Proof.RopeY.lean ====
/- The reference of the query and key norms with the rotary embedding, the keys read at an index. -/
module

public import proofs.«01_k».proof.Proof.Gen.Reference8Ideal.Run
public import proofs.«01_k».proof.Proof.RopeK
public import proofs.«01_k».proof.Proof.RopeT
public import proofs.«01_k».proof.Proof.RopeB

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

def normL2 (x : FVec Ideal S8x4096x2x128 .f32) (g : FVec Ideal S128 .f32) : FVec Ideal S8x4096x2x128 .f32 :=
  mulf (mulf x (broadcastInDim S8x4096x2x128 ![0, 1, 2, 3] bcast_S8x4096x2x1_S8x4096x2x128_0_1_2_3 (Host.rsqrt (addf (Host.divf (broadcastInDim S8x4096x2x1 ![0, 1, 2] bcast_S8x4096x2_S8x4096x2x1_0_1_2 (Host.reduceAdd (mulf x x) (constant S_ .f32 0x00000000#32) reducesTo_S8x4096x2x128_S8x4096x2_d3 h_S_)) (broadcastInDim S8x4096x2x1 ![] bcast_S_S8x4096x2x1 (constant S_ .f32 0x43000000#32))) (broadcastInDim S8x4096x2x1 ![] bcast_S_S8x4096x2x1 (constant S_ .f32 0x358637BD#32)))))) (broadcastInDim S8x4096x2x128 ![0, 1, 2, 3] bcast_S1x1x1x128_S8x4096x2x128_0_1_2_3 (broadcastInDim S1x1x1x128 ![3] bcast_S128_S1x1x1x128_3 g))

theorem normL2_apply (x : FVec Ideal S8x4096x2x128 .f32) (g : FVec Ideal S128 .f32) (b : Fin 8) (r : Fin 4096) (h : Fin 2) (l : Fin 128) :
    normL2 x g (ix4 b r h l) = nrm (fun k => x (ix4 b r h k)) (fun k => g (ix1 k)) l := by
  unfold normL2 nrm
  pointwise!

def normC2 (x : FVec Ideal S8x256x2x128 .f32) (g : FVec Ideal S128 .f32) : FVec Ideal S8x256x2x128 .f32 :=
  mulf (mulf x (broadcastInDim S8x256x2x128 ![0, 1, 2, 3] bcast_S8x256x2x1_S8x256x2x128_0_1_2_3 (Host.rsqrt (addf (Host.divf (broadcastInDim S8x256x2x1 ![0, 1, 2] bcast_S8x256x2_S8x256x2x1_0_1_2 (Host.reduceAdd (mulf x x) (constant S_ .f32 0x00000000#32) reducesTo_S8x256x2x128_S8x256x2_d3 h_S_)) (broadcastInDim S8x256x2x1 ![] bcast_S_S8x256x2x1 (constant S_ .f32 0x43000000#32))) (broadcastInDim S8x256x2x1 ![] bcast_S_S8x256x2x1 (constant S_ .f32 0x358637BD#32)))))) (broadcastInDim S8x256x2x128 ![0, 1, 2, 3] bcast_S1x1x1x128_S8x256x2x128_0_1_2_3 (broadcastInDim S1x1x1x128 ![3] bcast_S128_S1x1x1x128_3 g))

theorem normC2_apply (x : FVec Ideal S8x256x2x128 .f32) (g : FVec Ideal S128 .f32) (b : Fin 8) (r : Fin 256) (h : Fin 2) (l : Fin 128) :
    normC2 x g (ix4 b r h l) = nrm (fun k => x (ix4 b r h k)) (fun k => g (ix1 k)) l := by
  unfold normC2 nrm
  pointwise!

def split2 (n : FVec Ideal S8x4096x2x128 .f32) : FVec Ideal S8x4096x2x2x2x32 .f32 := shapeCast S8x4096x2x2x2x32 n shapeCasts_S8x4096x2x128_S8x4096x2x2x2x32

def firsts2 (y : FVec Ideal S8x4096x2x2x2x32 .f32) : FVec Ideal S8x4096x2x2x32 .f32 :=
  shapeCast S8x4096x2x2x32 (extractStridedSlice S8x4096x2x2x1x32 ![0, 0, 0, 0, 0, 0] y slices_S8x4096x2x2x2x32_S8x4096x2x2x1x32_0_0_0_0_0_0) shapeCasts_S8x4096x2x2x1x32_S8x4096x2x2x32

def seconds2 (y : FVec Ideal S8x4096x2x2x2x32 .f32) : FVec Ideal S8x4096x2x2x32 .f32 :=
  shapeCast S8x4096x2x2x32 (extractStridedSlice S8x4096x2x2x1x32 ![0, 0, 0, 0, 1, 0] y slices_S8x4096x2x2x2x32_S8x4096x2x2x1x32_0_0_0_0_1_0) shapeCasts_S8x4096x2x2x1x32_S8x4096x2x2x32

def wide2 (t : FVec Ideal S4096x1x2x32 .f32) : FVec Ideal S8x4096x2x2x32 .f32 :=
  broadcastInDim S8x4096x2x2x32 ![0, 1, 2, 3, 4] bcast_S1x4096x1x2x32_S8x4096x2x2x32_0_1_2_3_4 (broadcastInDim S1x4096x1x2x32 ![1, 2, 3, 4] bcast_S4096x1x2x32_S1x4096x1x2x32_1_2_3_4 t)

def joined2 (u v : FVec Ideal S8x4096x2x2x32 .f32) : FVec Ideal S8x4096x2x128 .f32 :=
  shapeCast S8x4096x2x128 (concatenate S8x4096x2x2x2x32 4 [⟨S8x4096x2x2x1x32, broadcastInDim S8x4096x2x2x1x32 ![0, 1, 2, 3, 5] bcast_S8x4096x2x2x32_S8x4096x2x2x1x32_0_1_2_3_5 u⟩, ⟨S8x4096x2x2x1x32, broadcastInDim S8x4096x2x2x1x32 ![0, 1, 2, 3, 5] bcast_S8x4096x2x2x32_S8x4096x2x2x1x32_0_1_2_3_5 v⟩] concatenates_S8x4096x2x2x1x32_S8x4096x2x2x1x32_S8x4096x2x2x2x32_d4) shapeCasts_S8x4096x2x2x2x32_S8x4096x2x128

def rope2 (n : FVec Ideal S8x4096x2x128 .f32) (c s : FVec Ideal S4096x1x2x32 .f32) : FVec Ideal S8x4096x2x128 .f32 :=
  joined2 (subf (mulf (firsts2 (split2 n)) (wide2 c)) (mulf (seconds2 (split2 n)) (wide2 s))) (addf (mulf (firsts2 (split2 n)) (wide2 s)) (mulf (seconds2 (split2 n)) (wide2 c)))

theorem firsts2_apply (n : FVec Ideal S8x4096x2x128 .f32) (b : Fin 8) (r : Fin 4096) (h : Fin 2) (a : Fin 2) (f : Fin 32) :
    firsts2 (split2 n) (ix5 b r h a f) = n (ix4 b r h (laneOf a 0 f)) := by
  unfold firsts2 split2
  pointwise! [laneOf]

theorem seconds2_apply (n : FVec Ideal S8x4096x2x128 .f32) (b : Fin 8) (r : Fin 4096) (h : Fin 2) (a : Fin 2) (f : Fin 32) :
    seconds2 (split2 n) (ix5 b r h a f) = n (ix4 b r h (laneOf a 1 f)) := by
  unfold seconds2 split2
  pointwise! [laneOf]

theorem wide2_apply (x : FVec Ideal S4096x2x32 .f32) (b : Fin 8) (r : Fin 4096) (h : Fin 2) (a : Fin 2) (f : Fin 32) :
    wide2 (tabled x) (ix5 b r h a f) = x (ix3 r a f) := by
  unfold wide2 tabled
  pointwise!

theorem joined2_0 (u v : FVec Ideal S8x4096x2x2x32 .f32) (b : Fin 8) (r : Fin 4096) (h : Fin 2) (a : Fin 2) (f : Fin 32) :
    joined2 u v (ix4 b r h (laneOf a 0 f)) = u (ix5 b r h a f) := by
  unfold joined2
  pointwise! [laneOf]
  rw [dif_pos (by omega)]

theorem joined2_1 (u v : FVec Ideal S8x4096x2x2x32 .f32) (b : Fin 8) (r : Fin 4096) (h : Fin 2) (a : Fin 2) (f : Fin 32) :
    joined2 u v (ix4 b r h (laneOf a 1 f)) = v (ix5 b r h a f) := by
  unfold joined2
  pointwise! [laneOf]
  rw [dif_neg (by omega)]

theorem rope2_0 (n : FVec Ideal S8x4096x2x128 .f32) (c s : FVec Ideal S4096x2x32 .f32) (b : Fin 8) (r : Fin 4096) (h : Fin 2) (a : Fin 2) (f : Fin 32) :
    rope2 n (tabled c) (tabled s) (ix4 b r h (laneOf a 0 f)) = n (ix4 b r h (laneOf a 0 f)) * c (ix3 r a f) - n (ix4 b r h (laneOf a 1 f)) * s (ix3 r a f) := by
  rw [← firsts2_apply n, ← seconds2_apply n, ← wide2_apply c b r h a f, ← wide2_apply s b r h a f]
  exact joined2_0 _ _ b r h a f

theorem rope2_1 (n : FVec Ideal S8x4096x2x128 .f32) (c s : FVec Ideal S4096x2x32 .f32) (b : Fin 8) (r : Fin 4096) (h : Fin 2) (a : Fin 2) (f : Fin 32) :
    rope2 n (tabled c) (tabled s) (ix4 b r h (laneOf a 1 f)) = n (ix4 b r h (laneOf a 0 f)) * s (ix3 r a f) + n (ix4 b r h (laneOf a 1 f)) * c (ix3 r a f) := by
  rw [← firsts2_apply n, ← seconds2_apply n, ← wide2_apply c b r h a f, ← wide2_apply s b r h a f]
  exact joined2_1 _ _ b r h a f

/-- The heads out of the projections. -/
def part2 (P : FVec Ideal S8x4352x13824 .bf16) : FVec Ideal S8x4352x2x128 .f32 :=
  shapeCast S8x4352x2x128 (extf .f32 (extractStridedSlice S8x4352x256 ![0, 0, 4096] P slices_S8x4352x13824_S8x4352x256_0_0_4096) bitsLt_bf16_f32) shapeCasts_S8x4352x256_S8x4352x2x128
def latent2 (x : FVec Ideal S8x4352x2x128 .f32) : FVec Ideal S8x4096x2x128 .f32 := extractStridedSlice S8x4096x2x128 ![0, 0, 0, 0] x slices_S8x4352x2x128_S8x4096x2x128_0_0_0_0
def context2 (x : FVec Ideal S8x4352x2x128 .f32) : FVec Ideal S8x256x2x128 .f32 := extractStridedSlice S8x256x2x128 ![0, 4096, 0, 0] x slices_S8x4352x2x128_S8x256x2x128_0_4096_0_0

theorem latent2_apply (P : FVec Ideal S8x4352x13824 .bf16) (b : Fin 8) (r : Fin 4096) (h : Fin 2) (l : Fin 128) :
    latent2 (part2 P) (ix4 b r h l) = P (ix3 b ⟨r.val, by omega⟩ ⟨4096 + (128 * h.val + l.val), by omega⟩) := by
  unfold latent2 part2
  pointwise!

theorem context2_apply (P : FVec Ideal S8x4352x13824 .bf16) (b : Fin 8) (r : Fin 256) (h : Fin 2) (l : Fin 128) :
    context2 (part2 P) (ix4 b r h l) = P (ix3 b ⟨4096 + r.val, by omega⟩ ⟨4096 + (128 * h.val + l.val), by omega⟩) := by
  unfold context2 part2
  pointwise!

def tokens2 (x : FVec Ideal S8x4096x2x128 .f32) (y : FVec Ideal S8x256x2x128 .f32) : FVec Ideal S8x4352x2x128 .f32 :=
  concatenate S8x4352x2x128 1 [⟨S8x4096x2x128, x⟩, ⟨S8x256x2x128, y⟩] concatenates_S8x4096x2x128_S8x256x2x128_S8x4352x2x128_d1

theorem tokens2_latent (x : FVec Ideal S8x4096x2x128 .f32) (y : FVec Ideal S8x256x2x128 .f32) (b : Fin 8) (r : Fin 4096) (h : Fin 2) (l : Fin 128) :
    tokens2 x y (ix4 b ⟨r.val, by omega⟩ h l) = x (ix4 b r h l) := by
  unfold tokens2
  pointwise!

theorem tokens2_context (x : FVec Ideal S8x4096x2x128 .f32) (y : FVec Ideal S8x256x2x128 .f32) (b : Fin 8) (r : Fin 256) (h : Fin 2) (l : Fin 128) :
    tokens2 x y (ix4 b ⟨4096 + r.val, by omega⟩ h l) = y (ix4 b r h l) := by
  unfold tokens2
  pointwise!

end Cert.Reference8Ideal.Rope
end
-- ==== Proof.RopeW.lean ====
/- The reference of the query and key norms with the rotary embedding, the array read at an index. -/
module

public import proofs.«01_k».proof.Proof.Gen.Reference8Ideal.Run
public import proofs.«01_k».proof.Proof.RopeK
public import proofs.«01_k».proof.Proof.RopeT
public import proofs.«01_k».proof.Proof.RopeQ
public import proofs.«01_k».proof.Proof.RopeY

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

/-- The heads side by side. -/
def heads (q : FVec Ideal S8x4352x8x128 .f32) (k : FVec Ideal S8x4352x2x128 .f32) : FVec Ideal S8x4352x10x128 .f32 :=
  concatenate S8x4352x10x128 2 [⟨S8x4352x8x128, q⟩, ⟨S8x4352x2x128, k⟩] concatenates_S8x4352x8x128_S8x4352x2x128_S8x4352x10x128_d2

def flat (u : FVec Ideal S8x4352x10x128 .f32) : FVec Ideal S8x4352x1280 .bf16 :=
  truncf .bf16 (shapeCast S8x4352x1280 u shapeCasts_S8x4352x10x128_S8x4352x1280) bitsLt_bf16_f32

theorem flat_apply (u : FVec Ideal S8x4352x10x128 .f32) (b : Fin 8) (r : Fin 4352) (h : Fin 10) (l : Fin 128) :
    flat u (ix3 b r ⟨128 * h.val + l.val, by omega⟩) = u (ix4 b r h l) := by
  unfold flat
  pointwise!

theorem heads_Q (q : FVec Ideal S8x4352x8x128 .f32) (k : FVec Ideal S8x4352x2x128 .f32) (b : Fin 8) (r : Fin 4352) (h : Fin 8) (l : Fin 128) :
    heads q k (ix4 b r ⟨h.val, by omega⟩ l) = q (ix4 b r h l) := by
  unfold heads
  refine concatenate_apply_piece 2 [⟨S8x4352x8x128, q⟩, ⟨S8x4352x2x128, k⟩] concatenates_S8x4352x8x128_S8x4352x2x128_S8x4352x10x128_d2 _ 0 (show 0 < 2 by decide) S8x4352x8x128 q rfl rfl 0 rfl (ix4 b r h l) (fun a ha => ?_) ?_
  · fin_cases a
    · rfl
    · rfl
    · exact absurd rfl ha
    · rfl
  · show 0 + h.val = h.val
    omega

theorem heads_K (q : FVec Ideal S8x4352x8x128 .f32) (k : FVec Ideal S8x4352x2x128 .f32) (b : Fin 8) (r : Fin 4352) (h : Fin 2) (l : Fin 128) :
    heads q k (ix4 b r ⟨8 + h.val, by omega⟩ l) = k (ix4 b r h l) := by
  unfold heads
  refine concatenate_apply_piece 2 [⟨S8x4352x8x128, q⟩, ⟨S8x4352x2x128, k⟩] concatenates_S8x4352x8x128_S8x4352x2x128_S8x4352x10x128_d2 _ 1 (show 1 < 2 by decide) S8x4352x2x128 k rfl rfl 8 rfl (ix4 b r h l) (fun a ha => ?_) ?_
  · fin_cases a
    · rfl
    · rfl
    · exact absurd rfl ha
    · rfl
  · rfl

def queries (P : FVec Ideal S8x4352x13824 .bf16) (g : FVec Ideal S128 .f32) : FVec Ideal S8x4352x8x128 .f32 :=
  tokens8 (scaleL8 (rope8 (normL8 (latent8 (part8 P)) g) (tabled (Host.cos angles)) (tabled (Host.sin angles)))) (scaleC8 (normC8 (context8 (part8 P)) g))

def keys (P : FVec Ideal S8x4352x13824 .bf16) (g : FVec Ideal S128 .f32) : FVec Ideal S8x4352x2x128 .f32 :=
  tokens2 (rope2 (normL2 (latent2 (part2 P)) g) (tabled (Host.cos angles)) (tabled (Host.sin angles))) (normC2 (context2 (part2 P)) g)

end Cert.Reference8Ideal.Rope
end
-- ==== Proof.RopeZ.lean ====
/- The reference of the query and key norms with the rotary embedding, its run. -/
module

public import proofs.«01_k».proof.Proof.Gen.Reference8Ideal.Run
public import proofs.«01_k».proof.Proof.RopeK
public import proofs.«01_k».proof.Proof.RopeT
public import proofs.«01_k».proof.Proof.RopeW
public import proofs.«01_k».proof.Proof.RopeY

@[expose] public section

set_option maxRecDepth 16384

noncomputable section

namespace Cert.Reference8Ideal.Rope

open Cert.Reference8Ideal Cert.Reference8Ideal.Gen Idealize.ShloMosaic Idealize.ShloMosaic.TcCoe Idealize.SL.Sem
open Cert.Kernel8Ideal.Rope (nrm peer half place)

/-- The reference's run ends with that array. -/
theorem ran (V0 : Valuation τ sig (Elt Ideal)) :
    truncf .bf16 (shapeCast _ (Value.res_main_v160 V0) shapeCasts_S8x4352x10x128_S8x4352x1280) bitsLt_bf16_f32 = flat (heads (queries (V0 (Proc.devRef .tc main_arg0)) (V0 (Proc.devRef .tc main_arg1))) (keys (V0 (Proc.devRef .tc main_arg0)) (V0 (Proc.devRef .tc main_arg2)))) := by
  unfold flat heads queries keys tokens8 tokens2 scaleL8 scaleC8 rope8 rope2 joined8 joined2 firsts8 firsts2 seconds8 seconds2 split8 split2 normL8 normL2 normC8 normC2 wide8 wide2 tabled latent8 latent2 context8 context2 part8 part2
  unfold Value.res_main_v160 Value.res_main_v144 Value.res_main_v128 Value.res_main_v45 Value.res_main_v47 Value.res_main_v107 Value.res_main_v109 Value.res_main_v43 Value.res_main_v105 Value.res_main_v40 Value.res_main_v42 Value.res_main_v102 Value.res_main_v104 Value.res_main_v6 Value.res_main_v68 Value.res_main_v2 Value.res_main_v5
  have a38 : Value.res_main_v38 V0 = angles := rfl
  have a100 : Value.res_main_v100 V0 = angles := rfl
  rw [a38, a100]
  rfl

end Cert.Reference8Ideal.Rope
end
-- ==== Proof.RopeClaim.lean ====
/- The query and key norms with the rotary embedding: the reference's array is the kernel's, and the claims. -/
module

public import proofs.«01_k».proof.Defs
public import proofs.«01_k».proof.Proof.RopeA
public import proofs.«01_k».proof.Proof.RopeL
public import proofs.«01_k».proof.Proof.RopeZ
public import Idealize.ShloMosaic.Lib.Quiescent

@[expose] public section

set_option maxRecDepth 16384

noncomputable section

namespace Cert.Kernel8Ideal.Rope

open Cert.Kernel8Ideal Cert.Kernel8Ideal.Gen Idealize.ShloMosaic Idealize.ShloMosaic.TcCoe Idealize.SL.Sem
open Cert.Reference8Ideal.Rope (laneOf)

/-- The scale of the queries. -/
def scale : EReal := Ideal.ofBits .f32 0x3DB504F3#32

theorem scale_coe : ∃ s : ℝ, 0 ≤ s ∧ scale = (s : EReal) := by
  refine ⟨11863283 * (2 ^ 27)⁻¹, by norm_num, ?_⟩
  unfold scale
  simp [Ideal.ofBits, Ideal.ieee, -EReal.coe_mul]

theorem scale_nonneg : 0 ≤ scale := by
  obtain ⟨s, h, e⟩ := scale_coe
  rw [e]
  exact EReal.coe_nonneg.2 h

theorem scale_ne_top : scale ≠ ⊤ := by
  obtain ⟨s, -, e⟩ := scale_coe
  rw [e]
  exact EReal.coe_ne_top s

theorem nrm_scale (x g : Fin 128 → EReal) (l : Fin 128) : nrm x (fun k => g k * scale) l = nrm x g l * scale := (mul_assoc _ _ _).symm

theorem turned_first (u v c w : EReal) : u * scale * c + v * scale * (w * -1) = (u * c - v * w) * scale := by
  rw [sub_eq_add_neg, EReal.right_distrib_of_nonneg_of_ne_top scale_nonneg scale_ne_top, mul_right_comm u, mul_neg, mul_one, mul_neg, mul_right_comm v, neg_mul]

theorem turned_second (u v c w : EReal) : v * scale * c + u * scale * (w * 1) = (u * w + v * c) * scale := by
  rw [EReal.right_distrib_of_nonneg_of_ne_top scale_nonneg scale_ne_top, mul_right_comm v, mul_one, mul_right_comm u, add_comm]

theorem half_lane (a q : Fin 2) (f : Fin 32) : half (laneOf a q f) = a := Fin.ext (by show (64 * a.val + 32 * q.val + f.val) / 64 = a.val; omega)
theorem place_lane (a q : Fin 2) (f : Fin 32) : place (laneOf a q f) = f := Fin.ext (by show (64 * a.val + 32 * q.val + f.val) % 32 = f.val; omega)
theorem val_0 (a : Fin 2) (f : Fin 32) : (laneOf a 0 f).val % 64 < 32 := by show (64 * a.val + 32 * 0 + f.val) % 64 < 32; omega
theorem val_1 (a : Fin 2) (f : Fin 32) : ¬ (laneOf a 1 f).val % 64 < 32 := by show ¬ (64 * a.val + 32 * 1 + f.val) % 64 < 32; omega

theorem peer_0 (a : Fin 2) (f : Fin 32) : peer (laneOf a 0 f) = laneOf a 1 f := by
  unfold peer
  rw [dif_pos (val_0 a f)]
  exact Fin.ext (by show 64 * a.val + 32 * 0 + f.val + 32 = 64 * a.val + 32 * 1 + f.val; omega)

theorem peer_1 (a : Fin 2) (f : Fin 32) : peer (laneOf a 1 f) = laneOf a 0 f := by
  unfold peer
  rw [dif_neg (val_1 a f)]
  exact Fin.ext (by show 64 * a.val + 32 * 1 + f.val - 32 = 64 * a.val + 32 * 0 + f.val; omega)

theorem lane_cases (l : Fin 128) : ∃ (a : Fin 2) (f : Fin 32), l = laneOf a 0 f ∨ l = laneOf a 1 f := by
  refine ⟨half l, place l, ?_⟩
  by_cases h : l.val % 64 < 32
  · exact Or.inl (Fin.ext (by show l.val = 64 * (l.val / 64) + 32 * 0 + l.val % 32; omega))
  · exact Or.inr (Fin.ext (by show l.val = 64 * (l.val / 64) + 32 * 1 + l.val % 32; omega))

/-- The tables at a latent token and at a context token. -/
def cosT (r : Fin 4352) (k : Fin 128) : EReal := under (spread (Host.cos angles)) 0x3F800000#32 (ix2 r k)
def sinT (r : Fin 4352) (k : Fin 128) : EReal := under (signed (spread (Host.sin angles)) signs) 0x00000000#32 (ix2 r k)

theorem cosT_latent (r : Fin 4096) (a q : Fin 2) (f : Fin 32) : cosT ⟨r.val, by omega⟩ (laneOf a q f) = Host.cos angles (ix3 r a f) := by
  unfold cosT
  rw [under_latent, spread_apply, half_lane, place_lane]

theorem sinT_latent_0 (r : Fin 4096) (a : Fin 2) (f : Fin 32) : sinT ⟨r.val, by omega⟩ (laneOf a 0 f) = Host.sin angles (ix3 r a f) * -1 := by
  unfold sinT
  rw [under_latent, signed_apply, signs_apply, if_pos (val_0 a f), spread_apply, half_lane, place_lane]

theorem sinT_latent_1 (r : Fin 4096) (a : Fin 2) (f : Fin 32) : sinT ⟨r.val, by omega⟩ (laneOf a 1 f) = Host.sin angles (ix3 r a f) * 1 := by
  unfold sinT
  rw [under_latent, signed_apply, signs_apply, if_neg (val_1 a f), spread_apply, half_lane, place_lane]

theorem cosT_context (r : Fin 256) (l : Fin 128) : cosT ⟨4096 + r.val, by omega⟩ l = 1 :=
  (under_context _ _ r l).trans Ideal.ofBits_one_f32

theorem sinT_context (r : Fin 256) (l : Fin 128) : sinT ⟨4096 + r.val, by omega⟩ l = 0 :=
  (under_context _ _ r l).trans (Ideal.ofBits_zero_f32)

/-- An entry at a head and a lane. -/
theorem entry_at (P : S8x4352x13824.Idx → EReal) (x y : FVec Ideal S128 .f32) (b : Fin 8) (r : Fin 4352) (h : Fin 10) (l : Fin 128) :
    entry P x y b r ⟨128 * h.val + l.val, by omega⟩ = turn (head P b r h) (fun k => gains x y (ix2 0 ⟨128 * h.val + k.val, by omega⟩)) (cosT r) (sinT r) l := by
  have d : (128 * h.val + l.val) / 128 = h.val := by omega
  have e : headAt ⟨128 * h.val + l.val, by omega⟩ = h := Fin.ext d
  have f : laneAt ⟨128 * h.val + l.val, by omega⟩ = l := Fin.ext (by show (128 * h.val + l.val) % 128 = l.val; omega)
  unfold entry
  rw [e, f]
  refine congrArg (fun g => turn (head P b r h) g (cosT r) (sinT r) l) (funext fun k => congrArg (fun t => gains x y (ix2 0 t)) (Fin.ext ?_))
  show 128 * ((128 * h.val + l.val) / 128) + k.val = 128 * h.val + k.val
  rw [d]

theorem turn_context (x g : Fin 128 → EReal) (r : Fin 256) (l : Fin 128) : turn x g (cosT ⟨4096 + r.val, by omega⟩) (sinT ⟨4096 + r.val, by omega⟩) l = nrm x g l := by
  unfold turn
  rw [cosT_context, sinT_context, mul_one, mul_zero, add_zero]

end Cert.Kernel8Ideal.Rope

namespace Cert.Reference8Ideal.Rope

open Cert.Reference8Ideal Cert.Reference8Ideal.Gen Idealize.ShloMosaic Idealize.ShloMosaic.TcCoe Idealize.SL.Sem
open Cert.Kernel8Ideal.Rope (nrm turn head scale cosT sinT)

theorem scaleL8_apply (x : FVec Ideal S8x4096x8x128 .f32) (i : S8x4096x8x128.Idx) : scaleL8 x i = x i * scale := rfl
theorem scaleC8_apply (x : FVec Ideal S8x256x8x128 .f32) (i : S8x256x8x128.Idx) : scaleC8 x i = x i * scale := rfl

/-- The gains of a query head and of a key head. -/
theorem gains_query (x y : FVec Ideal S128 .f32) (h : Fin 8) :
    (fun k : Fin 128 => Cert.Kernel8Ideal.Rope.gains x y (ix2 0 ⟨128 * h.val + k.val, by omega⟩)) = fun k => x (ix1 k) * scale := funext fun k => Cert.Kernel8Ideal.Rope.gains_Q x y h k
theorem gains_key (x y : FVec Ideal S128 .f32) (h : Fin 2) :
    (fun k : Fin 128 => Cert.Kernel8Ideal.Rope.gains x y (ix2 0 ⟨128 * (8 + h.val) + k.val, by omega⟩)) = fun k => y (ix1 k) := funext fun k => Cert.Kernel8Ideal.Rope.gains_K x y h k

theorem normL8_at (P : FVec Ideal S8x4352x13824 .bf16) (g : FVec Ideal S128 .f32) (b : Fin 8) (r : Fin 4096) (h : Fin 8) (l : Fin 128) :
    normL8 (latent8 (part8 P)) g (ix4 b r h l) = nrm (head P b ⟨r.val, by omega⟩ ⟨h.val, by omega⟩) (fun k => g (ix1 k)) l :=
  (normL8_apply _ g b r h l).trans (congrArg (fun u => nrm u _ l) (funext fun k => latent8_apply P b r h k))

theorem normC8_at (P : FVec Ideal S8x4352x13824 .bf16) (g : FVec Ideal S128 .f32) (b : Fin 8) (r : Fin 256) (h : Fin 8) (l : Fin 128) :
    normC8 (context8 (part8 P)) g (ix4 b r h l) = nrm (head P b ⟨4096 + r.val, by omega⟩ ⟨h.val, by omega⟩) (fun k => g (ix1 k)) l :=
  (normC8_apply _ g b r h l).trans (congrArg (fun u => nrm u _ l) (funext fun k => context8_apply P b r h k))

theorem key_column (h : Fin 2) (k : Fin 128) : (⟨4096 + (128 * h.val + k.val), by omega⟩ : Fin 13824) = ⟨3072 + (128 * (8 + h.val) + k.val), by omega⟩ := Fin.ext (by show 4096 + (128 * h.val + k.val) = 3072 + (128 * (8 + h.val) + k.val); omega)

theorem normL2_at (P : FVec Ideal S8x4352x13824 .bf16) (g : FVec Ideal S128 .f32) (b : Fin 8) (r : Fin 4096) (h : Fin 2) (l : Fin 128) :
    normL2 (latent2 (part2 P)) g (ix4 b r h l) = nrm (head P b ⟨r.val, by omega⟩ ⟨8 + h.val, by omega⟩) (fun k => g (ix1 k)) l :=
  (normL2_apply _ g b r h l).trans (congrArg (fun u => nrm u _ l) (funext fun k => (latent2_apply P b r h k).trans (congrArg (fun t => P (ix3 b ⟨r.val, by omega⟩ t)) (key_column h k))))

theorem normC2_at (P : FVec Ideal S8x4352x13824 .bf16) (g : FVec Ideal S128 .f32) (b : Fin 8) (r : Fin 256) (h : Fin 2) (l : Fin 128) :
    normC2 (context2 (part2 P)) g (ix4 b r h l) = nrm (head P b ⟨4096 + r.val, by omega⟩ ⟨8 + h.val, by omega⟩) (fun k => g (ix1 k)) l :=
  (normC2_apply _ g b r h l).trans (congrArg (fun u => nrm u _ l) (funext fun k => (context2_apply P b r h k).trans (congrArg (fun t => P (ix3 b ⟨4096 + r.val, by omega⟩ t)) (key_column h k))))

/-- The queries of the reference are the kernel's turned heads. -/
theorem queries_latent (P : FVec Ideal S8x4352x13824 .bf16) (x y : FVec Ideal S128 .f32) (b : Fin 8) (r : Fin 4096) (h : Fin 8) (l : Fin 128) :
    queries P x (ix4 b ⟨r.val, by omega⟩ h l) = turn (head P b ⟨r.val, by omega⟩ ⟨h.val, by omega⟩) (fun k => x (ix1 k) * scale) (cosT ⟨r.val, by omega⟩) (sinT ⟨r.val, by omega⟩) l := by
  unfold queries turn
  refine (tokens8_latent _ _ b r h l).trans ((scaleL8_apply _ _).trans ?_)
  rw [Cert.Kernel8Ideal.Rope.nrm_scale _ (fun k => x (ix1 k)), Cert.Kernel8Ideal.Rope.nrm_scale _ (fun k => x (ix1 k)), angles_eq]
  obtain ⟨a, f, rfl | rfl⟩ := Cert.Kernel8Ideal.Rope.lane_cases l
  · rw [rope8_0, normL8_at, normL8_at, Cert.Kernel8Ideal.Rope.peer_0, Cert.Kernel8Ideal.Rope.cosT_latent, Cert.Kernel8Ideal.Rope.sinT_latent_0]
    exact (Cert.Kernel8Ideal.Rope.turned_first _ _ _ _).symm
  · rw [rope8_1, normL8_at, normL8_at, Cert.Kernel8Ideal.Rope.peer_1, Cert.Kernel8Ideal.Rope.cosT_latent, Cert.Kernel8Ideal.Rope.sinT_latent_1]
    exact (Cert.Kernel8Ideal.Rope.turned_second _ _ _ _).symm

theorem queries_context (P : FVec Ideal S8x4352x13824 .bf16) (x : FVec Ideal S128 .f32) (b : Fin 8) (r : Fin 256) (h : Fin 8) (l : Fin 128) :
    queries P x (ix4 b ⟨4096 + r.val, by omega⟩ h l) = turn (head P b ⟨4096 + r.val, by omega⟩ ⟨h.val, by omega⟩) (fun k => x (ix1 k) * scale) (cosT ⟨4096 + r.val, by omega⟩) (sinT ⟨4096 + r.val, by omega⟩) l := by
  rw [Cert.Kernel8Ideal.Rope.turn_context, Cert.Kernel8Ideal.Rope.nrm_scale _ (fun k => x (ix1 k))]
  unfold queries
  refine (tokens8_context _ _ b r h l).trans ((scaleC8_apply _ _).trans ?_)
  rw [normC8_at]

/-- And so are the keys. -/
theorem keys_latent (P : FVec Ideal S8x4352x13824 .bf16) (y : FVec Ideal S128 .f32) (b : Fin 8) (r : Fin 4096) (h : Fin 2) (l : Fin 128) :
    keys P y (ix4 b ⟨r.val, by omega⟩ h l) = turn (head P b ⟨r.val, by omega⟩ ⟨8 + h.val, by omega⟩) (fun k => y (ix1 k)) (cosT ⟨r.val, by omega⟩) (sinT ⟨r.val, by omega⟩) l := by
  unfold keys turn
  refine (tokens2_latent _ _ b r h l).trans ?_
  rw [angles_eq]
  obtain ⟨a, f, rfl | rfl⟩ := Cert.Kernel8Ideal.Rope.lane_cases l
  · rw [rope2_0, normL2_at, normL2_at, Cert.Kernel8Ideal.Rope.peer_0, Cert.Kernel8Ideal.Rope.cosT_latent, Cert.Kernel8Ideal.Rope.sinT_latent_0, mul_neg, mul_one, mul_neg, ← sub_eq_add_neg]
  · rw [rope2_1, normL2_at, normL2_at, Cert.Kernel8Ideal.Rope.peer_1, Cert.Kernel8Ideal.Rope.cosT_latent, Cert.Kernel8Ideal.Rope.sinT_latent_1, mul_one, add_comm]

theorem keys_context (P : FVec Ideal S8x4352x13824 .bf16) (y : FVec Ideal S128 .f32) (b : Fin 8) (r : Fin 256) (h : Fin 2) (l : Fin 128) :
    keys P y (ix4 b ⟨4096 + r.val, by omega⟩ h l) = turn (head P b ⟨4096 + r.val, by omega⟩ ⟨8 + h.val, by omega⟩) (fun k => y (ix1 k)) (cosT ⟨4096 + r.val, by omega⟩) (sinT ⟨4096 + r.val, by omega⟩) l := by
  rw [Cert.Kernel8Ideal.Rope.turn_context]
  unfold keys
  refine (tokens2_context _ _ b r h l).trans ?_
  rw [normC2_at]

theorem token_cases (r : Fin 4352) : (∃ s : Fin 4096, r = ⟨s.val, by omega⟩) ∨ ∃ s : Fin 256, r = ⟨4096 + s.val, by omega⟩ := by
  by_cases h : r.val < 4096
  · exact Or.inl ⟨⟨r.val, h⟩, rfl⟩
  · exact Or.inr ⟨⟨r.val - 4096, by omega⟩, Fin.ext (by show r.val = 4096 + (r.val - 4096); omega)⟩

theorem head_cases (h : Fin 10) : (∃ s : Fin 8, h = ⟨s.val, by omega⟩) ∨ ∃ s : Fin 2, h = ⟨8 + s.val, by omega⟩ := by
  by_cases e : h.val < 8
  · exact Or.inl ⟨⟨h.val, e⟩, rfl⟩
  · exact Or.inr ⟨⟨h.val - 8, by omega⟩, Fin.ext (by show h.val = 8 + (h.val - 8); omega)⟩

/-- The reference's array is the kernel's. -/
theorem agree (P : FVec Ideal S8x4352x13824 .bf16) (x y : FVec Ideal S128 .f32) : flat (heads (queries P x) (keys P y)) = Cert.Kernel8Ideal.Rope.result P x y := by
  funext i
  obtain ⟨b, r, j, rfl⟩ : ∃ (b : Fin 8) (r : Fin 4352) (j : Fin 1280), i = ix3 b r j := ⟨i 0, i 1, i 2, by
    funext a
    fin_cases a <;> rfl⟩
  obtain ⟨h, l, rfl⟩ : ∃ (h : Fin 10) (l : Fin 128), j = ⟨128 * h.val + l.val, by omega⟩ := ⟨⟨j.val / 128, by omega⟩, ⟨j.val % 128, by omega⟩, Fin.ext (by show j.val = 128 * (j.val / 128) + j.val % 128; omega)⟩
  refine (flat_apply _ b r h l).trans (Eq.trans ?_ ((Cert.Kernel8Ideal.Rope.result_apply P x y b r _).trans (Cert.Kernel8Ideal.Rope.entry_at P x y b r h l)).symm)
  obtain ⟨n, rfl⟩ | ⟨n, rfl⟩ := head_cases h
  · refine (heads_Q _ _ b r n l).trans (Eq.trans ?_ (congrArg (fun g => turn (head P b r ⟨n.val, by omega⟩) g (cosT r) (sinT r) l) (gains_query x y n)).symm)
    obtain ⟨s, rfl⟩ | ⟨s, rfl⟩ := token_cases r
    · exact queries_latent P x y b s n l
    · exact queries_context P x b s n l
  · refine (heads_K _ _ b r n l).trans (Eq.trans ?_ (congrArg (fun g => turn (head P b r ⟨8 + n.val, by omega⟩) g (cosT r) (sinT r) l) (gains_key x y n)).symm)
    obtain ⟨s, rfl⟩ | ⟨s, rfl⟩ := token_cases r
    · exact keys_latent P y b s n l
    · exact keys_context P y b s n l

end Cert.Reference8Ideal.Rope

namespace Cert.Proof

open Idealize.ShloMosaic Idealize.SL.Sem

/-- The query and key norms: their reference runs, leaves its arguments and ends with every counter at zero. -/
theorem reference_frame8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run Cert.Reference8Ideal.defs _ _).mono (fun r h => ⟨fun c => (h c).2, sem_eq_zero_of_no_sems rfl _⟩) (Cert.Reference8Ideal.Value.run m g)

/-- The query and key norms: kernel and reference run and leave the same array. -/
theorem value8 : algebraic_Kernel8Ideal_Reference8Ideal (hKernel8Ideal := Cert.Kernel8Ideal.Gen.facts) (hReference8Ideal := Cert.Reference8Ideal.Gen.facts) := by
  intro m g m' g' hpre hagree
  refine ⟨fun c => (Cert.Kernel8Ideal.Gen.dats m 0 c).arrAt 5 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h0, h1, h2⟩ := hagree c
  refine ⟨(h c).1.trans ?_, (h c).2⟩
  refine (Cert.Reference8Ideal.Rope.ran (StableHlo.launchContents m' c)).trans (Eq.trans ?_ (Cert.Kernel8Ideal.Rope.array m c).symm)
  change Cert.Reference8Ideal.Rope.flat (Cert.Reference8Ideal.Rope.heads
    (Cert.Reference8Ideal.Rope.queries (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)))
    (Cert.Reference8Ideal.Rope.keys (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg2)))) = _
  rw [h0, h1, h2]
  exact Cert.Reference8Ideal.Rope.agree _ _ _

end Cert.Proof
end
-- ==== Proof.lean ====
/- Every claim about the layer's seven calls: the attention, the experts' two products, the input projection, the merge of the
   branches, the output projection and the modulation. The mathematics is in the modules under Proof/; here it is put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Finite
public import proofs.«01_k».proof.Proof.Hidden
public import proofs.«01_k».proof.Proof.Down
public import proofs.«01_k».proof.Proof.ProjClaim
public import proofs.«01_k».proof.Proof.MergeClaim
public import proofs.«01_k».proof.Proof.WoutClaim
public import proofs.«01_k».proof.Proof.Mod
public import proofs.«01_k».proof.Proof.RopeClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments and ends with every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems rfl _⟩) (Cert.ReferenceIdeal.Value.run m g)

/-- The kernel and the reference run and leave the same array. -/
theorem value : algebraic_KernelIdeal_ReferenceIdeal_pre_queries_and_keys_finite (hKernelIdeal := Cert.KernelIdeal.Gen.facts) (hReferenceIdeal := Cert.ReferenceIdeal.Gen.facts) (hPre_queries_and_keys_finite := Cert.Flash.facts) := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ?_) (Cert.ReferenceIdeal.Value.run m' g')
  exact ⟨(h c).1.trans (Cert.Flash.same m m' hpre c (hagree c).1 (hagree c).2), (h c).2⟩

/-- The experts' hidden layer: its reference runs, leaves its arguments and ends with every counter at zero. -/
theorem reference_frame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2, sem_eq_zero_of_no_sems rfl _⟩) (Cert.Reference2Ideal.Value.run m g)

/-- The experts' output projection: its reference runs, leaves its arguments and ends with every counter at zero. -/
theorem reference_frame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, sem_eq_zero_of_no_sems rfl _⟩) (Cert.Reference3Ideal.Value.run m g)

/-- The experts' hidden layer: kernel and reference run and leave the same array. -/
theorem value2 : algebraic_Kernel2Ideal_Reference2Ideal (hKernel2Ideal := Cert.Kernel2Ideal.Gen.facts) (hReference2Ideal := Cert.Reference2Ideal.Gen.facts) := by
  intro m g m' g' hpre hagree
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, h1, h2⟩ := hagree c
  refine ⟨(h c).1.trans ?_, (h c).2⟩
  refine Eq.trans ?_ (Cert.Kernel2Ideal.Hidden.array m c).symm
  rw [h0, h1, h2]
  exact Cert.Reference2Ideal.Hidden.hidden _ _ _

/-- The experts' output projection: kernel and reference run and leave the same array. -/
theorem value3 : algebraic_Kernel3Ideal_Reference3Ideal (hKernel3Ideal := Cert.Kernel3Ideal.Gen.facts) (hReference3Ideal := Cert.Reference3Ideal.Gen.facts) := by
  intro m g m' g' hpre hagree
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, h1, h2⟩ := hagree c
  refine ⟨(h c).1.trans ?_, (h c).2⟩
  refine Eq.trans ?_ (Cert.Kernel3Ideal.Down.array m c).symm
  rw [h0, h1, h2]
  exact Cert.Reference3Ideal.Down.projected _ _ _

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Flash.facts, Cert.Wout.facts,
  fun m ρ _ => Cert.Kernel.Gen.frame m ρ, fun m ρ _ => Cert.KernelIdeal.Gen.frame m ρ, fun m ρ _ => Cert.KernelIdeal.Gen.frame m ρ,
  fun m g _ => reference_frame m g, fun m g _ => reference_frame m g,
  fun m ρ _ => Cert.Kernel2.Gen.frame m ρ, fun m ρ _ => Cert.Kernel2Ideal.Gen.frame m ρ, fun m g _ => reference_frame2 m g,
  fun m ρ _ => Cert.Kernel3.Gen.frame m ρ, fun m ρ _ => Cert.Kernel3Ideal.Gen.frame m ρ, fun m g _ => reference_frame3 m g,
  frame4, fun m ρ _ => Cert.Kernel4Ideal.Gen.frame m ρ, fun m g _ => reference_frame4 m g,
  fun m ρ _ => Cert.Kernel5.Gen.frame m ρ, fun m ρ _ => Cert.Kernel5Ideal.Gen.frame m ρ, fun m g _ => reference_frame5 m g,
  fun m ρ _ => Cert.Kernel6.Gen.frame m ρ, fun m ρ _ => Cert.Kernel6Ideal.Gen.frame m ρ, fun m ρ _ => Cert.Kernel6Ideal.Gen.frame m ρ,
  fun m g _ => reference_frame6 m g, fun m g _ => reference_frame6 m g,
  fun m ρ _ => Cert.Kernel7.Gen.frame m ρ, fun m ρ _ => Cert.Kernel7Ideal.Gen.frame m ρ, fun m g _ => reference_frame7 m g,
  fun m ρ _ => Cert.Kernel8.Gen.frame m ρ, fun m ρ _ => Cert.Kernel8Ideal.Gen.frame m ρ, fun m g _ => reference_frame8 m g,
  trivial, value, trivial, value2, trivial, value3, trivial, value4, trivial, value5, trivial, value6, trivial, value7, trivial, value8⟩

end Cert.Proof

end
